-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_scores_finite [hPre_labels_in_range_scores_finite : Cert.Pre_labels_in_range_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_labels_in_range_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_scores_finite [hPre_labels_in_range_scores_finite : Cert.Pre_labels_in_range_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_labels_in_range_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_marks_and_losses [hPre_marks_and_losses : Cert.Pre_marks_and_losses.Facts] (m : (ℓ : Loc Cert.FinalIdeal.nD Cert.FinalIdeal.τ Cert.FinalIdeal.sig) → Buf (Elt Ideal) ℓ) : Prop :=
  ∀ c : Dev Cert.FinalIdeal.nD,
    (Cert.Pre_marks_and_losses.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1))).1 = (fun _ => 1#1)
    ∧ (Cert.Pre_marks_and_losses.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1))).2.1 = (fun _ => 1#1)
    ∧ (Cert.Pre_marks_and_losses.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_in_range_scores_finite [hKernelIdeal : Cert.KernelIdeal.Facts] [hPre_labels_in_range_scores_finite : Cert.Pre_labels_in_range_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_range_scores_finite [hReferenceIdeal : Cert.ReferenceIdeal.Facts] [hPre_labels_in_range_scores_finite : Cert.Pre_labels_in_range_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalIdeal_pre_marks_and_losses [hFinalIdeal : Cert.FinalIdeal.Facts] [hPre_marks_and_losses : Cert.Pre_marks_and_losses.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_marks_and_losses m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def preserves_Kernel_KernelIdeal : Prop :=
  True

def algebraic_KernelIdeal_ReferenceIdeal_on_rows_written_pre_labels_in_range_scores_finite [hKernelIdeal : Cert.KernelIdeal.Facts] [hReferenceIdeal : Cert.ReferenceIdeal.Facts] [hPre_labels_in_range_scores_finite : Cert.Pre_labels_in_range_scores_finite.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 8, 8732]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v6_0) i = v0 c i)
          ∧ (∀ i : (⟨2, ![1, 1]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v6_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 8, 8732]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v185) i = v0 c i)
          ∧ (∀ i : (⟨2, ![1, 1]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v186) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Final_FinalIdeal : Prop :=
  True

def holds_FinalIdeal_close_to_loss_pre_marks_and_losses [hFinalIdeal : Cert.FinalIdeal.Facts] [hPre_marks_and_losses : Cert.Pre_marks_and_losses.Facts] [hPost_close_to_loss : Cert.Post_close_to_loss.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_marks_and_losses m →
    θ_run (Cert.FinalIdeal.defs (F := Ideal)) (onTc (τ := Cert.FinalIdeal.τ) (Cert.FinalIdeal.main (F := Ideal))) ⟨m, fun _ => 0, g⟩ (fun r => ∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ (Cert.Post_close_to_loss.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (r.2.mem ((c.tc : Thread Cert.FinalIdeal.nD Cert.FinalIdeal.τ).loc Cert.FinalIdeal.main_v0))).1 = (fun _ => 1#1)
      ∧ (Cert.Post_close_to_loss.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (r.2.mem ((c.tc : Thread Cert.FinalIdeal.nD Cert.FinalIdeal.τ).loc Cert.FinalIdeal.main_v0))).2 = (fun _ => 1#1))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hPre_labels_in_range_scores_finite : Cert.Pre_labels_in_range_scores_finite.Facts) (hPre_marks_and_losses : Cert.Pre_marks_and_losses.Facts) (hPost_close_to_loss : Cert.Post_close_to_loss.Facts) (hOn_rows_written : Cert.On_rows_written.Facts),
    quiescent_Kernel (hKernel := hKernel)
    ∧ quiescent_KernelIdeal (hKernelIdeal := hKernelIdeal)
    ∧ quiescent_KernelIdeal_pre_labels_in_range_scores_finite (hKernelIdeal := hKernelIdeal) (hPre_labels_in_range_scores_finite := hPre_labels_in_range_scores_finite)
    ∧ quiescent_ReferenceIdeal (hReferenceIdeal := hReferenceIdeal)
    ∧ quiescent_ReferenceIdeal_pre_labels_in_range_scores_finite (hReferenceIdeal := hReferenceIdeal) (hPre_labels_in_range_scores_finite := hPre_labels_in_range_scores_finite)
    ∧ quiescent_Final (hFinal := hFinal)
    ∧ quiescent_FinalIdeal (hFinalIdeal := hFinalIdeal)
    ∧ quiescent_FinalIdeal_pre_marks_and_losses (hFinalIdeal := hFinalIdeal) (hPre_marks_and_losses := hPre_marks_and_losses)
    ∧ preserves_Kernel_KernelIdeal
    ∧ algebraic_KernelIdeal_ReferenceIdeal_on_rows_written_pre_labels_in_range_scores_finite (hKernelIdeal := hKernelIdeal) (hReferenceIdeal := hReferenceIdeal) (hPre_labels_in_range_scores_finite := hPre_labels_in_range_scores_finite) (hOn_rows_written := hOn_rows_written)
    ∧ preserves_Final_FinalIdeal
    ∧ holds_FinalIdeal_close_to_loss_pre_marks_and_losses (hFinalIdeal := hFinalIdeal) (hPre_marks_and_losses := hPre_marks_and_losses) (hPost_close_to_loss := hPost_close_to_loss)
-- ==== On_rows_written.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S32x8x8732 : Shape := ⟨3, ![32, 8, 8732]⟩
abbrev S_ : Shape := ⟨0, ![]⟩
abbrev S1x1 : Shape := ⟨2, ![1, 1]⟩

class Facts : Prop where
  bcast_S_S32x8x8732 : S_.BroadcastsInDim S32x8x8732 (![] : Fin 0 → Fin S32x8x8732.rank)
  bcast_S_S1x1 : S_.BroadcastsInDim S1x1 (![] : Fin 0 → Fin S1x1.rank)

variable [Facts]

def fn {F : FTy → Type} [FloatOps F] (main_arg0 : FVec F S32x8732x4 .f32) (main_arg1 : FVec F S32x8732x81 .f32) (main_arg2 : FVec F S32x32x4 .f32) (main_arg3 : IVec S32x32 32) (main_arg4 : FVec F S8732x4 .f32) : IVec S32x8x8732 1 × IVec S1x1 1 :=
  let main_v0 : IVec S32x8x8732 32 := iotaInDim S32x8x8732 32 1
  let main_c : IVec S_ 32 := constantI S_ 32 2#32
  let main_v1 : IVec S32x8x8732 32 := broadcastInDim S32x8x8732 ![] bcast_S_S32x8x8732 main_c
  let main_v2 : IVec S32x8x8732 1 := cmpi .slt main_v0 main_v1
  let main_c_0 : IVec S_ 1 := constantI S_ 1 1#1
  let main_v3 : IVec S1x1 1 := broadcastInDim S1x1 ![] bcast_S_S1x1 main_c_0
  (main_v2, main_v3)
-- ==== Post_close_to_loss.lean ====
abbrev S32x8x8732 : Shape := ⟨3, ![32, 8, 8732]⟩
abbrev S1x1 : Shape := ⟨2, ![1, 1]⟩
abbrev S32x1x8732 : Shape := ⟨3, ![32, 1, 8732]⟩
abbrev S32x8732 : Shape := ⟨2, ![32, 8732]⟩
abbrev S_ : Shape := ⟨0, ![]⟩
abbrev S32 : Shape := ⟨1, ![32]⟩
abbrev S8732 : Shape := ⟨1, ![8732]⟩
abbrev S1x8732 : Shape := ⟨2, ![1, 8732]⟩
abbrev S32x1 : Shape := ⟨2, ![32, 1]⟩

class Facts : Prop where
  slices_S32x8x8732_S32x1x8732_0_0_0 : S32x8x8732.Slices ![0, 0, 0] S32x1x8732
  shapeCasts_S32x1x8732_S32x8732 : S32x1x8732.ShapeCasts S32x8732
  slices_S32x8x8732_S32x1x8732_0_1_0 : S32x8x8732.Slices ![0, 1, 0] S32x1x8732
  bcast_S_S32x8732 : S_.BroadcastsInDim S32x8732 (![] : Fin 0 → Fin S32x8732.rank)
  shapeCasts_S1x1_S_ : S1x1.ShapeCasts S_
  reducesTo_S32x8732_S_d0_1 : S32x8732.ReducesTo [0, 1] S_
  h_S_ : 0 < S_.numel
  reducesTo_S32x8732_S32_d1 : S32x8732.ReducesTo [1] S32
  bcast_S_S32 : S_.BroadcastsInDim S32 (![] : Fin 0 → Fin S32.rank)
  bcast_S8732_S1x8732_1 : S8732.BroadcastsInDim S1x8732 (![1] : Fin 1 → Fin S1x8732.rank)
  bcast_S32_S32x1_0 : S32.BroadcastsInDim S32x1 (![0] : Fin 1 → Fin S32x1.rank)
  bcast_S1x8732_S32x8732_0_1 : S1x8732.BroadcastsInDim S32x8732 (![0, 1] : Fin 2 → Fin S32x8732.rank)
  bcast_S32x1_S32x8732_0_1 : S32x1.BroadcastsInDim S32x8732 (![0, 1] : Fin 2 → Fin S32x8732.rank)
  reducesTo_S32_S_d0 : S32.ReducesTo [0] S_
  bcast_S_S1x1 : S_.BroadcastsInDim S1x1 (![] : Fin 0 → Fin S1x1.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_where {F : FTy → Type} [FloatOps F] (arg0 : IVec S32x8732 1) (arg1 : FVec F S_ .f32) (arg2 : FVec F S32x8732 .f32) : FVec F S32x8732 .f32 :=
  let v0 : FVec F S_ .f32 := id arg1
  let v1 : FVec F S32x8732 .f32 := broadcastInDim S32x8732 ![] bcast_S_S32x8732 v0
  let v2 : FVec F S32x8732 .f32 := select arg0 v1 arg2
  v2

def fn_sort {F : FTy → Type} [FloatOps F] (arg0 : FVec F S32x8732 .f32) : FVec F S32x8732 .f32 :=
  let v0 : FVec F S32x8732 .f32 := (fun x => Host.sort S32x8732 1 comparator_f32_d1 x) arg0
  v0

def fn_part2 {F : FTy → Type} [FloatOps F] (main_arg2 : FVec F S1x1 .f32) (main_v35 : IVec S1x1 1) (main_v36 : FVec F S_ .f32) : IVec S1x1 1 × IVec S1x1 1 :=
  let main_v37 : FVec F S1x1 .f32 := broadcastInDim S1x1 ![] bcast_S_S1x1 main_v36
  let main_v38 : IVec S1x1 1 := cmpf .ole main_arg2 main_v37
  (main_v35, main_v38)

def fn_part1 {F : FTy → Type} [FloatOps F] (main_arg2 : FVec F S1x1 .f32) (main_v9 : FVec F S_ .f32) (main_v10 : FVec F S32 .f32) (main_v12 : FVec F S32 .f32) (main_v14 : FVec F S_ .f32) (main_v15 : FVec F S32x8732 .f32) (main_v16 : FVec F S32x8732 .f32) : IVec S1x1 1 × IVec S1x1 1 :=
  let main_v17 : FVec F S32x8732 .f32 := fn_sort (F := F) main_v16
  let main_v18 : FVec F S32x8732 .f32 := Host.negf main_v17
  let main_v19 : FVec F S8732 .f32 := sitofp .f32 (iotaInDim S8732 32 0)
  let main_v20 : FVec F S1x8732 .f32 := broadcastInDim S1x8732 ![1] bcast_S8732_S1x8732_1 main_v19
  let main_v21 : FVec F S32x1 .f32 := broadcastInDim S32x1 ![0] bcast_S32_S32x1_0 main_v12
  let main_v22 : FVec F S32x8732 .f32 := broadcastInDim S32x8732 ![0, 1] bcast_S1x8732_S32x8732_0_1 main_v20
  let main_v23 : FVec F S32x8732 .f32 := broadcastInDim S32x8732 ![0, 1] bcast_S32x1_S32x8732_0_1 main_v21
  let main_v24 : IVec S32x8732 1 := cmpf .olt main_v22 main_v23
  let main_v25 : FVec F S32x8732 .f32 := uitofp .f32 main_v24
  let main_v26 : FVec F S32x8732 .f32 := mulf main_v18 main_v25
  let main_cst_6 : FVec F S_ .f32 := constant S_ .f32 0x00000000#32
  let main_v27 : FVec F S_ .f32 := (fun x v => Host.reduceAdd x v reducesTo_S32x8732_S_d0_1 h_S_) main_v26 main_cst_6
  let main_v28 : FVec F S_ .f32 := addf main_v27 main_v14
  let main_cst_7 : FVec F S_ .f32 := constant S_ .f32 0x00000000#32
  let main_v29 : FVec F S_ .f32 := (fun x v => Host.reduceAdd x v reducesTo_S32_S_d0 h_S_) main_v10 main_cst_7
  let main_v30 : FVec F S_ .f32 := Host.divf main_v28 main_v29
  let main_v31 : FVec F S_ .f32 := addf main_v30 main_v9
  let main_cst_8 : FVec F S_ .f32 := constant S_ .f32 0xFF800000#32
  let main_v32 : FVec F S_ .f32 := (fun x v => Host.reduce FloatOps.maximumf x v reducesTo_S32x8732_S_d0_1 h_S_) main_v15 main_cst_8
  let main_cst_9 : FVec F S_ .f32 := constant S_ .f32 0x32000000#32
  let main_v33 : FVec F S_ .f32 := mulf main_v32 main_cst_9
  let main_v34 : FVec F S1x1 .f32 := broadcastInDim S1x1 ![] bcast_S_S1x1 main_v31
  let main_v35 : IVec S1x1 1 := cmpf .ole main_v34 main_arg2
  let main_v36 : FVec F S_ .f32 := addf main_v31 main_v33
  fn_part2 (F := F) main_arg2 main_v35 main_v36

def fn {F : FTy → Type} [FloatOps F] (main_arg0 : FVec F S32x8x8732 .f32) (main_arg1 : FVec F S1x1 .f32) (main_arg2 : FVec F S1x1 .f32) : IVec S1x1 1 × IVec S1x1 1 :=
  let main_v0 : FVec F S32x1x8732 .f32 := (extractStridedSlice S32x1x8732 ![0, 0, 0] · slices_S32x8x8732_S32x1x8732_0_0_0) main_arg0
  let main_v1 : FVec F S32x8732 .f32 := shapeCast S32x8732 main_v0 shapeCasts_S32x1x8732_S32x8732
  let main_v2 : FVec F S32x1x8732 .f32 := (extractStridedSlice S32x1x8732 ![0, 1, 0] · slices_S32x8x8732_S32x1x8732_0_1_0) main_arg0
  let main_v3 : FVec F S32x8732 .f32 := shapeCast S32x8732 main_v2 shapeCasts_S32x1x8732_S32x8732
  let main_cst : FVec F S_ .f32 := constant S_ .f32 0x00000000#32
  let main_v4 : FVec F S32x8732 .f32 := broadcastInDim S32x8732 ![] bcast_S_S32x8732 main_cst
  let main_v5 : IVec S32x8732 1 := cmpf .une main_v3 main_v4
  let main_v6 : FVec F S_ .f32 := shapeCast S_ main_arg1 shapeCasts_S1x1_S_
  let main_cst_0 : FVec F S_ .f32 := constant S_ .f32 0x00000000#32
  let main_v7 : FVec F S_ .f32 := (fun x v => Host.reduceAdd x v reducesTo_S32x8732_S_d0_1 h_S_) main_v3 main_cst_0
  let main_cst_1 : FVec F S_ .f32 := constant S_ .f32 0x40800000#32
  let main_v8 : FVec F S_ .f32 := mulf main_cst_1 main_v7
  let main_v9 : FVec F S_ .f32 := Host.divf main_v6 main_v8
  let main_cst_2 : FVec F S_ .f32 := constant S_ .f32 0x00000000#32
  let main_v10 : FVec F S32 .f32 := (fun x v => Host.reduceAdd x v reducesTo_S32x8732_S32_d1 h_S_) main_v3 main_cst_2
  let main_cst_3 : FVec F S_ .f32 := constant S_ .f32 0x40400000#32
  let main_v11 : FVec F S32 .f32 := broadcastInDim S32 ![] bcast_S_S32 main_cst_3
  let main_v12 : FVec F S32 .f32 := mulf main_v11 main_v10
  let main_v13 : FVec F S32x8732 .f32 := mulf main_v1 main_v3
  let main_cst_4 : FVec F S_ .f32 := constant S_ .f32 0x00000000#32
  let main_v14 : FVec F S_ .f32 := (fun x v => Host.reduceAdd x v reducesTo_S32x8732_S_d0_1 h_S_) main_v13 main_cst_4
  let main_cst_5 : FVec F S_ .f32 := constant S_ .f32 0x00000000#32
  let main_v15 : FVec F S32x8732 .f32 := fn_where (F := F) main_v5 main_cst_5 main_v1
  let main_v16 : FVec F S32x8732 .f32 := Host.negf main_v15
  fn_part1 (F := F) main_arg2 main_v9 main_v10 main_v12 main_v14 main_v15 main_v16
-- ==== Pre_labels_in_range_scores_finite.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S_ : Shape := ⟨0, ![]⟩

class Facts : Prop where
  bcast_S_S32x32 : S_.BroadcastsInDim S32x32 (![] : Fin 0 → Fin S32x32.rank)
  bcast_S_S32x8732x81 : S_.BroadcastsInDim S32x8732x81 (![] : Fin 0 → Fin S32x8732x81.rank)

variable [Facts]

def fn {F : FTy → Type} [FloatOps F] (main_arg0 : FVec F S32x8732x4 .f32) (main_arg1 : FVec F S32x8732x81 .f32) (main_arg2 : FVec F S32x32x4 .f32) (main_arg3 : IVec S32x32 32) (main_arg4 : FVec F S8732x4 .f32) : IVec S32x32 1 × IVec S32x8732x81 1 :=
  let main_c : IVec S_ 32 := constantI S_ 32 1#32
  let main_v0 : IVec S32x32 32 := broadcastInDim S32x32 ![] bcast_S_S32x32 main_c
  let main_v1 : IVec S32x32 1 := cmpi .sge main_arg3 main_v0
  let main_c_0 : IVec S_ 32 := constantI S_ 32 81#32
  let main_v2 : IVec S32x32 32 := broadcastInDim S32x32 ![] bcast_S_S32x32 main_c_0
  let main_v3 : IVec S32x32 1 := cmpi .slt main_arg3 main_v2
  let main_v4 : IVec S32x32 1 := andi main_v1 main_v3
  let main_v5 : FVec F S32x8732x81 .f32 := Host.absf main_arg1
  let main_cst : FVec F S_ .f32 := constant S_ .f32 0x7F800000#32
  let main_v6 : FVec F S32x8732x81 .f32 := broadcastInDim S32x8732x81 ![] bcast_S_S32x8732x81 main_cst
  let main_v7 : IVec S32x8732x81 1 := cmpf .olt main_v5 main_v6
  (main_v4, main_v7)
-- ==== Pre_marks_and_losses.lean ====
abbrev S32x8x8732 : Shape := ⟨3, ![32, 8, 8732]⟩
abbrev S1x1 : Shape := ⟨2, ![1, 1]⟩
abbrev S32x1x8732 : Shape := ⟨3, ![32, 1, 8732]⟩
abbrev S32x8732 : Shape := ⟨2, ![32, 8732]⟩
abbrev S_ : Shape := ⟨0, ![]⟩

class Facts : Prop where
  slices_S32x8x8732_S32x1x8732_0_0_0 : S32x8x8732.Slices ![0, 0, 0] S32x1x8732
  shapeCasts_S32x1x8732_S32x8732 : S32x1x8732.ShapeCasts S32x8732
  slices_S32x8x8732_S32x1x8732_0_1_0 : S32x8x8732.Slices ![0, 1, 0] S32x1x8732
  bcast_S_S32x8732 : S_.BroadcastsInDim S32x8732 (![] : Fin 0 → Fin S32x8732.rank)
  reducesTo_S32x8732_S_d0_1 : S32x8732.ReducesTo [0, 1] S_
  h_S_ : 0 < S_.numel

variable [Facts]

def fn {F : FTy → Type} [FloatOps F] (main_arg0 : FVec F S32x8x8732 .f32) (main_arg1 : FVec F S1x1 .f32) : IVec S32x8732 1 × IVec S32x8732 1 × IVec S_ 1 :=
  let main_v0 : FVec F S32x1x8732 .f32 := (extractStridedSlice S32x1x8732 ![0, 0, 0] · slices_S32x8x8732_S32x1x8732_0_0_0) main_arg0
  let main_v1 : FVec F S32x8732 .f32 := shapeCast S32x8732 main_v0 shapeCasts_S32x1x8732_S32x8732
  let main_v2 : FVec F S32x1x8732 .f32 := (extractStridedSlice S32x1x8732 ![0, 1, 0] · slices_S32x8x8732_S32x1x8732_0_1_0) main_arg0
  let main_v3 : FVec F S32x8732 .f32 := shapeCast S32x8732 main_v2 shapeCasts_S32x1x8732_S32x8732
  let main_cst : FVec F S_ .f32 := constant S_ .f32 0x00000000#32
  let main_v4 : FVec F S32x8732 .f32 := broadcastInDim S32x8732 ![] bcast_S_S32x8732 main_cst
  let main_v5 : IVec S32x8732 1 := cmpf .oeq main_v3 main_v4
  let main_cst_0 : FVec F S_ .f32 := constant S_ .f32 0x3F800000#32
  let main_v6 : FVec F S32x8732 .f32 := broadcastInDim S32x8732 ![] bcast_S_S32x8732 main_cst_0
  let main_v7 : IVec S32x8732 1 := cmpf .oeq main_v3 main_v6
  let main_v8 : IVec S32x8732 1 := ori main_v5 main_v7
  let main_cst_1 : FVec F S_ .f32 := constant S_ .f32 0x00000000#32
  let main_v9 : FVec F S32x8732 .f32 := broadcastInDim S32x8732 ![] bcast_S_S32x8732 main_cst_1
  let main_v10 : IVec S32x8732 1 := cmpf .une main_v3 main_v9
  let main_cst_2 : FVec F S_ .f32 := constant S_ .f32 0x00000000#32
  let main_v11 : FVec F S32x8732 .f32 := broadcastInDim S32x8732 ![] bcast_S_S32x8732 main_cst_2
  let main_v12 : IVec S32x8732 1 := cmpf .oge main_v1 main_v11
  let main_v13 : IVec S32x8732 1 := ori main_v10 main_v12
  let main_cst_3 : FVec F S_ .f32 := constant S_ .f32 0x00000000#32
  let main_v14 : FVec F S_ .f32 := (fun x v => Host.reduceAdd x v reducesTo_S32x8732_S_d0_1 h_S_) main_v3 main_cst_3
  let main_cst_4 : FVec F S_ .f32 := constant S_ .f32 0x00000000#32
  let main_v15 : IVec S_ 1 := cmpf .ogt main_v14 main_cst_4
  (main_v8, main_v13, main_v15)
-- ==== Kernel.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S4x8732 : Shape := ⟨2, ![4, 8732]⟩
abbrev S32x4x32 : Shape := ⟨3, ![32, 4, 32]⟩
abbrev S32x1x32 : Shape := ⟨3, ![32, 1, 32]⟩
abbrev S_ : Shape := ⟨0, ![]⟩
abbrev S32x3x32 : Shape := ⟨3, ![32, 3, 32]⟩
abbrev S32x8x32 : Shape := ⟨3, ![32, 8, 32]⟩
abbrev S32x8x8732 : Shape := ⟨3, ![32, 8, 8732]⟩
abbrev S1x1 : Shape := ⟨2, ![1, 1]⟩
abbrev S1x32x4 : Shape := ⟨3, ![1, 32, 4]⟩
abbrev S1x8x32 : Shape := ⟨3, ![1, 8, 32]⟩
abbrev S1x8732x4 : Shape := ⟨3, ![1, 8732, 4]⟩
abbrev S1x8732x81 : Shape := ⟨3, ![1, 8732, 81]⟩
abbrev S1x8x8732 : Shape := ⟨3, ![1, 8, 8732]⟩
abbrev S32x4 : Shape := ⟨2, ![32, 4]⟩
abbrev S1x8732 : Shape := ⟨2, ![1, 8732]⟩
abbrev S32x1 : Shape := ⟨2, ![32, 1]⟩
abbrev S32x8732 : Shape := ⟨2, ![32, 8732]⟩
abbrev S8732 : Shape := ⟨1, ![8732]⟩
abbrev S32 : Shape := ⟨1, ![32]⟩
abbrev S8x32 : Shape := ⟨2, ![8, 32]⟩
abbrev S8x8732 : Shape := ⟨2, ![8, 8732]⟩
abbrev S2x8732 : Shape := ⟨2, ![2, 8732]⟩
abbrev S8732x2 : Shape := ⟨2, ![8732, 2]⟩
abbrev S8732x1 : Shape := ⟨2, ![8732, 1]⟩
abbrev S4x1 : Shape := ⟨2, ![4, 1]⟩
abbrev S1 : Shape := ⟨1, ![1]⟩
abbrev S8732x81 : Shape := ⟨2, ![8732, 81]⟩
abbrev S81x1 : Shape := ⟨2, ![81, 1]⟩
abbrev S1x1x8732 : Shape := ⟨3, ![1, 1, 8732]⟩

abbrev nBuf : Space → Nat
  | .hbm => 14
  | .vmem => 12
  | .smem => 0
  | _ => 0

abbrev bufTy : (tb : Table) → Fin (tcTables nBuf tb) → BufTy
  | .hbm, ⟨0, _⟩ => ⟨S32x8732x4, .f32⟩
  | .hbm, ⟨1, _⟩ => ⟨S32x8732x81, .f32⟩
  | .hbm, ⟨2, _⟩ => ⟨S32x32x4, .f32⟩
  | .hbm, ⟨3, _⟩ => ⟨S32x32, .i32⟩
  | .hbm, ⟨4, _⟩ => ⟨S8732x4, .f32⟩
  | .hbm, ⟨5, _⟩ => ⟨S4x8732, .f32⟩
  | .hbm, ⟨6, _⟩ => ⟨S32x4x32, .f32⟩
  | .hbm, ⟨7, _⟩ => ⟨S32x32, .f32⟩
  | .hbm, ⟨8, _⟩ => ⟨S32x1x32, .f32⟩
  | .hbm, ⟨9, _⟩ => ⟨S_, .f32⟩
  | .hbm, ⟨10, _⟩ => ⟨S32x3x32, .f32⟩
  | .hbm, ⟨11, _⟩ => ⟨S32x8x32, .f32⟩
  | .hbm, ⟨12, _⟩ => ⟨S32x8x8732, .f32⟩
  | .hbm, ⟨13, _⟩ => ⟨S1x1, .f32⟩
  | .local _ .vmem, ⟨0, _⟩ => ⟨S1x32x4, .f32⟩
  | .local _ .vmem, ⟨1, _⟩ => ⟨S1x32x4, .f32⟩
  | .local _ .vmem, ⟨2, _⟩ => ⟨S1x8x32, .f32⟩
  | .local _ .vmem, ⟨3, _⟩ => ⟨S1x8x32, .f32⟩
  | .local _ .vmem, ⟨4, _⟩ => ⟨S4x8732, .f32⟩
  | .local _ .vmem, ⟨5, _⟩ => ⟨S1x8732x4, .f32⟩
  | .local _ .vmem, ⟨6, _⟩ => ⟨S1x8732x4, .f32⟩
  | .local _ .vmem, ⟨7, _⟩ => ⟨S1x8732x81, .f32⟩
  | .local _ .vmem, ⟨8, _⟩ => ⟨S1x8732x81, .f32⟩
  | .local _ .vmem, ⟨9, _⟩ => ⟨S1x8x8732, .f32⟩
  | .local _ .vmem, ⟨10, _⟩ => ⟨S1x8x8732, .f32⟩
  | .local _ .vmem, ⟨11, _⟩ => ⟨S1x1, .f32⟩
  | _, _ => ⟨S32x8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8732 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8732x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8732x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8732 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32x8732x4 : Shape := ⟨3, ![32, 8732, 4]⟩
abbrev S32x8732x81 : Shape := ⟨3, ![32, 8732, 81]⟩
abbrev S32x32x4 : Shape := ⟨3, ![32, 32, 4]⟩
abbrev S32x32 : Shape := ⟨2, ![32, 32]⟩
abbrev S8732x4 : Shape := ⟨2, ![8732, 4]⟩
abbrev S8732x2 : Shape := ⟨2, ![8732, 2]⟩
abbrev S_ : Shape := ⟨0, ![]⟩
abbrev S32 : Shape := ⟨1, ![32]⟩
abbrev S32x1 : Shape := ⟨2, ![32, 1]⟩
abbrev S32x32x2 : Shape := ⟨3, ![32, 32, 2]⟩
abbrev S32x32x1x2 : Shape := ⟨4, ![32, 32, 1, 2]⟩
abbrev S1x8732x2 : Shape := ⟨3, ![1, 8732, 2]⟩
abbrev S1x1x8732x2 : Shape := ⟨4, ![1, 1, 8732, 2]⟩
abbrev S32x32x8732x2 : Shape := ⟨4, ![32, 32, 8732, 2]⟩
abbrev S32x32x8732x1 : Shape := ⟨4, ![32, 32, 8732, 1]⟩
abbrev S32x32x8732 : Shape := ⟨3, ![32, 32, 8732]⟩
abbrev S32x32x1 : Shape := ⟨3, ![32, 32, 1]⟩
abbrev S8732x1 : Shape := ⟨2, ![8732, 1]⟩
abbrev S8732 : Shape := ⟨1, ![8732]⟩
abbrev S1x8732 : Shape := ⟨2, ![1, 8732]⟩
abbrev S1x1x8732 : Shape := ⟨3, ![1, 1, 8732]⟩
abbrev S32x8732 : Shape := ⟨2, ![32, 8732]⟩
abbrev S32x8732x1 : Shape := ⟨3, ![32, 8732, 1]⟩
abbrev S32x8732x2 : Shape := ⟨3, ![32, 8732, 2]⟩
abbrev S32x8732x1x1 : Shape := ⟨4, ![32, 8732, 1, 1]⟩
abbrev S1 : Shape := ⟨1, ![1]⟩
abbrev S1x1x1x1 : Shape := ⟨4, ![1, 1, 1, 1]⟩
abbrev S32x6x8732 : Shape := ⟨3, ![32, 6, 8732]⟩
abbrev S32x1x8732 : Shape := ⟨3, ![32, 1, 8732]⟩
abbrev S32x8x8732 : Shape := ⟨3, ![32, 8, 8732]⟩
abbrev S1x1 : Shape := ⟨2, ![1, 1]⟩

abbrev nBuf : Space → Nat
  | .hbm => 269
  | .vmem => 0
  | .smem => 0
  | _ => 0

abbrev hbmTy0_0 (i : Nat) : BufTy := match i % 128 with
  | 0 => ⟨S32x8732x4, .f32⟩
  | 1 => ⟨S32x8732x81, .f32⟩
  | 2 => ⟨S32x32x4, .f32⟩
  | 3 => ⟨S32x32, .i32⟩
  | 4 => ⟨S8732x4, .f32⟩
  | 5 => ⟨S8732x2, .f32⟩
  | 6 => ⟨S8732x2, .f32⟩
  | 7 => ⟨S_, .f32⟩
  | 8 => ⟨S8732x2, .f32⟩
  | 9 => ⟨S8732x2, .f32⟩
  | 10 => ⟨S8732x2, .f32⟩
  | 11 => ⟨S8732x2, .f32⟩
  | 12 => ⟨S8732x2, .f32⟩
  | 13 => ⟨S_, .f32⟩
  | 14 => ⟨S8732x2, .f32⟩
  | 15 => ⟨S8732x2, .f32⟩
  | 16 => ⟨S8732x2, .f32⟩
  | 17 => ⟨S8732x4, .f32⟩
  | 18 => ⟨S32, .i32⟩
  | 19 => ⟨S32x1, .i32⟩
  | 20 => ⟨S32x32x2, .f32⟩
  | 21 => ⟨S32x32x1x2, .f32⟩
  | 22 => ⟨S8732x2, .f32⟩
  | 23 => ⟨S1x8732x2, .f32⟩
  | 24 => ⟨S1x1x8732x2, .f32⟩
  | 25 => ⟨S32x32x8732x2, .f32⟩
  | 26 => ⟨S32x32x8732x2, .f32⟩
  | 27 => ⟨S32x32x8732x2, .f32⟩
  | 28 => ⟨S32x32x2, .f32⟩
  | 29 => ⟨S32x32x1x2, .f32⟩
  | 30 => ⟨S8732x2, .f32⟩
  | 31 => ⟨S1x8732x2, .f32⟩
  | 32 => ⟨S1x1x8732x2, .f32⟩
  | 33 => ⟨S32x32x8732x2, .f32⟩
  | 34 => ⟨S32x32x8732x2, .f32⟩
  | 35 => ⟨S32x32x8732x2, .f32⟩
  | 36 => ⟨S32x32x8732x2, .f32⟩
  | 37 => ⟨S_, .f32⟩
  | 38 => ⟨S32x32x8732x2, .f32⟩
  | 39 => ⟨S32x32x8732x2, .f32⟩
  | 40 => ⟨S32x32x8732x1, .f32⟩
  | 41 => ⟨S32x32x8732, .f32⟩
  | 42 => ⟨S32x32x8732x1, .f32⟩
  | 43 => ⟨S32x32x8732, .f32⟩
  | 44 => ⟨S32x32x8732, .f32⟩
  | 45 => ⟨S32x32x1, .f32⟩
  | 46 => ⟨S32x32, .f32⟩
  | 47 => ⟨S32x32x1, .f32⟩
  | 48 => ⟨S32x32, .f32⟩
  | 49 => ⟨S32x32, .f32⟩
  | 50 => ⟨S32x32x1, .f32⟩
  | 51 => ⟨S32x32, .f32⟩
  | 52 => ⟨S32x32x1, .f32⟩
  | 53 => ⟨S32x32, .f32⟩
  | 54 => ⟨S32x32, .f32⟩
  | 55 => ⟨S32x32, .f32⟩
  | 56 => ⟨S8732x1, .f32⟩
  | 57 => ⟨S8732, .f32⟩
  | 58 => ⟨S8732x1, .f32⟩
  | 59 => ⟨S8732, .f32⟩
  | 60 => ⟨S8732, .f32⟩
  | 61 => ⟨S8732x1, .f32⟩
  | 62 => ⟨S8732, .f32⟩
  | 63 => ⟨S8732x1, .f32⟩
  | 64 => ⟨S8732, .f32⟩
  | 65 => ⟨S8732, .f32⟩
  | 66 => ⟨S8732, .f32⟩
  | 67 => ⟨S32x32x1, .f32⟩
  | 68 => ⟨S1x8732, .f32⟩
  | 69 => ⟨S1x1x8732, .f32⟩
  | 70 => ⟨S32x32x8732, .f32⟩
  | 71 => ⟨S32x32x8732, .f32⟩
  | 72 => ⟨S32x32x8732, .f32⟩
  | 73 => ⟨S32x32x8732, .f32⟩
  | 74 => ⟨S_, .f32⟩
  | 75 => ⟨S32x32x8732, .f32⟩
  | 76 => ⟨S32x32x8732, .f32⟩
  | 77 => ⟨S32x32x8732, .f32⟩
  | 78 => ⟨S_, .f32⟩
  | 79 => ⟨S32x8732, .f32⟩
  | 80 => ⟨S32x32x8732, .i32⟩
  | 81 => ⟨S_, .f32⟩
  | 82 => ⟨S_, .i32⟩
  | 83 => ⟨S32x8732, .f32⟩
  | 84 => ⟨S32x8732, .i32⟩
  | 85 => ⟨S32x32x8732, .i32⟩
  | 86 => ⟨S_, .f32⟩
  | 87 => ⟨S_, .i32⟩
  | 88 => ⟨S32x32, .f32⟩
  | 89 => ⟨S32x32, .i32⟩
  | 90 => ⟨S32, .i32⟩
  | 91 => ⟨S_, .i32⟩
  | 92 => ⟨S32x1, .i32⟩
  | 93 => ⟨S32x1, .i1⟩
  | 94 => ⟨S_, .i32⟩
  | 95 => ⟨S32x1, .i32⟩
  | 96 => ⟨S32x1, .i32⟩
  | 97 => ⟨S32x1, .i32⟩
  | 98 => ⟨S_, .i32⟩
  | 99 => ⟨S32x32, .i32⟩
  | 100 => ⟨S32x32, .i1⟩
  | 101 => ⟨S_, .i32⟩
  | 102 => ⟨S32x32, .i32⟩
  | 103 => ⟨S32x32, .i32⟩
  | 104 => ⟨S32x32, .i32⟩
  | 105 => ⟨S32x32, .i32⟩
  | 106 => ⟨S32x32x1, .i32⟩
  | 107 => ⟨S32x32x1, .i32⟩
  | 108 => ⟨S32x32x2, .i32⟩
  | 109 => ⟨S32x32, .i32⟩
  | 110 => ⟨S32x8732, .i32⟩
  | 111 => ⟨S_, .i32⟩
  | 112 => ⟨S32x1, .i32⟩
  | 113 => ⟨S32x1, .i1⟩
  | 114 => ⟨S_, .i32⟩
  | 115 => ⟨S32x1, .i32⟩
  | 116 => ⟨S32x1, .i32⟩
  | 117 => ⟨S32x1, .i32⟩
  | 118 => ⟨S_, .i32⟩
  | 119 => ⟨S32x32, .i32⟩
  | 120 => ⟨S32x32, .i1⟩
  | 121 => ⟨S_, .i32⟩
  | 122 => ⟨S32x32, .i32⟩
  | 123 => ⟨S32x32, .i32⟩
  | 124 => ⟨S32x32, .i32⟩
  | 125 => ⟨S32x32, .i32⟩
  | 126 => ⟨S32x32x1, .i32⟩
  | 127 => ⟨S32x32x1, .i32⟩
  | _ => ⟨S32x8732x4, .f32⟩

abbrev hbmTy0_1 (i : Nat) : BufTy := match i % 128 with
  | 0 => ⟨S32x32x2, .i32⟩
  | 1 => ⟨S_, .f32⟩
  | 2 => ⟨S32x32, .f32⟩
  | 3 => ⟨S32x8732, .f32⟩
  | 4 => ⟨S_, .i32⟩
  | 5 => ⟨S32x1, .i32⟩
  | 6 => ⟨S32x1, .i1⟩
  | 7 => ⟨S_, .i32⟩
  | 8 => ⟨S32x1, .i32⟩
  | 9 => ⟨S32x1, .i32⟩
  | 10 => ⟨S32x1, .i32⟩
  | 11 => ⟨S_, .i32⟩
  | 12 => ⟨S32x8732, .i32⟩
  | 13 => ⟨S32x8732, .i1⟩
  | 14 => ⟨S_, .i32⟩
  | 15 => ⟨S32x8732, .i32⟩
  | 16 => ⟨S32x8732, .i32⟩
  | 17 => ⟨S32x8732, .i32⟩
  | 18 => ⟨S32x8732, .i32⟩
  | 19 => ⟨S32x8732x1, .i32⟩
  | 20 => ⟨S32x8732x1, .i32⟩
  | 21 => ⟨S32x8732x2, .i32⟩
  | 22 => ⟨S32x8732, .i32⟩
  | 23 => ⟨S_, .f32⟩
  | 24 => ⟨S32x8732, .f32⟩
  | 25 => ⟨S32x8732, .i1⟩
  | 26 => ⟨S_, .i32⟩
  | 27 => ⟨S_, .i32⟩
  | 28 => ⟨S32x8732, .i32⟩
  | 29 => ⟨S32x8732, .i32⟩
  | 30 => ⟨S_, .i32⟩
  | 31 => ⟨S32x1, .i32⟩
  | 32 => ⟨S32x1, .i1⟩
  | 33 => ⟨S_, .i32⟩
  | 34 => ⟨S32x1, .i32⟩
  | 35 => ⟨S32x1, .i32⟩
  | 36 => ⟨S32x1, .i32⟩
  | 37 => ⟨S_, .i32⟩
  | 38 => ⟨S32x8732, .i32⟩
  | 39 => ⟨S32x8732, .i1⟩
  | 40 => ⟨S_, .i32⟩
  | 41 => ⟨S32x8732, .i32⟩
  | 42 => ⟨S32x8732, .i32⟩
  | 43 => ⟨S32x8732, .i32⟩
  | 44 => ⟨S32x8732, .i32⟩
  | 45 => ⟨S32x8732x1, .i32⟩
  | 46 => ⟨S32x8732x1, .i32⟩
  | 47 => ⟨S32x8732x2, .i32⟩
  | 48 => ⟨S32x8732x4, .f32⟩
  | 49 => ⟨S32x8732x2, .f32⟩
  | 50 => ⟨S32x8732x2, .f32⟩
  | 51 => ⟨S32x8732x2, .f32⟩
  | 52 => ⟨S_, .f32⟩
  | 53 => ⟨S32x8732x2, .f32⟩
  | 54 => ⟨S32x8732x2, .f32⟩
  | 55 => ⟨S32x8732x2, .f32⟩
  | 56 => ⟨S32x8732x2, .f32⟩
  | 57 => ⟨S32x8732x2, .f32⟩
  | 58 => ⟨S32x8732x4, .f32⟩
  | 59 => ⟨S32x8732x2, .f32⟩
  | 60 => ⟨S8732x2, .f32⟩
  | 61 => ⟨S1x8732x2, .f32⟩
  | 62 => ⟨S32x8732x2, .f32⟩
  | 63 => ⟨S32x8732x2, .f32⟩
  | 64 => ⟨S8732x2, .f32⟩
  | 65 => ⟨S_, .f32⟩
  | 66 => ⟨S8732x2, .f32⟩
  | 67 => ⟨S8732x2, .f32⟩
  | 68 => ⟨S1x8732x2, .f32⟩
  | 69 => ⟨S32x8732x2, .f32⟩
  | 70 => ⟨S32x8732x2, .f32⟩
  | 71 => ⟨S32x8732x2, .f32⟩
  | 72 => ⟨S_, .f32⟩
  | 73 => ⟨S32x8732x2, .f32⟩
  | 74 => ⟨S32x8732x2, .f32⟩
  | 75 => ⟨S8732x2, .f32⟩
  | 76 => ⟨S1x8732x2, .f32⟩
  | 77 => ⟨S32x8732x2, .f32⟩
  | 78 => ⟨S32x8732x2, .f32⟩
  | 79 => ⟨S32x8732x2, .f32⟩
  | 80 => ⟨S_, .f32⟩
  | 81 => ⟨S32x8732x2, .f32⟩
  | 82 => ⟨S32x8732x2, .f32⟩
  | 83 => ⟨S32x8732x4, .f32⟩
  | 84 => ⟨S_, .i32⟩
  | 85 => ⟨S32x8732, .i32⟩
  | 86 => ⟨S32x8732, .i1⟩
  | 87 => ⟨S32x8732, .f32⟩
  | 88 => ⟨S32x8732x4, .f32⟩
  | 89 => ⟨S32x8732x4, .f32⟩
  | 90 => ⟨S_, .f32⟩
  | 91 => ⟨S32x8732, .f32⟩
  | 92 => ⟨S32x8732, .f32⟩
  | 93 => ⟨S_, .f32⟩
  | 94 => ⟨S_, .f32⟩
  | 95 => ⟨S_, .f32⟩
  | 96 => ⟨S32x8732, .f32⟩
  | 97 => ⟨S_, .f32⟩
  | 98 => ⟨S32x8732, .f32⟩
  | 99 => ⟨S32x8732, .f32⟩
  | 100 => ⟨S32x8732x1, .f32⟩
  | 101 => ⟨S32x8732x81, .f32⟩
  | 102 => ⟨S32x8732x81, .f32⟩
  | 103 => ⟨S32x8732x81, .f32⟩
  | 104 => ⟨S_, .f32⟩
  | 105 => ⟨S32x8732, .f32⟩
  | 106 => ⟨S32x8732x1, .f32⟩
  | 107 => ⟨S32x8732x1, .f32⟩
  | 108 => ⟨S32x8732x81, .f32⟩
  | 109 => ⟨S32x8732x81, .f32⟩
  | 110 => ⟨S32x8732x1, .i32⟩
  | 111 => ⟨S_, .i32⟩
  | 112 => ⟨S32x8732x1, .i32⟩
  | 113 => ⟨S32x8732x1, .i1⟩
  | 114 => ⟨S_, .i32⟩
  | 115 => ⟨S32x8732x1, .i32⟩
  | 116 => ⟨S32x8732x1, .i32⟩
  | 117 => ⟨S32x8732x1, .i32⟩
  | 118 => ⟨S32x8732x1x1, .i32⟩
  | 119 => ⟨S1, .i32⟩
  | 120 => ⟨S_, .i32⟩
  | 121 => ⟨S32x8732x1x1, .i32⟩
  | 122 => ⟨S32x8732x1x1, .i1⟩
  | 123 => ⟨S1x1x1x1, .i32⟩
  | 124 => ⟨S32x8732x1x1, .i32⟩
  | 125 => ⟨S32x8732x1x1, .i1⟩
  | 126 => ⟨S32x8732x1x1, .i1⟩
  | 127 => ⟨S_, .i1⟩
  | _ => ⟨S32x8732x4, .f32⟩

abbrev hbmTy0_2 (i : Nat) : BufTy := match i % 128 with
  | 0 => ⟨S32x8732x1, .i1⟩
  | 1 => ⟨S32x8732x1, .f32⟩
  | 2 => ⟨S_, .f32⟩
  | 3 => ⟨S32x8732x1, .f32⟩
  | 4 => ⟨S32x8732x1, .f32⟩
  | 5 => ⟨S32x8732, .f32⟩
  | 6 => ⟨S32x8732, .f32⟩
  | 7 => ⟨S_, .f32⟩
  | 8 => ⟨S32x6x8732, .f32⟩
  | 9 => ⟨S32x1x8732, .f32⟩
  | 10 => ⟨S32x1x8732, .f32⟩
  | 11 => ⟨S32x8x8732, .f32⟩
  | 12 => ⟨S1x1, .f32⟩
  | _ => ⟨S32x8732x4, .f32⟩

abbrev hbmTy (i : Nat) : BufTy := match i / 128 with
  | 0 => hbmTy0_0 i
  | 1 => hbmTy0_1 i
  | 2 => hbmTy0_2 i
  | _ => ⟨S32x8732x4, .f32⟩

abbrev bufTy : (tb : Table) → Fin (tcTables nBuf tb) → BufTy
  | .hbm, ⟨i, _⟩ => hbmTy i
  | _, _ => ⟨S32x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_2 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_3 : Ref sig .tc := ⟨.hbm, 78, rfl⟩
abbrev main_v69 : Ref sig .tc := ⟨.hbm, 79, rfl⟩
abbrev main_call0_v0 : Ref sig .tc := ⟨.hbm, 80, rfl⟩
abbrev main_call0_cst : Ref sig .tc := ⟨.hbm, 81, rfl⟩
abbrev main_call0_c : Ref sig .tc := ⟨.hbm, 82, rfl⟩
abbrev main_call0_v1_0 : Ref sig .tc := ⟨.hbm, 83, rfl⟩
abbrev main_v70 : Ref sig .tc := ⟨.hbm, 84, rfl⟩
abbrev main_call1_v0 : Ref sig .tc := ⟨.hbm, 85, rfl⟩
abbrev main_call1_cst : Ref sig .tc := ⟨.hbm, 86, rfl⟩
abbrev main_call1_c : Ref sig .tc := ⟨.hbm, 87, rfl⟩
abbrev main_call1_v1_0 : Ref sig .tc := ⟨.hbm, 88, rfl⟩
abbrev main_v71 : Ref sig .tc := ⟨.hbm, 89, rfl⟩
abbrev main_v72 : Ref sig .tc := ⟨.hbm, 90, rfl⟩
abbrev main_c : Ref sig .tc := ⟨.hbm, 91, rfl⟩
abbrev main_v73 : Ref sig .tc := ⟨.hbm, 92, rfl⟩
abbrev main_v74 : Ref sig .tc := ⟨.hbm, 93, rfl⟩
abbrev main_c_4 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_5 : Ref sig .tc := ⟨.hbm, 98, rfl⟩
abbrev main_v78 : Ref sig .tc := ⟨.hbm, 99, rfl⟩
abbrev main_v79 : Ref sig .tc := ⟨.hbm, 100, rfl⟩
abbrev main_c_6 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_c_7 : Ref sig .tc := ⟨.hbm, 111, rfl⟩
abbrev main_v89 : Ref sig .tc := ⟨.hbm, 112, rfl⟩
abbrev main_v90 : Ref sig .tc := ⟨.hbm, 113, rfl⟩
abbrev main_c_8 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_9 : Ref sig .tc := ⟨.hbm, 118, rfl⟩
abbrev main_v94 : Ref sig .tc := ⟨.hbm, 119, rfl⟩
abbrev main_v95 : Ref sig .tc := ⟨.hbm, 120, rfl⟩
abbrev main_c_10 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_11 : Ref sig .tc := ⟨.hbm, 129, rfl⟩
abbrev main_v103 : Ref sig .tc := ⟨.hbm, 130, rfl⟩
abbrev main_v104 : Ref sig .tc := ⟨.hbm, 131, rfl⟩
abbrev main_c_12 : Ref sig .tc := ⟨.hbm, 132, rfl⟩
abbrev main_v105 : Ref sig .tc := ⟨.hbm, 133, rfl⟩
abbrev main_v106 : Ref sig .tc := ⟨.hbm, 134, rfl⟩
abbrev main_c_13 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c_14 : Ref sig .tc := ⟨.hbm, 139, rfl⟩
abbrev main_v110 : Ref sig .tc := ⟨.hbm, 140, rfl⟩
abbrev main_v111 : Ref sig .tc := ⟨.hbm, 141, rfl⟩
abbrev main_c_15 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_16 : Ref sig .tc := ⟨.hbm, 151, rfl⟩
abbrev main_v120 : Ref sig .tc := ⟨.hbm, 152, rfl⟩
abbrev main_v121 : Ref sig .tc := ⟨.hbm, 153, rfl⟩
abbrev main_c_17 : Ref sig .tc := ⟨.hbm, 154, rfl⟩
abbrev main_call2_v0 : Ref sig .tc := ⟨.hbm, 155, rfl⟩
abbrev main_call2_v1 : Ref sig .tc := ⟨.hbm, 156, rfl⟩
abbrev main_v122 : Ref sig .tc := ⟨.hbm, 157, rfl⟩
abbrev main_c_18 : Ref sig .tc := ⟨.hbm, 158, rfl⟩
abbrev main_v123 : Ref sig .tc := ⟨.hbm, 159, rfl⟩
abbrev main_v124 : Ref sig .tc := ⟨.hbm, 160, rfl⟩
abbrev main_c_19 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_c_20 : Ref sig .tc := ⟨.hbm, 165, rfl⟩
abbrev main_v128 : Ref sig .tc := ⟨.hbm, 166, rfl⟩
abbrev main_v129 : Ref sig .tc := ⟨.hbm, 167, rfl⟩
abbrev main_c_21 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_22 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_23 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_24 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_25 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_c_26 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_27 : Ref sig .tc := ⟨.hbm, 218, rfl⟩
abbrev main_v174 : Ref sig .tc := ⟨.hbm, 219, rfl⟩
abbrev main_v175 : Ref sig .tc := ⟨.hbm, 220, rfl⟩
abbrev main_cst_28 : Ref sig .tc := ⟨.hbm, 221, rfl⟩
abbrev main_v176 : Ref sig .tc := ⟨.hbm, 222, rfl⟩
abbrev main_call3_cst : Ref sig .tc := ⟨.hbm, 223, rfl⟩
abbrev main_call3_v0 : Ref sig .tc := ⟨.hbm, 224, rfl⟩
abbrev main_call3_cst_0 : Ref sig .tc := ⟨.hbm, 225, rfl⟩
abbrev main_call3_v1 : Ref sig .tc := ⟨.hbm, 226, rfl⟩
abbrev main_call3_v2 : Ref sig .tc := ⟨.hbm, 227, rfl⟩
abbrev main_call3_v3 : Ref sig .tc := ⟨.hbm, 228, rfl⟩
abbrev main_call3_v4 : Ref sig .tc := ⟨.hbm, 229, rfl⟩
abbrev main_call3_v5 : Ref sig .tc := ⟨.hbm, 230, rfl⟩
abbrev main_call3_v6 : Ref sig .tc := ⟨.hbm, 231, rfl⟩
abbrev main_call3_cst_1 : Ref sig .tc := ⟨.hbm, 232, rfl⟩
abbrev main_call3_v7 : Ref sig .tc := ⟨.hbm, 233, rfl⟩
abbrev main_call3_v8 : Ref sig .tc := ⟨.hbm, 234, rfl⟩
abbrev main_call3_v9 : Ref sig .tc := ⟨.hbm, 235, rfl⟩
abbrev main_call3_v10 : Ref sig .tc := ⟨.hbm, 236, rfl⟩
abbrev main_v177 : Ref sig .tc := ⟨.hbm, 237, rfl⟩
abbrev main_v178 : Ref sig .tc := ⟨.hbm, 238, rfl⟩
abbrev main_call4_c : Ref sig .tc := ⟨.hbm, 239, rfl⟩
abbrev main_call4_v0 : Ref sig .tc := ⟨.hbm, 240, rfl⟩
abbrev main_call4_v1 : Ref sig .tc := ⟨.hbm, 241, rfl⟩
abbrev main_call4_c_0 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_call4_v5 : Ref sig .tc := ⟨.hbm, 246, rfl⟩
abbrev main_call4_c_1 : Ref sig .tc := ⟨.hbm, 247, rfl⟩
abbrev main_call4_c_2 : Ref sig .tc := ⟨.hbm, 248, rfl⟩
abbrev main_call4_v6 : Ref sig .tc := ⟨.hbm, 249, rfl⟩
abbrev main_call4_v7 : Ref sig .tc := ⟨.hbm, 250, rfl⟩
abbrev main_call4_v8 : Ref sig .tc := ⟨.hbm, 251, rfl⟩
abbrev main_call4_v9 : Ref sig .tc := ⟨.hbm, 252, rfl⟩
abbrev main_call4_v10 : Ref sig .tc := ⟨.hbm, 253, rfl⟩
abbrev main_call4_v11 : Ref sig .tc := ⟨.hbm, 254, rfl⟩
abbrev main_call4_c_3 : Ref sig .tc := ⟨.hbm, 255, rfl⟩
abbrev main_call4_v12 : Ref sig .tc := ⟨.hbm, 256, rfl⟩
abbrev main_call4_v13 : Ref sig .tc := ⟨.hbm, 257, rfl⟩
abbrev main_call4_cst : Ref sig .tc := ⟨.hbm, 258, rfl⟩
abbrev main_call4_v14 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_cst_29 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩

abbrev nD : Nat := 1
abbrev τ : Topo := Topo.v7x

variable {F : FTy → Type} [FloatOps F]
-- ==== Final.lean ====
abbrev S32x8x8732 : Shape := ⟨3, ![32, 8, 8732]⟩
abbrev S1x1 : Shape := ⟨2, ![1, 1]⟩
abbrev S32x1x8732 : Shape := ⟨3, ![32, 1, 8732]⟩
abbrev S32x8732 : Shape := ⟨2, ![32, 8732]⟩
abbrev S32 : Shape := ⟨1, ![32]⟩
abbrev S32x1 : Shape := ⟨2, ![32, 1]⟩
abbrev S1x32x8732 : Shape := ⟨3, ![1, 32, 8732]⟩
abbrev S1 : Shape := ⟨1, ![1]⟩
abbrev S1x1x1 : Shape := ⟨3, ![1, 1, 1]⟩
abbrev S1x32x1 : Shape := ⟨3, ![1, 32, 1]⟩

abbrev nBuf : Space → Nat
  | .hbm => 3
  | .vmem => 3
  | .smem => 0
  | _ => 0

abbrev bufTy : (tb : Table) → Fin (tcTables nBuf tb) → BufTy
  | .hbm, ⟨0, _⟩ => ⟨S32x8x8732, .f32⟩
  | .hbm, ⟨1, _⟩ => ⟨S1x1, .f32⟩
  | .hbm, ⟨2, _⟩ => ⟨S1x1, .f32⟩
  | .local _ .vmem, ⟨0, _⟩ => ⟨S32x8x8732, .f32⟩
  | .local _ .vmem, ⟨1, _⟩ => ⟨S1x1, .f32⟩
  | .local _ .vmem, ⟨2, _⟩ => ⟨S1x1, .f32⟩
  | _, _ => ⟨S32x8x8732, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c46_i32 : BitVec 32 := 46#32
  let v20 : BitVec 32 := Scalar.addi c0_i32 c46_i32
  let c1_i32 : BitVec 32 := 1#32
  ⟨c0_i32, v20, c1_i32⟩
abbrev stage0_0 : Fin 1 → Memref sig .tc .vmem S32x8x8732 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelFrame.lean ====
/- The main call as printed: it runs to the end, leaves its arguments as they were and ends with every counter at zero;
   nothing is said here of what its two results hold. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- From any run which leaves the pipeline's input arrays and the other arrays as the region found them: the arguments end unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 0 rfl).trans ((hA c 0).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch condition -/

/-- The condition of the body's one branch, from the grid's coordinates. -/
abbrev cond0_0 (i : grid0.Coords) : Prop := (Scalar.cmpi .ne (Scalar.extui (Scalar.cmpi .eq (BitVec.ofNat 32 (i 0).val) 0#32)) 0#32) = 1#1

/-! ## The kernel body -/

/-- Each window's staging buffer at a point, and that it is whole. -/
abbrev ms0_0 (t : Fin cfg0.N) : Memref sig .tc .vmem S1x32x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x8732 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8732x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8732x81 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x8732 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

-- (the run's proof term is large: checking it walks past the default budget)
set_option maxHeartbeats 1000000 in
/-- One run of the body, at the first point or at a later one: the five input blocks stay as they were, and the two result
    blocks end at some contents which are not named here. -/
theorem kernelRun0 (c : Dev nD) (i : grid0.Coords) (arg1 : Memref sig .tc .vmem S1x32x4 .f32) (harg1 : arg1.IsWhole) (arg2 : Memref sig .tc .vmem S1x8x32 .f32) (harg2 : arg2.IsWhole) (arg3 : Memref sig .tc .vmem S4x8732 .f32) (harg3 : arg3.IsWhole) (arg4 : Memref sig .tc .vmem S1x8732x4 .f32) (harg4 : arg4.IsWhole) (arg5 : Memref sig .tc .vmem S1x8732x81 .f32) (harg5 : arg5.IsWhole) (arg6 : Memref sig .tc .vmem S1x8x8732 .f32) (harg6 : arg6.IsWhole) (arg7 : Memref sig .tc .vmem S1x1 .f32) (harg7 : arg7.IsWhole)
    (x0 : Vec F S1x32x4 .f32) (x1 : Vec F S1x8x32 .f32) (x2 : Vec F S4x8732 .f32) (x3 : Vec F S1x8732x4 .f32) (x4 : Vec F S1x8732x81 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)) -∗ K ⟨⟩))
          ⊢ wp frame (wpE (defs₀ (F := F)) Variants.none c none) E (cc0__mbox_kernel i arg1 harg1 arg2 harg2 arg3 harg3 arg4 harg4 arg5 harg5 arg6 harg6 arg7 harg7) K := by
    intro E K
    simp only [cc0__mbox_kernel_eq_skeleton]; unfold cc0__mbox_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    by_cases hc0 : cond0_0 i
    all_goals
      sl_exec (disch := first | sl_exact hc0)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _, _; isplitr; swap; · iexact H5
        ipureintro; rfl
      iexists _, _; isplitr; swap; · iexact H6
      ipureintro; rfl

/-! ## The pipeline's proof data -/

/-- The result windows, of whose contents nothing is said here. -/
def forgets0 : Fin 7 → Bool := fun w => w.val == 5 || w.val == 6

/-- The pipeline's proof data on a core: the arrays as the region finds them; after the body each input's buffer at its block
    and the results' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are those at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0 c (grid0.coords t) _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.Body.lean ====
/- One run of the kernel's body: the two rows of the first result's block which it writes and the sum which it leaves in the
   second result's block, as functions of the five input blocks. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.VecWindow
public import Idealize.ShloMosaic.Lib.WholeRead
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, from its blocks -/

/-- One row of the transposed priors. -/
def row (r : Fin 4) (x2 : Vec F S4x8732 .f32) : Vec F S1x8732 .f32 := fun j => x2 (ix2 r (j 1))

/-- The overlaps of the 32 objects with the priors. -/
def ovl (x0 : Vec F S1x32x4 .f32) (x2 : Vec F S4x8732 .f32) : FVec F S32x8732 .f32 :=
  k0_pay18 (k0_pay8 (row 0 x2) (row 2 x2)) (k0_pay9 (row 1 x2) (row 3 x2)) (k0_pay10 (row 0 x2) (row 2 x2)) (k0_pay11 (row 1 x2) (row 3 x2))
    (k0_pay12 x0) (k0_pay13 x0) (k0_pay14 x0) (k0_pay15 x0) (k0_pay16 x0 (row 0 x2) (row 2 x2)) (k0_pay17 x0 (row 1 x2) (row 3 x2))
    (Scalar.ofBits .f32 0x00000000#32)

/-- Each prior's overlap with its object, 1 where an object claims the prior. -/
def best (x0 : Vec F S1x32x4 .f32) (x2 : Vec F S4x8732 .f32) : FVec F S1x8732 .f32 :=
  k0_pay22 (k0_pay8 (row 0 x2) (row 2 x2)) (k0_pay9 (row 1 x2) (row 3 x2)) (k0_pay10 (row 0 x2) (row 2 x2)) (k0_pay11 (row 1 x2) (row 3 x2))
    (k0_pay12 x0) (k0_pay13 x0) (k0_pay14 x0) (k0_pay15 x0) (k0_pay16 x0 (row 0 x2) (row 2 x2)) (k0_pay17 x0 (row 1 x2) (row 3 x2))
    (Scalar.ofBits .f32 0x00000000#32)

/-- Each prior's object, as a column of zeros with one 1. -/
def hot (x0 : Vec F S1x32x4 .f32) (x2 : Vec F S4x8732 .f32) : FVec F S32x8732 .f32 :=
  k0_pay23 (k0_pay8 (row 0 x2) (row 2 x2)) (k0_pay9 (row 1 x2) (row 3 x2)) (k0_pay10 (row 0 x2) (row 2 x2)) (k0_pay11 (row 1 x2) (row 3 x2))
    (k0_pay12 x0) (k0_pay13 x0) (k0_pay14 x0) (k0_pay15 x0) (k0_pay16 x0 (row 0 x2) (row 2 x2)) (k0_pay17 x0 (row 1 x2) (row 3 x2))
    (Scalar.ofBits .f32 0x00000000#32)

/-- Each prior's class (row 0) and whether it is positive (row 1). -/
def cls (x0 : Vec F S1x32x4 .f32) (x1 : Vec F S1x8x32 .f32) (x2 : Vec F S4x8732 .f32) : FVec F S2x8732 .f32 :=
  k0_pay35 (best x0 x2) (hot x0 x2) x1

/-- The row of classification losses. -/
def confRow (x0 : Vec F S1x32x4 .f32) (x1 : Vec F S1x8x32 .f32) (x2 : Vec F S4x8732 .f32) (x4 : Vec F S1x8732x81 .f32) : FVec F S1x1x8732 .f32 :=
  k0_pay1 (k0_pay40 (cls x0 x1 x2) x4) (k0_pay41 (cls x0 x1 x2) x4)

/-- The row of positive marks. -/
def posRow (x0 : Vec F S1x32x4 .f32) (x1 : Vec F S1x8x32 .f32) (x2 : Vec F S4x8732 .f32) : FVec F S1x1x8732 .f32 :=
  k0_pay2 (k0_pay30 (best x0 x2) (hot x0 x2) x1)

/-- The running sum of location losses after this point, from what it was before. -/
def locSum (x0 : Vec F S1x32x4 .f32) (x1 : Vec F S1x8x32 .f32) (x2 : Vec F S4x8732 .f32) (x3 : Vec F S1x8732x4 .f32) (acc : Vec F S1x1 .f32) : FVec F S1x1 .f32 :=
  k0_pay38 (k0_pay31 (k0_pay4 (row 0 x2)) (k0_pay6 (row 2 x2)) (hot x0 x2) x1) (k0_pay32 (k0_pay5 (row 1 x2)) (k0_pay7 (row 3 x2)) (hot x0 x2) x1)
    (k0_pay33 (k0_pay6 (row 2 x2)) (hot x0 x2) x1) (k0_pay34 (k0_pay7 (row 3 x2)) (hot x0 x2) x1) (cls x0 x1 x2) x3 acc

/-- The first result's block holds the two rows. -/
def RowsOk (x0 : Vec F S1x32x4 .f32) (x1 : Vec F S1x8x32 .f32) (x2 : Vec F S4x8732 .f32) (x4 : Vec F S1x8732x81 .f32) (X : Vec F S1x8x8732 .f32) : Prop :=
  ∀ p : Fin 8732, X (ix3 0 0 p) = confRow x0 x1 x2 x4 (ix3 0 0 p) ∧ X (ix3 0 1 p) = posRow x0 x1 x2 (ix3 0 0 p)

/-! ## The loads and the stores -/

theorem ld_row (x2 : Vec F S4x8732 .f32) (r : Fin 4)
    (inb : ∀ a, (![r.val, 0] : Fin 2 → ℕ) a + (![1, 8732] : Fin 2 → ℕ) a ≤ S4x8732.size a) :
    View.ld x2 (Rect.unit (s := S4x8732) ![r.val, 0] ![1, 8732] inb) = row r x2 := by
  funext j
  show x2 _ = x2 _
  congr 1
  funext a
  match a with
  | ⟨0, _⟩ => apply Fin.ext; have : (j 0).val < 1 := (j 0).isLt; simp [Rect.emb, Rect.unit]
  | ⟨1, _⟩ => apply Fin.ext; simp [Rect.emb, Rect.unit]

theorem ld_row0 (x2 : Vec F S4x8732 .f32) (inb) : View.ld x2 (Rect.unit (s := S4x8732) ![0, 0] ![1, 8732] inb) = row 0 x2 := ld_row x2 0 inb
theorem ld_row1 (x2 : Vec F S4x8732 .f32) (inb) : View.ld x2 (Rect.unit (s := S4x8732) ![1, 0] ![1, 8732] inb) = row 1 x2 := ld_row x2 1 inb
theorem ld_row2 (x2 : Vec F S4x8732 .f32) (inb) : View.ld x2 (Rect.unit (s := S4x8732) ![2, 0] ![1, 8732] inb) = row 2 x2 := ld_row x2 2 inb
theorem ld_row3 (x2 : Vec F S4x8732 .f32) (inb) : View.ld x2 (Rect.unit (s := S4x8732) ![3, 0] ![1, 8732] inb) = row 3 x2 := ld_row x2 3 inb

/-! ## The runs -/

/-- The body's branch condition: this is the first image. -/
abbrev isFirst (i : grid0.Coords) : Prop := (Scalar.cmpi .ne (Scalar.extui (Scalar.cmpi .eq (BitVec.ofNat 32 (i 0).val) 0#32)) 0#32) = 1#1

set_option maxHeartbeats 1000000 in
/-- The body at the first image: the sum is started afresh. -/
theorem run_first (c : Dev nD) (i : grid0.Coords) (arg1 : Memref sig .tc .vmem S1x32x4 .f32) (harg1 : arg1.IsWhole) (arg2 : Memref sig .tc .vmem S1x8x32 .f32) (harg2 : arg2.IsWhole)
    (arg3 : Memref sig .tc .vmem S4x8732 .f32) (harg3 : arg3.IsWhole) (arg4 : Memref sig .tc .vmem S1x8732x4 .f32) (harg4 : arg4.IsWhole)
    (arg5 : Memref sig .tc .vmem S1x8732x81 .f32) (harg5 : arg5.IsWhole) (arg6 : Memref sig .tc .vmem S1x8x8732 .f32) (harg6 : arg6.IsWhole)
    (arg7 : Memref sig .tc .vmem S1x1 .f32) (harg7 : arg7.IsWhole) (hc0 : isFirst i)
    (x0 : Vec F S1x32x4 .f32) (x1 : Vec F S1x8x32 .f32) (x2 : Vec F S4x8732 .f32) (x3 : Vec F S1x8732x4 .f32) (x4 : Vec F S1x8732x81 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ X, ⌜RowsOk x0 x1 x2 x4 X⌝ ∗ owns (c : Thread nD τ) arg6 fullShare X)
            ∗ owns (c : Thread nD τ) arg7 fullShare (locSum x0 x1 x2 x3 k0_pay37)) -∗ K ⟨⟩))
      ⊢ wp frame (wpE (defs₀ (F := F)) Variants.none c none) E
          (cc0__mbox_kernel i arg1 harg1 arg2 harg2 arg3 harg3 arg4 harg4 arg5 harg5 arg6 harg6 arg7 harg7) K := by
  simp only [cc0__mbox_kernel_eq_skeleton]; unfold cc0__mbox_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists (arg6.view.read (Elt F) _); isplitr; swap
    · iexists _; isplitr; swap; · iexact H5
      ipureintro; rfl
    ipureintro
    intro p
    constructor
    · rw [View.read_writes_cons_unit_of_not_mem _ _ _ _ _ _ rfl 1 (by left; show (0:ℕ) < 1; omega),
        View.read_writes_cons_unit_of_mem _ _ _ _ _ _ (ix3 0 0 p) rfl (by intro a; match a with | ⟨0, _⟩ => rfl | ⟨1, _⟩ => rfl | ⟨2, _⟩ => exact (Nat.zero_add _).symm)]
      frame_out
      simp only [ld_row0, ld_row1, ld_row2, ld_row3]
      rfl
    · rw [View.read_writes_cons_unit_of_mem _ _ _ _ _ _ (ix3 0 0 p) rfl (by intro a; match a with | ⟨0, _⟩ => rfl | ⟨1, _⟩ => rfl | ⟨2, _⟩ => exact (Nat.zero_add _).symm)]
      frame_out
      simp only [ld_row0, ld_row1, ld_row2, ld_row3]
      rfl
  iexists _; isplitr; swap; · iexact H6
  ipureintro
  frame_out
  simp only [ld_row0, ld_row1, ld_row2, ld_row3]
  refine (View.read_writes_full _ _ _ _ _).trans ?_
  rfl

set_option maxHeartbeats 1000000 in
/-- The body at a later image: the sum goes on. -/
theorem run_later (c : Dev nD) (i : grid0.Coords) (arg1 : Memref sig .tc .vmem S1x32x4 .f32) (harg1 : arg1.IsWhole) (arg2 : Memref sig .tc .vmem S1x8x32 .f32) (harg2 : arg2.IsWhole)
    (arg3 : Memref sig .tc .vmem S4x8732 .f32) (harg3 : arg3.IsWhole) (arg4 : Memref sig .tc .vmem S1x8732x4 .f32) (harg4 : arg4.IsWhole)
    (arg5 : Memref sig .tc .vmem S1x8732x81 .f32) (harg5 : arg5.IsWhole) (arg6 : Memref sig .tc .vmem S1x8x8732 .f32) (harg6 : arg6.IsWhole)
    (arg7 : Memref sig .tc .vmem S1x1 .f32) (harg7 : arg7.IsWhole) (hc0 : ¬ isFirst i)
    (x0 : Vec F S1x32x4 .f32) (x1 : Vec F S1x8x32 .f32) (x2 : Vec F S4x8732 .f32) (x3 : Vec F S1x8732x4 .f32) (x4 : Vec F S1x8732x81 .f32) (acc : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d) ∗ owns (c : Thread nD τ) arg7 fullShare acc
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ X, ⌜RowsOk x0 x1 x2 x4 X⌝ ∗ owns (c : Thread nD τ) arg6 fullShare X)
            ∗ owns (c : Thread nD τ) arg7 fullShare (locSum x0 x1 x2 x3 acc)) -∗ K ⟨⟩))
      ⊢ wp frame (wpE (defs₀ (F := F)) Variants.none c none) E
          (cc0__mbox_kernel i arg1 harg1 arg2 harg2 arg3 harg3 arg4 harg4 arg5 harg5 arg6 harg6 arg7 harg7) K := by
  simp only [cc0__mbox_kernel_eq_skeleton]; unfold cc0__mbox_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists (arg6.view.read (Elt F) _); isplitr; swap
    · iexists _; isplitr; swap; · iexact H5
      ipureintro; rfl
    ipureintro
    intro p
    constructor
    · rw [View.read_writes_cons_unit_of_not_mem _ _ _ _ _ _ rfl 1 (by left; show (0:ℕ) < 1; omega),
        View.read_writes_cons_unit_of_mem _ _ _ _ _ _ (ix3 0 0 p) rfl (by intro a; match a with | ⟨0, _⟩ => rfl | ⟨1, _⟩ => rfl | ⟨2, _⟩ => exact (Nat.zero_add _).symm)]
      frame_out
      simp only [ld_row0, ld_row1, ld_row2, ld_row3]
      rfl
    · rw [View.read_writes_cons_unit_of_mem _ _ _ _ _ _ (ix3 0 0 p) rfl (by intro a; match a with | ⟨0, _⟩ => rfl | ⟨1, _⟩ => rfl | ⟨2, _⟩ => exact (Nat.zero_add _).symm)]
      frame_out
      simp only [ld_row0, ld_row1, ld_row2, ld_row3]
      rfl
  iexists _; isplitr; swap; · iexact H6
  ipureintro
  frame_out
  simp only [ld_row0, ld_row1, ld_row2, ld_row3]
  refine (View.read_writes_full _ _ _ _ _).trans ?_
  rfl

end Cert.KernelIdeal.Body

end
-- ==== Proof.Launch.lean ====
/- The launch of the matching kernel with what its results hold: rows 0 and 1 of the first result, image by image, and the
   accumulated sum in the second. -/
module

public import proofs.«01_k».proof.Proof.Body
public import proofs.«01_k».proof.Proof.Gen.KernelIdeal.Points
public import Idealize.ShloMosaic.Lib.Pipeline.ValueKit
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Launch

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

theorem isFirst_iff (t : Fin cfg0.N) : isFirst (grid0.coords t) ↔ t.val % 32 = 0 := by
  have ht : t.val < 32 := Nat.lt_of_lt_of_eq t.isLt N_0
  have e0 : (grid0.coords t 0).val = t.val / 1 % 32 := Pipeline.Grid.coords_val t 0 (by decide) rfl
  simp only [isFirst, e0]
  word_cmp

abbrev ms0 (t : Fin cfg0.N) : Memref sig .tc .vmem S1x32x4 .f32 := win0_0.stage (cfg0.slots t 0)
abbrev ms1 (t : Fin cfg0.N) : Memref sig .tc .vmem S1x8x32 .f32 := win0_1.stage (cfg0.slots t 1)
abbrev ms2 (t : Fin cfg0.N) : Memref sig .tc .vmem S4x8732 .f32 := win0_2.stage (cfg0.slots t 2)
abbrev ms3 (t : Fin cfg0.N) : Memref sig .tc .vmem S1x8732x4 .f32 := win0_3.stage (cfg0.slots t 3)
abbrev ms4 (t : Fin cfg0.N) : Memref sig .tc .vmem S1x8732x81 .f32 := win0_4.stage (cfg0.slots t 4)
abbrev ms5 (t : Fin cfg0.N) : Memref sig .tc .vmem S1x8x8732 .f32 := win0_5.stage (cfg0.slots t 5)
abbrev ms6 (t : Fin cfg0.N) : Memref sig .tc .vmem S1x1 .f32 := win0_6.stage (cfg0.slots t 6)

/-! ## The proof data -/

/-- The sum after the body has run at point `n`. -/
def accAt (c : Dev nD) : (n : ℕ) → n < cfg0.N → Vec F S1x1 .f32
  | 0, h => locSum (iblk m c 0 ⟨0, h⟩) (iblk m c 1 ⟨0, h⟩) (iblk m c 2 ⟨0, h⟩) (iblk m c 3 ⟨0, h⟩) k0_pay37
  | n + 1, h => locSum (iblk m c 0 ⟨n + 1, h⟩) (iblk m c 1 ⟨n + 1, h⟩) (iblk m c 2 ⟨n + 1, h⟩) (iblk m c 3 ⟨n + 1, h⟩) (accAt c n (Nat.lt_of_succ_lt h))

/-- The window whose block the body writes in part. -/
def partly : Fin 7 → Bool := fun w => w.val == 5

/-- What is known of that block: its rows 0 and 1. -/
def rowsAt (c : Dev nD) (w : Fin cfg0.W) (t : Fin cfg0.N) (X : (cfg0.win w).block.Idx → Elt F (cfg0.win w).elt) : Prop :=
  match w, X with
  | ⟨5, _⟩, X => RowsOk (iblk m c 0 t) (iblk m c 1 t) (iblk m c 2 t) (iblk m c 4 t) X
  | _, _ => True

/-- The exact part of the proof data. -/
def exact0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, _⟩ => accAt m c t.val t.isLt
  Φ _ := Pipeline.ΦA spec0 c
  q _ := fullShare
  owed _ := 0

theorem A_eq (c : Dev nD) (w : Fin cfg0.W) : (exact0 m c).A w = V m c (Pipeline.arrRef spec0 w) := by
  dsimp only [exact0]

theorem after_0 (c : Dev nD) (t : Fin cfg0.N) : (exact0 m c).after 0 t = iblk m c 0 t := by dsimp only [exact0]
theorem after_1 (c : Dev nD) (t : Fin cfg0.N) : (exact0 m c).after 1 t = iblk m c 1 t := by dsimp only [exact0]
theorem after_2 (c : Dev nD) (t : Fin cfg0.N) : (exact0 m c).after 2 t = iblk m c 2 t := by dsimp only [exact0]
theorem after_3 (c : Dev nD) (t : Fin cfg0.N) : (exact0 m c).after 3 t = iblk m c 3 t := by dsimp only [exact0]
theorem after_4 (c : Dev nD) (t : Fin cfg0.N) : (exact0 m c).after 4 t = iblk m c 4 t := by dsimp only [exact0]
theorem after_6 (c : Dev nD) (t : Fin cfg0.N) : (exact0 m c).after 6 t = accAt m c t.val t.isLt := by dsimp only [exact0]

theorem before_0 (c : Dev nD) (t : Fin cfg0.N) (d) : (exact0 m c).before 0 t d = iblk m c 0 t := before0_0_of m _ (A_eq m c 0) (after_0 m c) t d
theorem before_1 (c : Dev nD) (t : Fin cfg0.N) (d) : (exact0 m c).before 1 t d = iblk m c 1 t := before0_1_of m _ (A_eq m c 1) (after_1 m c) t d
theorem before_2 (c : Dev nD) (t : Fin cfg0.N) (d) : (exact0 m c).before 2 t d = iblk m c 2 t := before0_2_of m _ (A_eq m c 2) (after_2 m c) t d
theorem before_3 (c : Dev nD) (t : Fin cfg0.N) (d) : (exact0 m c).before 3 t d = iblk m c 3 t := before0_3_of m _ (A_eq m c 3) (after_3 m c) t d
theorem before_4 (c : Dev nD) (t : Fin cfg0.N) (d) : (exact0 m c).before 4 t d = iblk m c 4 t := before0_4_of m _ (A_eq m c 4) (after_4 m c) t d

/-- The sum's buffer holds at a later point what the point before left. -/
theorem before_6 (c : Dev nD) (t : Fin cfg0.N) (ht : t.val ≠ 0) (d) :
    (exact0 m c).before 6 t d = accAt m c (t.val - 1) (Nat.lt_of_le_of_lt (Nat.sub_le _ _) t.isLt) := by
  rw [Dat.before_out_kept (exact0 m c) 6 rfl t ht ?_ (fun _ => rfl) (fun _ _ => rfl) d, after_6]
  have hN : t.val < 32 := Nat.lt_of_lt_of_eq t.isLt N_0
  cases hfl : (cfg0.win 6).flush ⟨t.val - 1, Nat.lt_of_le_of_lt (Nat.sub_le _ _) t.isLt⟩
  · rfl
  · have h31 := (flush0_6 _).mp hfl
    simp only at h31
    omega

theorem accAt_zero (c : Dev nD) (t : Fin cfg0.N) (ht : t.val = 0) :
    accAt m c t.val t.isLt = locSum (iblk m c 0 t) (iblk m c 1 t) (iblk m c 2 t) (iblk m c 3 t) k0_pay37 := by
  obtain ⟨n, hn⟩ := t; simp only at ht; subst ht; rfl

theorem accAt_pos (c : Dev nD) (t : Fin cfg0.N) (ht : t.val ≠ 0) :
    accAt m c t.val t.isLt = locSum (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl ht
  | succ n => rfl

/-! ## The body at a point -/

def bodyPre (c : Dev nD) (t : Fin cfg0.N) : sProp 𝕄 :=
  iprop((exact0 m c).Φ t.castSucc ∗ (exact0 m c).owesAt () t.castSucc
    ∗ (∃ d, owns (c : Thread nD τ) (ms0 t) fullShare ((exact0 m c).before 0 t d))
    ∗ (∃ d, owns (c : Thread nD τ) (ms1 t) fullShare ((exact0 m c).before 1 t d))
    ∗ (∃ d, owns (c : Thread nD τ) (ms2 t) fullShare ((exact0 m c).before 2 t d))
    ∗ (∃ d, owns (c : Thread nD τ) (ms3 t) fullShare ((exact0 m c).before 3 t d))
    ∗ (∃ d, owns (c : Thread nD τ) (ms4 t) fullShare ((exact0 m c).before 4 t d))
    ∗ (∃ d, ⌜((exact0 m c).toRRel partly (rowsAt m c)).Finds 5 t d⌝ ∗ owns (c : Thread nD τ) (ms5 t) fullShare d)
    ∗ (∃ d, owns (c : Thread nD τ) (ms6 t) fullShare ((exact0 m c).before 6 t d)))

def bodyPost (c : Dev nD) (t : Fin cfg0.N) : sProp 𝕄 :=
  iprop((exact0 m c).Φ t.succ ∗ (exact0 m c).owesAt () t.succ
    ∗ owns (c : Thread nD τ) (ms0 t) fullShare ((exact0 m c).after 0 t)
    ∗ owns (c : Thread nD τ) (ms1 t) fullShare ((exact0 m c).after 1 t)
    ∗ owns (c : Thread nD τ) (ms2 t) fullShare ((exact0 m c).after 2 t)
    ∗ owns (c : Thread nD τ) (ms3 t) fullShare ((exact0 m c).after 3 t)
    ∗ owns (c : Thread nD τ) (ms4 t) fullShare ((exact0 m c).after 4 t)
    ∗ (∃ X, ⌜RowsOk (iblk m c 0 t) (iblk m c 1 t) (iblk m c 2 t) (iblk m c 4 t) X⌝ ∗ owns (c : Thread nD τ) (ms5 t) fullShare X)
    ∗ owns (c : Thread nD τ) (ms6 t) fullShare ((exact0 m c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (exact0 m c).Φ t.succ = (exact0 m c).Φ t.castSucc from rfl,
    show (exact0 m c).owesAt () t.succ = (exact0 m c).owesAt () t.castSucc from rfl,
    after_0, after_1, after_2, after_3, after_4, after_6]
  have hN : t.val < 32 := lt_of_lt_of_eq t.isLt (show cfg0.N = 32 from N_0)
  by_cases h0 : t.val = 0
  · rw [accAt_zero m c t h0]
    iintro ⟨HΦ, Ho, ⟨%d0, H0⟩, ⟨%d1, H1⟩, ⟨%d2, H2⟩, ⟨%d3, H3⟩, ⟨%d4, H4⟩, ⟨%d5, -, H5⟩, ⟨%d6, H6⟩⟩
    iapply (run_first c (grid0.coords t) _ _ _ _ _ _ _ _ _ _ _ _ _ _ ((isFirst_iff t).mpr (by omega)) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_pos m c t h0]
    simp only [before_6 m c t h0]
    iintro ⟨HΦ, Ho, ⟨%d0, H0⟩, ⟨%d1, H1⟩, ⟨%d2, H2⟩, ⟨%d3, H3⟩, ⟨%d4, H4⟩, ⟨%d5, -, H5⟩, ⟨%d6, H6⟩⟩
    iapply (run_later c (grid0.coords t) _ _ _ _ _ _ _ _ _ _ _ _ _ _ (fun h => h0 (by have := (isFirst_iff t).mp h; omega)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (exact0 (F := F) m c) (defs₀ (F := F)) Variants.none () Set.univ partly (rowsAt m c) := fun t => by
  rw [bigSep_W0, bigSep_W0, defs₀_row]
  exact triple_restated (sound_body m c t) rfl .rfl fun _ => .rfl

/-! ## The run -/

/-- The proof data: exact but for the window written in part. -/
abbrev rdat (c : Dev nD) : RDat τ (Elt F) Unit ℕ (UR sig nD τ) ℕ (cfgs 0) c := (exact0 m c).toRRel partly (rowsAt m c)

set_option backward.isDefEq.respectTransparency.types false in
theorem run_main : θ_run defs (onTc (τ := τ) (main (F := F))) (s₀ m ρ) (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (exact0 m c).share_full fun _ => rfl)
    (howed := fun _ _ => rfl) (V := V m) (hmain := hmain m Variants.none) (hA := A_eq m) (hΦ := fun _ _ => rfl)

/-- The argument arrays end as they were. -/
theorem args_of {r} (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 3 rfl).trans ((A_eq m c 3).trans (V_main_arg0 m c)),
   (RDat.FramePost.arr_in h c 4 rfl).trans ((A_eq m c 4).trans (V_main_arg1 m c)),
   (RDat.FramePost.arr_in h c 0 rfl).trans ((A_eq m c 0).trans (V_main_arg2 m c)),
   ((h c).2 main_arg3 (Pipeline.mem_restRefs_of main_arg3 (by decide) (by decide))).trans (V_main_arg3 m c),
   ((h c).2 main_arg4 (Pipeline.mem_restRefs_of main_arg4 (by decide) (by decide))).trans (V_main_arg4 m c)⟩

/-- The last point. -/
abbrev tLast : Fin cfg0.N := ⟨31, Nat.lt_of_lt_of_eq (by decide) N_0.symm⟩

/-- The second result is the sum after the last point. -/
theorem sum_of {r} (h : RDat.FramePost (cfgs 0) (rdat m) (V m) r) (c : Dev nD) :
    r.2.mem ((c.tc : Thread nD τ).loc main_v6_1) = accAt m c 31 (Nat.lt_of_lt_of_eq (by decide) N_0.symm) := by
  haveI : ∀ e, Nonempty (Elt F e) := fun e => ⟨default⟩
  obtain ⟨after, hL, hA⟩ := h.exists_exact c
  have hl : after 6 tLast = accAt m c 31 (Nat.lt_of_lt_of_eq (by decide) N_0.symm) := by
    obtain ⟨Y, hY, hX⟩ := hL 6 tLast ((flush0_6 _).mpr rfl)
    rw [Dat.toRRel_after_of_eq_false (exact0 m c) rfl] at hX
    exact hX
  refine (hA 6).trans ?_
  refine Dat.arrAt_eq_of_after_last _ 6 tLast (by decide +kernel) _ fun j => ?_
  blk_simp
  exact congrFun hl j

theorem index5_0 : ∀ t : Fin grid0.N, win0_5.index t 0 = t.val := by decide +kernel
theorem index5_1 : ∀ t : Fin grid0.N, win0_5.index t 1 = 0 := by decide +kernel
theorem index5_2 : ∀ t : Fin grid0.N, win0_5.index t 2 = 0 := by decide +kernel

/-- Rows 0 and 1 of the first result. -/
theorem rows_of {r} (h : RDat.FramePost (cfgs 0) (rdat m) (V m) r) (c : Dev nD) (t : Fin cfg0.N) (b : Fin 32) (hb : b.val = t.val) (p : Fin 8732) :
    r.2.mem ((c.tc : Thread nD τ).loc main_v6_0) (ix3 b 0 p) = confRow (iblk m c 0 t) (iblk m c 1 t) (iblk m c 2 t) (iblk m c 4 t) (ix3 0 0 p)
    ∧ r.2.mem ((c.tc : Thread nD τ).loc main_v6_0) (ix3 b 1 p) = posRow (iblk m c 0 t) (iblk m c 1 t) (iblk m c 2 t) (ix3 0 0 p) := by
  haveI : ∀ e, Nonempty (Elt F e) := fun e => ⟨default⟩
  obtain ⟨after, hL, hA⟩ := h.exists_exact c
  have hrel : RowsOk (iblk m c 0 t) (iblk m c 1 t) (iblk m c 2 t) (iblk m c 4 t) (after 5 t) :=
    Dat.toRRel_leaves (exact0 m c) (w := 5) rfl (hL 5 t (flush0_5 t))
  have hread (rr : Fin 8) : r.2.mem ((c.tc : Thread nD τ).loc main_v6_0) (ix3 b rr p) = after 5 t (ix3 0 rr p) := by
    have e := (((rdat m) c).withAfter after).arrAt_emb_eq_flushed 5 (Window.hdisj_of_index_inj _ (by decide +kernel)) t (flush0_5 t) (ix3 0 rr p)
    have hi : ix3 b rr p = ((cfg0.win 5).blk t).view.emb (ix3 0 rr p) := by
      funext a
      match a with
      | ⟨0, _⟩ => apply Fin.ext; blk_simp; rw [index5_0, hb]; rfl
      | ⟨1, _⟩ => apply Fin.ext; blk_simp; rw [index5_1, Nat.zero_mul, Nat.zero_add]
      | ⟨2, _⟩ => apply Fin.ext; blk_simp; rw [index5_2, Nat.zero_mul, Nat.zero_add]
    refine (congrFun (hA 5) _).trans ?_
    rw [hi]
    exact e
  rw [hread, hread]
  exact hrel p

end Cert.KernelIdeal.Launch

end
-- ==== Proof.Choice.lean ====
/- Which object a prior is matched with: the first index at which a row of numbers is largest, the last object which claims a prior,
   and how a fold over words computes either. -/
module

public import Idealize.ShloMosaic.Lib.Pointwise
public import Idealize.ShloMosaic.Lib.SortNet.Extract

@[expose] public section

noncomputable section

namespace Cert.Spec

open Idealize.ShloMosaic

/-! ## The first largest -/

/-- `i` is the first index at which `f` is largest. -/
def IsFirst {n : ℕ} (f : Fin n → EReal) (i : Fin n) : Prop := (∀ j, f j ≤ f i) ∧ ∀ j, j < i → f j < f i

theorem IsFirst.unique {n : ℕ} {f : Fin n → EReal} {i k : Fin n} (hi : IsFirst f i) (hk : IsFirst f k) : i = k := by
  rcases lt_trichotomy i k with h | h | h
  · exact absurd (hi.1 k) (not_le.2 (hk.2 i h))
  · exact h
  · exact absurd (hk.1 i) (not_le.2 (hi.2 k h))

theorem exists_isFirst {n : ℕ} (f : Fin (n + 1) → EReal) : ∃ i, IsFirst f i := by
  obtain ⟨m, hm⟩ := Finite.exists_max f
  have hne : (Finset.univ.filter fun i => ∀ j, f j ≤ f i).Nonempty := ⟨m, by simpa using hm⟩
  refine ⟨(Finset.univ.filter fun i => ∀ j, f j ≤ f i).min' hne, ?_, fun j hj => ?_⟩
  · exact (Finset.mem_filter.1 (Finset.min'_mem _ hne)).2
  · have h1 := (Finset.mem_filter.1 (Finset.min'_mem _ hne)).2
    refine lt_of_le_of_ne (h1 j) fun he => ?_
    exact absurd (Finset.min'_le _ j (Finset.mem_filter.2 ⟨Finset.mem_univ _, fun k => he ▸ h1 k⟩)) (not_le.2 hj)

/-- The first index at which `f` is largest. -/
def first {n : ℕ} (f : Fin (n + 1) → EReal) : Fin (n + 1) := (exists_isFirst f).choose

theorem first_spec {n : ℕ} (f : Fin (n + 1) → EReal) : IsFirst f (first f) := (exists_isFirst f).choose_spec

theorem negInf : Ideal.ofBits .f32 0xFF800000#32 = ⊥ := by simp [Ideal.ofBits, Ideal.ieee]

/-- A fold of the maximum from minus infinity is the value at the first largest index. -/
theorem fold_max_eq {n : ℕ} (f : Fin (n + 1) → EReal) :
    Finset.fold max (Ideal.ofBits .f32 0xFF800000#32) f Finset.univ = f (first f) := by
  rw [negInf]
  refine le_antisymm ?_ ?_
  · rw [Finset.fold_max_le]; exact ⟨bot_le, fun j _ => (first_spec f).1 j⟩
  · rw [Finset.le_fold_max]; exact Or.inr ⟨first f, Finset.mem_univ _, le_rfl⟩

/-! ## Folds over words -/

theorem fold_minsi_eq {n : ℕ} (b : BitVec 32) (f : Fin n → BitVec 32) (i : Fin n) (hb : (f i).toInt ≤ b.toInt)
    (h : ∀ j, (f i).toInt ≤ (f j).toInt) : Finset.fold IntOp.minsi b f Finset.univ = f i := by
  apply BitVec.eq_of_toInt_eq
  have e := Finset.fold_hom (op := IntOp.minsi (w := 32)) (op' := (min : ℤ → ℤ → ℤ)) (m := BitVec.toInt) (b := b) (f := f)
    (s := Finset.univ) (fun a c => SortNet.toInt_minsi a c)
  rw [← e]
  refine le_antisymm ?_ ?_
  · rw [Finset.fold_min_le]; exact Or.inr ⟨i, Finset.mem_univ _, le_rfl⟩
  · rw [Finset.le_fold_min]; exact ⟨hb, fun j _ => h j⟩

theorem fold_maxsi_eq {n : ℕ} (b : BitVec 32) (f : Fin n → BitVec 32) (i : Fin n) (hb : b.toInt ≤ (f i).toInt)
    (h : ∀ j, (f j).toInt ≤ (f i).toInt) : Finset.fold IntOp.maxsi b f Finset.univ = f i := by
  apply BitVec.eq_of_toInt_eq
  have e := Finset.fold_hom (op := IntOp.maxsi (w := 32)) (op' := (max : ℤ → ℤ → ℤ)) (m := BitVec.toInt) (b := b) (f := f)
    (s := Finset.univ) (fun a c => SortNet.toInt_maxsi a c)
  rw [← e]
  refine le_antisymm ?_ ?_
  · rw [Finset.fold_max_le]; exact ⟨hb, fun j _ => h j⟩
  · rw [Finset.le_fold_max]; exact Or.inr ⟨i, Finset.mem_univ _, le_rfl⟩

theorem toInt_ofNat_small (n : ℕ) (h : n < 2 ^ 31) : (BitVec.ofNat 32 n).toInt = n := by
  rw [BitVec.toInt_eq_toNat_cond, BitVec.toNat_ofNat, Nat.mod_eq_of_lt (by omega)]; split <;> omega

theorem ofNat_inj {a b : ℕ} (ha : a < 2 ^ 31) (hb : b < 2 ^ 31) (h : BitVec.ofNat 32 a = BitVec.ofNat 32 b) : a = b := by
  have := congrArg BitVec.toInt h
  rw [toInt_ofNat_small a ha, toInt_ofNat_small b hb] at this
  omega

/-- The fold which picks the smallest index among those that attain the maximum. -/
theorem fold_first {n : ℕ} (hn : n + 1 < 2 ^ 31) (f : Fin (n + 1) → EReal) :
    Finset.fold IntOp.minsi 2147483647#32
      (fun i : Fin (n + 1) => if f i = Finset.fold max (Ideal.ofBits .f32 0xFF800000#32) (fun j : Fin (n + 1) => f j) Finset.univ
        then BitVec.ofNat 32 i.val else BitVec.ofNat 32 (n + 1)) Finset.univ
      = BitVec.ofNat 32 (first f).val := by
  have hf : (first f).val < n + 1 := (first f).isLt
  have e := fold_max_eq f
  have h0 : (if f (first f) = Finset.fold max (Ideal.ofBits .f32 0xFF800000#32) (fun j : Fin (n + 1) => f j) Finset.univ
        then BitVec.ofNat 32 (first f).val else BitVec.ofNat 32 (n + 1)) = BitVec.ofNat 32 (first f).val := if_pos e.symm
  rw [fold_minsi_eq _ _ (first f)]
  · exact h0
  · rw [h0, toInt_ofNat_small _ (by omega)]
    have : (2147483647#32 : BitVec 32).toInt = 2147483647 := by decide
    omega
  · intro j
    rw [h0, toInt_ofNat_small _ (by omega)]
    by_cases hj : f j = Finset.fold max (Ideal.ofBits .f32 0xFF800000#32) (fun j : Fin (n + 1) => f j) Finset.univ
    · rw [if_pos hj, toInt_ofNat_small _ (by omega)]
      by_contra hc
      have : j < first f := by rw [Fin.lt_def]; omega
      exact absurd ((first_spec f).2 j this) (not_lt.2 (le_of_eq (e.symm.trans hj.symm)))
    · rw [if_neg hj, toInt_ofNat_small _ (by omega)]; omega

/-! ## The last claimant -/

/-- `o` is the last object whose chosen prior is `p`. -/
def IsLast {n k : ℕ} (g : Fin n → Fin k) (p : Fin k) (o : Fin n) : Prop := g o = p ∧ ∀ o', o < o' → g o' ≠ p

theorem IsLast.unique {n k : ℕ} {g : Fin n → Fin k} {p : Fin k} {a b : Fin n} (ha : IsLast g p a) (hb : IsLast g p b) : a = b := by
  rcases lt_trichotomy a b with h | h | h
  · exact absurd hb.1 (ha.2 b h)
  · exact h
  · exact absurd ha.1 (hb.2 a h)

theorem exists_isLast {n k : ℕ} (g : Fin n → Fin k) (p : Fin k) (o : Fin n) (h : g o = p) : ∃ o, IsLast g p o := by
  have hne : (Finset.univ.filter fun i => g i = p).Nonempty := ⟨o, by simpa using h⟩
  refine ⟨(Finset.univ.filter fun i => g i = p).max' hne, (Finset.mem_filter.1 (Finset.max'_mem _ hne)).2, fun o' ho hg => ?_⟩
  exact absurd (Finset.le_max' _ o' (Finset.mem_filter.2 ⟨Finset.mem_univ _, hg⟩)) (not_le.2 ho)

open Classical in
/-- The last object whose chosen prior is `p`, if there is one. -/
def claimant {n k : ℕ} (g : Fin n → Fin k) (p : Fin k) : Option (Fin n) :=
  if h : ∃ o, IsLast g p o then some h.choose else none

theorem claimant_some {n k : ℕ} {g : Fin n → Fin k} {p : Fin k} {o : Fin n} (h : IsLast g p o) : claimant g p = some o := by
  have hx : ∃ o, IsLast g p o := ⟨o, h⟩
  rw [claimant, dif_pos hx, hx.choose_spec.unique h]

theorem claimant_none {n k : ℕ} {g : Fin n → Fin k} {p : Fin k} (h : ∀ o, g o ≠ p) : claimant g p = none := by
  rw [claimant, dif_neg]; rintro ⟨o, ho⟩; exact h o ho.1

theorem claimant_cases {n k : ℕ} (g : Fin n → Fin k) (p : Fin k) :
    (∃ o, IsLast g p o ∧ claimant g p = some o) ∨ ((∀ o, g o ≠ p) ∧ claimant g p = none) := by
  by_cases h : ∃ o, g o = p
  · obtain ⟨o, ho⟩ := h
    obtain ⟨o', ho'⟩ := exists_isLast g p o ho
    exact Or.inl ⟨o', ho', claimant_some ho'⟩
  · have h' : ∀ o, g o ≠ p := fun o ho => h ⟨o, ho⟩
    exact Or.inr ⟨h', claimant_none h'⟩

/-- The fold which picks the largest object that claims the prior, minus one where there is none. -/
theorem fold_claimant {n k : ℕ} (hn : n + 1 < 2 ^ 31) (hk : k < 2 ^ 31) (g : Fin (n + 1) → Fin k) (p : Fin k) :
    Finset.fold IntOp.maxsi 2147483648#32
      (fun o : Fin (n + 1) => Scalar.select (IntOp.cmpi .eq (BitVec.ofNat 32 p.val) (BitVec.ofNat 32 (g o).val))
        (BitVec.ofNat 32 o.val) 4294967295#32) Finset.univ
      = (claimant g p).elim 4294967295#32 (fun o => BitVec.ofNat 32 o.val) := by
  have hm : (4294967295#32 : BitVec 32).toInt = -1 := by decide
  have hb : (2147483648#32 : BitVec 32).toInt = -2147483648 := by decide
  have hsel : ∀ o : Fin (n + 1), Scalar.select (IntOp.cmpi .eq (BitVec.ofNat 32 p.val) (BitVec.ofNat 32 (g o).val))
        (BitVec.ofNat 32 o.val) 4294967295#32 = if g o = p then BitVec.ofNat 32 o.val else 4294967295#32 := by
    intro o
    by_cases h : g o = p
    · rw [if_pos h, h]; simp [Scalar.select, IntOp.cmpi]
    · rw [if_neg h]
      have : BitVec.ofNat 32 p.val ≠ BitVec.ofNat 32 (g o).val := fun e =>
        h (Fin.ext (ofNat_inj (by have := p.isLt; omega) (by have := (g o).isLt; omega) e).symm)
      have hf : (BitVec.ofNat 32 p.val == BitVec.ofNat 32 (g o).val) = false := beq_false_of_ne this
      simp [Scalar.select, IntOp.cmpi, hf]
  simp only [hsel]
  rcases claimant_cases g p with ⟨o, ho, e⟩ | ⟨h, e⟩
  · rw [e, fold_maxsi_eq _ _ o]
    · exact if_pos ho.1
    · rw [if_pos ho.1, toInt_ofNat_small o.val (by have := o.isLt; omega)]; exact hb.le.trans (by omega)
    · intro j
      rw [if_pos ho.1, toInt_ofNat_small o.val (by have := o.isLt; omega)]
      by_cases hj : g j = p
      · rw [if_pos hj, toInt_ofNat_small j.val (by have := j.isLt; omega)]
        have : ¬ o < j := fun hl => ho.2 j hl hj
        rw [Fin.lt_def] at this; omega
      · rw [if_neg hj, hm]; omega
  · rw [e, fold_maxsi_eq _ _ 0]
    · exact if_neg (h 0)
    · rw [if_neg (h 0)]; decide
    · intro j; rw [if_neg (h 0), if_neg (h j)]

/-! ## The match -/

/-- The prior each object claims, given the overlaps. -/
def claims {n k : ℕ} (v : Fin n → Fin (k + 1) → EReal) (o : Fin n) : Fin (k + 1) := first (v o)

/-- The object a prior is matched with: the last one that claims it, and where none does the one it overlaps most. -/
def obj {n k : ℕ} (v : Fin (n + 1) → Fin (k + 1) → EReal) (p : Fin (k + 1)) : Fin (n + 1) :=
  (claimant (claims v) p).getD (first fun o => v o p)

/-- The overlap a prior is matched with: one where an object claims it. -/
def val {n k : ℕ} (v : Fin (n + 1) → Fin (k + 1) → EReal) (p : Fin (k + 1)) : EReal :=
  (claimant (claims v) p).elim (v (first fun o => v o p) p) (fun _ => 1)

end Cert.Spec

end
-- ==== Proof.Spec.lean ====
/- The mathematics of the matching, over extended reals: an overlap of two boxes, the choice of each prior's object, the class, the
   two losses. Both programs are shown to compute these. -/
module

public import Idealize.ShloMosaic.Lib.Pointwise
public import proofs.«01_k».proof.Proof.Choice

@[expose] public section

noncomputable section

namespace Cert.Spec

open Idealize.ShloMosaic

/-- One half, ten, five, a hundred-millionth and the small number under the overlap's quotient, as the programs write them. -/
abbrev half : EReal := Ideal.ofBits .f32 0x3F000000#32
abbrev ten : EReal := Ideal.ofBits .f32 0x41200000#32
abbrev five : EReal := Ideal.ofBits .f32 0x40A00000#32
abbrev tiny : EReal := Ideal.ofBits .f32 0x322BCC77#32
abbrev small : EReal := Ideal.ofBits .f32 0x2EDBE6FF#32

/-- The lower and upper edge of a prior given by centre and size. -/
def loEdge (c s : EReal) : EReal := c - s * half
def hiEdge (c s : EReal) : EReal := c + s * half

/-- The length of the overlap of two intervals. -/
def side (a0 a1 b0 b1 : EReal) : EReal := max (min a1 b1 - max a0 b0) 0

/-- Intersection over union of a box given by its edges with a prior given by centre and size. -/
def iou (b : Fin 4 → EReal) (q : Fin 4 → EReal) : EReal :=
  let x0 := loEdge (q 0) (q 2)
  let y0 := loEdge (q 1) (q 3)
  let x1 := hiEdge (q 0) (q 2)
  let y1 := hiEdge (q 1) (q 3)
  let i := side (b 0) (b 2) x0 x1 * side (b 1) (b 3) y0 y1
  Ideal.div i ((b 2 - b 0) * (b 3 - b 1) + (x1 - x0) * (y1 - y0) - i + small)

/-- A prior's class word: nothing where the match is too small, else the object's label. -/
def word (w : EReal) (l : BitVec 32) : BitVec 32 := if w < half then 0#32 else l

/-- The classification loss of one prior, from its scores and its class. -/
def conf (s : Fin 81 → EReal) (k : Fin 81) : EReal := Ideal.log (∑ c, Ideal.exp (s c)) - s k

/-- The offsets a prior should predict for its object's box. -/
def target (b q : Fin 4 → EReal) : Fin 4 → EReal :=
  ![Ideal.div ((b 0 + b 2) * half - q 0) (Ideal.div (q 2) ten), Ideal.div ((b 1 + b 3) * half - q 1) (Ideal.div (q 3) ten),
    Ideal.log (Ideal.div (max (b 2 - b 0) tiny) (q 2)) * five, Ideal.log (Ideal.div (max (b 3 - b 1) tiny) (q 3)) * five]

/-- The distance between predicted and true offsets. -/
def dist (l t : Fin 4 → EReal) (k : Fin 4) : EReal := max (l k - t k) (-(l k - t k))

end Cert.Spec

end
-- ==== Proof.Pay.lean ====
/- What the kernel's body computes, element by element. -/
module

public import proofs.«01_k».proof.Proof.Body
public import proofs.«01_k».proof.Proof.Spec
public import proofs.«01_k».proof.Proof.Choice

@[expose] public section

set_option maxRecDepth 16384

noncomputable section

namespace Cert.KernelIdeal.Pay

open Cert.KernelIdeal Cert.KernelIdeal.Gen Cert.KernelIdeal.Body
open Idealize.ShloMosaic Idealize.ShloMosaic.TcCoe Idealize.SL.Sem

theorem ovl_at (x0 : Vec Ideal S1x32x4 .f32) (x2 : Vec Ideal S4x8732 .f32) (o : Fin 32) (p : Fin 8732) :
    ovl (F := Ideal) x0 x2 (ix2 o p) = Spec.iou (fun k => x0 (ix3 0 o k)) (fun k => x2 (ix2 k p)) := by
  pointwise [ovl, row, k0_pay3, k0_pay4, k0_pay5, k0_pay6, k0_pay7, k0_pay8, k0_pay9, k0_pay10, k0_pay11, k0_pay12, k0_pay13, k0_pay14, k0_pay15, k0_pay16, k0_pay17, k0_pay18]
  rfl

/-- A bit as a number. -/
theorem mark_at (b : BitVec 1) : (FloatOps.sitofp .f32 (BitVec.setWidth 32 b) : Ideal .f32) = if b = 1#1 then 1 else 0 := by
  have e : (FloatOps.sitofp .f32 (BitVec.setWidth 32 b) : Ideal .f32) = (((BitVec.setWidth 32 b).toInt : ℝ) : EReal) := rfl
  rw [e]
  by_cases h : b = 1#1
  · rw [if_pos h, h]
    have : (BitVec.setWidth 32 1#1).toInt = 1 := by decide
    rw [this]; simp
  · have h0 : b = 0#1 := by bv_omega
    rw [if_neg h, h0]
    have : (BitVec.setWidth 32 0#1).toInt = 0 := by decide
    rw [this]; simp

section Match

variable (a1 a2 a3 a4 : FVec Ideal S1x8732 .f32) (a5 a6 a7 a8 : FVec Ideal S32x1 .f32) (a9 a10 : FVec Ideal S32x8732 .f32) (z : Ideal .f32)
  (v : Fin 32 → Fin 8732 → EReal) (hv : ∀ o p, k0_pay18 a1 a2 a3 a4 a5 a6 a7 a8 a9 a10 z (ix2 o p) = v o p)

include hv

theorem pay19_at (p : Fin 8732) : k0_pay19 a1 a2 a3 a4 a5 a6 a7 a8 a9 a10 z (ix2 0 p) = v (Spec.first fun o => v o p) p := by
  rw [← Spec.fold_max_eq (fun o => v o p)]
  simp only [← hv]
  pointwise [k0_pay19]

theorem pay20_at (p : Fin 8732) : k0_pay20 a1 a2 a3 a4 a5 a6 a7 a8 a9 a10 z (ix2 0 p)
    = (Spec.claimant (Spec.claims v) p).elim 4294967295#32 (fun o => BitVec.ofNat 32 o.val) := by
  rw [← Spec.fold_claimant (by norm_num) (by norm_num)]
  simp only [Spec.claims, ← Spec.fold_first (n := 8731) (by norm_num)]
  simp only [← hv]
  pointwise [k0_pay20]

theorem pay21_at (p : Fin 8732) : k0_pay21 a1 a2 a3 a4 a5 a6 a7 a8 a9 a10 z (ix2 0 p)
    = if (Spec.claimant (Spec.claims v) p).isSome then 1#1 else 0#1 := by
  have e : k0_pay21 a1 a2 a3 a4 a5 a6 a7 a8 a9 a10 z (ix2 0 p) = IntOp.cmpi .sge (k0_pay20 a1 a2 a3 a4 a5 a6 a7 a8 a9 a10 z (ix2 0 p)) 0#32 := rfl
  rw [e, pay20_at (hv := hv)]
  rcases Spec.claimant_cases (Spec.claims v) p with ⟨o, _, h⟩ | ⟨_, h⟩
  · rw [h]; fin_cases o <;> decide
  · rw [h]; decide

theorem pay22_at (p : Fin 8732) : k0_pay22 a1 a2 a3 a4 a5 a6 a7 a8 a9 a10 z (ix2 0 p) = Spec.val v p := by
  have e : k0_pay22 a1 a2 a3 a4 a5 a6 a7 a8 a9 a10 z (ix2 0 p) = Scalar.select (k0_pay21 a1 a2 a3 a4 a5 a6 a7 a8 a9 a10 z (ix2 0 p)) (Ideal.ofBits .f32 0x3F800000#32) (k0_pay19 a1 a2 a3 a4 a5 a6 a7 a8 a9 a10 z (ix2 0 p)) := rfl
  have one : Ideal.ofBits .f32 0x3F800000#32 = 1 := by simp [Ideal.ofBits, Ideal.ieee, -EReal.coe_mul]; norm_num
  rw [e, pay21_at (hv := hv), pay19_at (hv := hv), one, Spec.val]
  rcases Spec.claimant_cases (Spec.claims v) p with ⟨o, _, h⟩ | ⟨_, h⟩ <;> rw [h] <;> rfl

theorem pay23_at (j : Fin 32) (p : Fin 8732) : k0_pay23 a1 a2 a3 a4 a5 a6 a7 a8 a9 a10 z (ix2 j p) = if j = Spec.obj v p then 1 else 0 := by
  have e : k0_pay23 a1 a2 a3 a4 a5 a6 a7 a8 a9 a10 z (ix2 j p) = FloatOps.sitofp .f32 (BitVec.setWidth 32 (IntOp.cmpi .eq
      (Scalar.select (k0_pay21 a1 a2 a3 a4 a5 a6 a7 a8 a9 a10 z (ix2 0 p)) (k0_pay20 a1 a2 a3 a4 a5 a6 a7 a8 a9 a10 z (ix2 0 p))
        (BitVec.ofNat 32 (Spec.first fun o => v o p).val)) (BitVec.ofNat 32 j.val))) := by
    rw [← Spec.fold_first (n := 31) (by norm_num)]
    simp only [← hv]
    pointwise [k0_pay23, k0_pay19]
  rw [e, pay21_at (hv := hv), pay20_at (hv := hv), Spec.obj]
  have key : ∀ o : Fin 32, (FloatOps.sitofp .f32 (BitVec.setWidth 32 (IntOp.cmpi .eq (BitVec.ofNat 32 o.val) (BitVec.ofNat 32 j.val))) : Ideal .f32) = if j = o then 1 else 0 := by
    intro o
    rw [mark_at]
    by_cases h : j = o
    · subst h; rw [if_pos rfl, if_pos]; simp [IntOp.cmpi]
    · rw [if_neg h, if_neg]
      have : BitVec.ofNat 32 o.val ≠ BitVec.ofNat 32 j.val := fun e => h (Fin.ext (Spec.ofNat_inj (by omega) (by omega) e).symm)
      have hf : (BitVec.ofNat 32 o.val == BitVec.ofNat 32 j.val) = false := beq_false_of_ne this
      simp [IntOp.cmpi, hf]
  rcases Spec.claimant_cases (Spec.claims v) p with ⟨o, _, h⟩ | ⟨_, h⟩
  · rw [h]; exact key o
  · rw [h]; exact key _

end Match

/-- The overlaps of one image, from its boxes and the priors. -/
abbrev ov (x0 : Vec Ideal S1x32x4 .f32) (x2 : Vec Ideal S4x8732 .f32) : Fin 32 → Fin 8732 → EReal :=
  fun o p => Spec.iou (fun k => x0 (ix3 0 o k)) (fun k => x2 (ix2 k p))

theorem best_at (x0 : Vec Ideal S1x32x4 .f32) (x2 : Vec Ideal S4x8732 .f32) (p : Fin 8732) :
    best (F := Ideal) x0 x2 (ix2 0 p) = Spec.val (ov x0 x2) p :=
  pay22_at (hv := ovl_at x0 x2) (p := p) ..

theorem hot_at (x0 : Vec Ideal S1x32x4 .f32) (x2 : Vec Ideal S4x8732 .f32) (j : Fin 32) (p : Fin 8732) :
    hot (F := Ideal) x0 x2 (ix2 j p) = if j = Spec.obj (ov x0 x2) p then 1 else 0 :=
  pay23_at (hv := ovl_at x0 x2) (j := j) (p := p) ..

section Gather

variable (b : FVec Ideal S1x8732 .f32) (h : FVec Ideal S32x8732 .f32) (x1 : Vec Ideal S1x8x32 .f32) (c : Fin 8732 → Fin 32)
  (hh : ∀ j p, h (ix2 j p) = if j = c p then 1 else 0)

include hh

/-- Multiplying by a column with one 1 picks the chosen object's entry. -/
theorem pay24_at (r : Fin 8) (p : Fin 8732) : k0_pay24 h x1 (ix2 r p) = x1 (ix3 0 r (c p)) := by
  have e : k0_pay24 h x1 (ix2 r p) = ∑ j : Fin 32, x1 (ix3 0 r j) * h (ix2 j p) := by
    pointwise [k0_pay24]
  rw [e, Finset.sum_eq_single (c p)]
  · rw [hh, if_pos rfl, mul_one]
  · intro j _ hj; rw [hh, if_neg hj, mul_zero]
  · intro hn; exact absurd (Finset.mem_univ _) hn

theorem pay29_at (p : Fin 8732) : k0_pay29 b h x1 (ix2 0 p) = if b (ix2 0 p) < Spec.half then 0 else x1 (ix3 0 4 (c p)) := by
  rw [← pay24_at h x1 c hh]
  pointwise [k0_pay29]

variable (lab : Fin 32 → BitVec 32) (hl : ∀ j, x1 (ix3 0 4 j) = (((lab j).toInt : ℝ) : EReal))

include hl

theorem pay29_word (p : Fin 8732) : k0_pay29 b h x1 (ix2 0 p) = (((Spec.word (b (ix2 0 p)) (lab (c p))).toInt : ℝ) : EReal) := by
  rw [pay29_at (hh := hh), hl, Spec.word]
  split <;> simp

theorem pay30_at (p : Fin 8732) : k0_pay30 b h x1 (ix2 0 p) = if Spec.word (b (ix2 0 p)) (lab (c p)) = 0#32 then 0 else 1 := by
  have e : k0_pay30 b h x1 (ix2 0 p) = FloatOps.sitofp .f32 (BitVec.setWidth 32 (Ideal.cmp .one (k0_pay29 b h x1 (ix2 0 p)) 0)) := by
    pointwise [k0_pay30]
  rw [e, mark_at, pay29_word b h x1 c hh lab hl]
  generalize Spec.word (b (ix2 0 p)) (lab (c p)) = k
  by_cases hk : k = 0#32
  · subst hk; rw [if_pos rfl, if_neg]; simp [Ideal.cmp]
  · rw [if_neg hk, if_pos]
    have h0 : k.toInt ≠ 0 := fun h => hk (BitVec.eq_of_toInt_eq (by rw [h]; rfl))
    simp [Ideal.cmp, h0]

end Gather

section Conf

variable (L : FVec Ideal S2x8732 .f32) (x4 : Vec Ideal S1x8732x81 .f32)

theorem pay40_at (p : Fin 8732) : k0_pay40 L x4 (ix2 0 p) = Ideal.log (∑ c : Fin 81, Ideal.exp (x4 (ix3 0 p c))) := by
  pointwise [k0_pay40, k0_pay39]

theorem pay41_at (p : Fin 8732) : k0_pay41 L x4 (ix2 0 p) =
   ∑ c : Fin 81, x4 (ix3 0 p c) * (FloatOps.sitofp .f32 (BitVec.setWidth 32 (IntOp.cmpi .eq (BitVec.ofNat 32 c.val) (Ideal.fptosi 32 (L (ix2 0 p))))) : Ideal .f32) := by
  pointwise [k0_pay41, k0_pay39, k0_pay36]
  rfl

theorem fptosi_word (k : BitVec 32) : Ideal.fptosi 32 ((k.toInt : ℝ) : EReal) = k := by
  rw [Ideal.fptosi, Ideal.toIntClamped_coe]
  have h1 := k.toInt_lt
  have h2 := k.le_toInt
  have : (if (0 : ℝ) ≤ (k.toInt : ℝ) then ⌊(k.toInt : ℝ)⌋ else ⌈(k.toInt : ℝ)⌉) = k.toInt := by split <;> simp
  rw [this, show max (-((2 ^ (32 - 1) : ℕ) : ℤ)) (min (((2 ^ (32 - 1) : ℕ) : ℤ) - 1) k.toInt) = k.toInt by norm_num at h1 h2 ⊢; omega]
  exact BitVec.ofInt_toInt

/-- The sum over classes of the scores times a column with one 1 is the score of the class. -/
theorem pay41_class (p : Fin 8732) (k : Fin 81) (hL : L (ix2 0 p) = (((BitVec.ofNat 32 k.val).toInt : ℝ) : EReal)) :
    k0_pay41 L x4 (ix2 0 p) = x4 (ix3 0 p k) := by
  rw [pay41_at, hL, fptosi_word, Finset.sum_eq_single k]
  · rw [mark_at, if_pos (by simp [IntOp.cmpi]), mul_one]
  · intro c _ hc
    have : BitVec.ofNat 32 c.val ≠ BitVec.ofNat 32 k.val := fun e => hc (Fin.ext (Spec.ofNat_inj (by omega) (by omega) e))
    have hf : (BitVec.ofNat 32 c.val == BitVec.ofNat 32 k.val) = false := beq_false_of_ne this
    rw [mark_at, if_neg (by simp [IntOp.cmpi, hf]), mul_zero]
  · intro hn; exact absurd (Finset.mem_univ _) hn

end Conf

theorem pay38_at (g0 g1 g2 g3 : FVec Ideal S1x8732 .f32) (L : FVec Ideal S2x8732 .f32) (x3 : Vec Ideal S1x8732x4 .f32) (acc : Vec Ideal S1x1 .f32) :
    k0_pay38 g0 g1 g2 g3 L x3 acc (ix2 0 0) = acc (ix2 0 0) + ∑ k : Fin 4, ∑ p : Fin 8732,
      Spec.dist (fun k => x3 (ix3 0 p k)) ![g0 (ix2 0 p), g1 (ix2 0 p), g2 (ix2 0 p), g3 (ix2 0 p)] k * L (ix2 1 p) := by
  pointwise [k0_pay38, k0_pay36]
  refine congrArg (fun z : EReal => acc (ix2 0 0) + z) (Finset.sum_congr rfl fun k _ => Finset.sum_congr rfl fun p _ => ?_)
  refine congrArg (fun z : EReal => z * L (ix2 1 p)) ?_
  match k with
  | ⟨0, _⟩ => rfl
  | ⟨1, _⟩ => rfl
  | ⟨2, _⟩ => rfl
  | ⟨3, _⟩ => rfl

section Image

variable (x0 : Vec Ideal S1x32x4 .f32) (x1 : Vec Ideal S1x8x32 .f32) (x2 : Vec Ideal S4x8732 .f32) (lab : Fin 32 → BitVec 32)
  (hl : ∀ j, x1 (ix3 0 4 j) = (((lab j).toInt : ℝ) : EReal))

/-- The class words of one image. -/
abbrev words (p : Fin 8732) : BitVec 32 := Spec.word (Spec.val (ov x0 x2) p) (lab (Spec.obj (ov x0 x2) p))

include hl

theorem cls_at0 (p : Fin 8732) : cls (F := Ideal) x0 x1 x2 (ix2 0 p) = (((words x0 x2 lab p).toInt : ℝ) : EReal) := by
  have e : cls (F := Ideal) x0 x1 x2 (ix2 0 p) = k0_pay29 (best x0 x2) (hot x0 x2) x1 (ix2 0 p) := by
    pointwise [cls, k0_pay35]
  rw [e, pay29_word _ _ x1 _ (hot_at x0 x2) lab hl, best_at]

theorem cls_at1 (p : Fin 8732) : cls (F := Ideal) x0 x1 x2 (ix2 1 p) = if words x0 x2 lab p = 0#32 then 0 else 1 := by
  have e : cls (F := Ideal) x0 x1 x2 (ix2 1 p) = k0_pay30 (best x0 x2) (hot x0 x2) x1 (ix2 0 p) := by
    pointwise [cls, k0_pay35]
  rw [e, pay30_at _ _ x1 _ (hot_at x0 x2) lab hl, best_at]

theorem posRow_at (p : Fin 8732) : posRow (F := Ideal) x0 x1 x2 (ix3 0 0 p) = if words x0 x2 lab p = 0#32 then 0 else 1 := by
  have e : posRow (F := Ideal) x0 x1 x2 (ix3 0 0 p) = k0_pay30 (best x0 x2) (hot x0 x2) x1 (ix2 0 p) := by
    pointwise [posRow, k0_pay2]
  rw [e, pay30_at _ _ x1 _ (hot_at x0 x2) lab hl, best_at]

theorem confRow_at (x4 : Vec Ideal S1x8732x81 .f32) (p : Fin 8732) (k : Fin 81) (hk : words x0 x2 lab p = BitVec.ofNat 32 k.val) :
    confRow (F := Ideal) x0 x1 x2 x4 (ix3 0 0 p) = Spec.conf (fun c => x4 (ix3 0 p c)) k := by
  have e : confRow (F := Ideal) x0 x1 x2 x4 (ix3 0 0 p)
      = k0_pay40 (cls x0 x1 x2) x4 (ix2 0 p) - k0_pay41 (cls x0 x1 x2) x4 (ix2 0 p) := by
    pointwise [confRow, k0_pay1]
  rw [e, pay40_at, pay41_class _ x4 p k (by rw [cls_at0 x0 x1 x2 lab hl, hk]), Spec.conf]

/-- The offsets of one prior. -/
theorem target_at (hb : ∀ (k : Fin 4) j, x1 (ix3 0 ⟨k.val, by omega⟩ j) = x0 (ix3 0 j k)) (p : Fin 8732) :
    ![k0_pay31 (k0_pay4 (row 0 x2)) (k0_pay6 (row 2 x2)) (hot (F := Ideal) x0 x2) x1 (ix2 0 p),
      k0_pay32 (k0_pay5 (row 1 x2)) (k0_pay7 (row 3 x2)) (hot x0 x2) x1 (ix2 0 p),
      k0_pay33 (k0_pay6 (row 2 x2)) (hot x0 x2) x1 (ix2 0 p), k0_pay34 (k0_pay7 (row 3 x2)) (hot x0 x2) x1 (ix2 0 p)]
      = Spec.target (fun k => x0 (ix3 0 (Spec.obj (ov x0 x2) p) k)) (fun k => x2 (ix2 k p)) := by
  have h : ∀ k : Fin 4, k0_pay24 (hot (F := Ideal) x0 x2) x1 (ix2 ⟨k.val, by omega⟩ p) = x0 (ix3 0 (Spec.obj (ov x0 x2) p) k) := fun k => by
    rw [pay24_at _ x1 _ (hot_at x0 x2), hb]
  have h0 := h 0
  have h1 := h 1
  have h2 := h 2
  have h3 := h 3
  unfold Spec.target
  simp only [← h]
  pointwise [k0_pay31, k0_pay32, k0_pay33, k0_pay34, k0_pay25, k0_pay26, k0_pay27, k0_pay28, k0_pay4, k0_pay5, k0_pay6, k0_pay7, row]

theorem locSum_at (hb : ∀ (k : Fin 4) j, x1 (ix3 0 ⟨k.val, by omega⟩ j) = x0 (ix3 0 j k)) (x3 : Vec Ideal S1x8732x4 .f32) (acc : Vec Ideal S1x1 .f32) :
    locSum (F := Ideal) x0 x1 x2 x3 acc (ix2 0 0) = acc (ix2 0 0) + ∑ k : Fin 4, ∑ p : Fin 8732,
      Spec.dist (fun k => x3 (ix3 0 p k)) (Spec.target (fun k => x0 (ix3 0 (Spec.obj (ov x0 x2) p) k)) (fun k => x2 (ix2 k p))) k
        * (if words x0 x2 lab p = 0#32 then 0 else 1) := by
  rw [locSum, pay38_at]
  simp only [target_at x0 x1 x2 lab hl hb, cls_at1 x0 x1 x2 lab hl]

end Image

end Cert.KernelIdeal.Pay

end
-- ==== Proof.Blocks.lean ====
/- The blocks the body reads, in terms of the arguments. -/
module

public import proofs.«01_k».proof.Proof.Launch
public import proofs.«01_k».proof.Proof.Pay

@[expose] public section

set_option maxRecDepth 16384

noncomputable section

namespace Cert.KernelIdeal.Blocks

open Cert.KernelIdeal Cert.KernelIdeal.Gen Cert.KernelIdeal.Body Cert.KernelIdeal.Launch
open Idealize.ShloMosaic Idealize.ShloMosaic.TcCoe Idealize.ShloMosaic.Tactic
open Idealize.SL.Sem

variable (m : (ℓ : Loc nD τ sig) → Buf (Elt Ideal) ℓ) (c : Dev nD)

theorem V_priors : V m c main_v0 = transpose S4x8732 [1, 0] (m ((c : Thread nD τ).loc main_arg4) : (⟨S8732x4, .f32⟩ : BufTy).Contents (Elt Ideal)) transposes_S8732x4_S4x8732_1_0 := by
  unfold V
  after_results

theorem index0 : ∀ t : Fin grid0.N, win0_0.index t = ![t.val, 0, 0] := by decide +kernel
theorem index1 : ∀ t : Fin grid0.N, win0_1.index t = ![t.val, 0, 0] := by decide +kernel
theorem index2 : ∀ t : Fin grid0.N, win0_2.index t = ![0, 0] := by decide +kernel
theorem index3 : ∀ t : Fin grid0.N, win0_3.index t = ![t.val, 0, 0] := by decide +kernel
theorem index4 : ∀ t : Fin grid0.N, win0_4.index t = ![t.val, 0, 0] := by decide +kernel

theorem iblk0_at (t : Fin cfg0.N) (b : Fin 32) (hb : b.val = t.val) (o : Fin 32) (k : Fin 4) :
    iblk m c 0 t (ix3 0 o k) = m ((c : Thread nD τ).loc main_arg2) (ix3 b o k) := by
  rw [← V_main_arg2 m c]
  show V m c main_arg2 (((cfg0.win 0).blk t).view.emb (ix3 0 o k)) = _
  congr 1
  funext a
  match a with
  | ⟨0, _⟩ => apply Fin.ext; blk_simp; rw [index0]; simp [hb]
  | ⟨1, _⟩ => apply Fin.ext; blk_simp; rw [index0]; simp
  | ⟨2, _⟩ => apply Fin.ext; blk_simp; rw [index0]; simp

theorem iblk2_at (t : Fin cfg0.N) (k : Fin 4) (p : Fin 8732) :
    iblk m c 2 t (ix2 k p) = m ((c : Thread nD τ).loc main_arg4) (ix2 p k) := by
  have e : iblk m c 2 t (ix2 k p) = V m c main_v0 (ix2 k p) := by
    show V m c main_v0 (((cfg0.win 2).blk t).view.emb (ix2 k p)) = _
    congr 1
    funext a
    match a with
    | ⟨0, _⟩ => apply Fin.ext; blk_simp; rw [index2]; simp
    | ⟨1, _⟩ => apply Fin.ext; blk_simp; rw [index2]; simp
  rw [e, V_priors]
  pointwise []

theorem iblk3_at (t : Fin cfg0.N) (b : Fin 32) (hb : b.val = t.val) (p : Fin 8732) (k : Fin 4) :
    iblk m c 3 t (ix3 0 p k) = m ((c : Thread nD τ).loc main_arg0) (ix3 b p k) := by
  rw [← V_main_arg0 m c]
  show V m c main_arg0 (((cfg0.win 3).blk t).view.emb (ix3 0 p k)) = _
  congr 1
  funext a
  match a with
  | ⟨0, _⟩ => apply Fin.ext; blk_simp; rw [index3]; simp [hb]
  | ⟨1, _⟩ => apply Fin.ext; blk_simp; rw [index3]; simp
  | ⟨2, _⟩ => apply Fin.ext; blk_simp; rw [index3]; simp

theorem iblk4_at (t : Fin cfg0.N) (b : Fin 32) (hb : b.val = t.val) (p : Fin 8732) (k : Fin 81) :
    iblk m c 4 t (ix3 0 p k) = m ((c : Thread nD τ).loc main_arg1) (ix3 b p k) := by
  rw [← V_main_arg1 m c]
  show V m c main_arg1 (((cfg0.win 4).blk t).view.emb (ix3 0 p k)) = _
  congr 1
  funext a
  match a with
  | ⟨0, _⟩ => apply Fin.ext; blk_simp; rw [index4]; simp [hb]
  | ⟨1, _⟩ => apply Fin.ext; blk_simp; rw [index4]; simp
  | ⟨2, _⟩ => apply Fin.ext; blk_simp; rw [index4]; simp

theorem cat3_congr {a a' : FVec Ideal S32x4x32 .f32} {b b' : FVec Ideal S32x1x32 .f32} {d d' : FVec Ideal S32x3x32 .f32} (ha : a = a') (hb : b = b') (hd : d = d') :
    concatenate S32x8x32 1 [⟨S32x4x32, a⟩, ⟨S32x1x32, b⟩, ⟨S32x3x32, d⟩] concatenates_S32x4x32_S32x1x32_S32x3x32_S32x8x32_d1
      = concatenate S32x8x32 1 [⟨S32x4x32, a'⟩, ⟨S32x1x32, b'⟩, ⟨S32x3x32, d'⟩] concatenates_S32x4x32_S32x1x32_S32x3x32_S32x8x32_d1 := by
  rw [ha, hb, hd]

theorem V_v1 : V m c main_v1 = transpose S32x4x32 [0, 2, 1] (m ((c : Thread nD τ).loc main_arg2) : (⟨S32x32x4, .f32⟩ : BufTy).Contents (Elt Ideal)) transposes_S32x32x4_S32x4x32_0_2_1 := by
  unfold V
  after_results

theorem V_v3 : V m c main_v3 = broadcastInDim S32x1x32 ![0, 2] bcast_S32x32_S32x1x32_0_2 (sitofp .f32 (m ((c : Thread nD τ).loc main_arg3) : (⟨S32x32, .i32⟩ : BufTy).Contents (Elt Ideal)) : FVec Ideal S32x32 .f32) := by
  unfold V
  after_results

theorem V_v4 : V m c main_v4 = broadcastInDim S32x3x32 ![] bcast_S_S32x3x32 (constant S_ .f32 0x00000000#32 : FVec Ideal S_ .f32) := by
  unfold V
  after_results

/-- The array of boxes and labels, one image per block: rows 0 to 3 the boxes' edges, row 4 the labels. -/
theorem V_boxes : V m c main_v5 = concatenate S32x8x32 1
    [⟨S32x4x32, transpose S32x4x32 [0, 2, 1] (m ((c : Thread nD τ).loc main_arg2) : (⟨S32x32x4, .f32⟩ : BufTy).Contents (Elt Ideal)) transposes_S32x32x4_S32x4x32_0_2_1⟩,
     ⟨S32x1x32, broadcastInDim S32x1x32 ![0, 2] bcast_S32x32_S32x1x32_0_2 (sitofp .f32 (m ((c : Thread nD τ).loc main_arg3) : (⟨S32x32, .i32⟩ : BufTy).Contents (Elt Ideal)) : FVec Ideal S32x32 .f32)⟩,
     ⟨S32x3x32, broadcastInDim S32x3x32 ![] bcast_S_S32x3x32 (constant S_ .f32 0x00000000#32 : FVec Ideal S_ .f32)⟩] concatenates_S32x4x32_S32x1x32_S32x3x32_S32x8x32_d1 := by
  unfold V
  after_results
  refine cat3_congr ?_ ?_ ?_
  · exact (Eq.trans (b := V m c main_v1) rfl (V_v1 m c))
  · exact (Eq.trans (b := V m c main_v3) rfl (V_v3 m c))
  · exact (Eq.trans (b := V m c main_v4) rfl (V_v4 m c))

theorem iblk1_row (t : Fin cfg0.N) (b : Fin 32) (hb : b.val = t.val) (r : Fin 8) (o : Fin 32) :
    iblk m c 1 t (ix3 0 r o) = V m c main_v5 (ix3 b r o) := by
  show V m c main_v5 (((cfg0.win 1).blk t).view.emb (ix3 0 r o)) = _
  congr 1
  funext a
  match a with
  | ⟨0, _⟩ => apply Fin.ext; blk_simp; rw [index1]; simp [hb]
  | ⟨1, _⟩ => apply Fin.ext; blk_simp; rw [index1]; simp
  | ⟨2, _⟩ => apply Fin.ext; blk_simp; rw [index1]; simp

theorem iblk1_label (t : Fin cfg0.N) (b : Fin 32) (hb : b.val = t.val) (o : Fin 32) :
    iblk m c 1 t (ix3 0 4 o) = ((((m ((c : Thread nD τ).loc main_arg3) : (⟨S32x32, .i32⟩ : BufTy).Contents (Elt Ideal)) (ix2 b o)).toInt : ℝ) : EReal) := by
  rw [iblk1_row m c t b hb, V_boxes]
  pointwise []
  rfl

theorem iblk1_box (t : Fin cfg0.N) (b : Fin 32) (hb : b.val = t.val) (k : Fin 4) (o : Fin 32) :
    iblk m c 1 t (ix3 0 ⟨k.val, by omega⟩ o) = m ((c : Thread nD τ).loc main_arg2) (ix3 b o k) := by
  rw [iblk1_row m c t b hb, V_boxes]
  pointwise []

end Cert.KernelIdeal.Blocks

end
-- ==== Proof.RefStages.lean ====
/- What the reference computes, stage by stage, as functions of the arrays each stage reads. -/
module

public import proofs.«01_k».proof.Proof.Gen.ReferenceIdeal
public import Idealize.ShloMosaic.Lib.Pointwise

@[expose] public section

set_option maxRecDepth 16384
set_option Elab.async false

noncomputable section

namespace Cert.ReferenceIdeal.Ref

open Cert.ReferenceIdeal Cert.ReferenceIdeal.Gen
open Idealize.ShloMosaic Idealize.ShloMosaic.TcCoe Idealize.ShloMosaic.Tactic
open Idealize.SL.Sem
open StableHlo (after)

def corners (x4 : FVec Ideal S8732x4 .f32) : FVec Ideal S8732x4 .f32 :=
  have v0 : FVec Ideal S8732x2 .f32 := ((extractStridedSlice S8732x2 ![0, 0] · slices_S8732x4_S8732x2_0_0)) x4
  have v1 : FVec Ideal S8732x2 .f32 := ((extractStridedSlice S8732x2 ![0, 2] · slices_S8732x4_S8732x2_0_2)) x4
  have cst : FVec Ideal S_ .f32 := (constant S_ .f32 0x40000000#32)
  have v2 : FVec Ideal S8732x2 .f32 := (broadcastInDim S8732x2 ![] bcast_S_S8732x2) cst
  have v3 : FVec Ideal S8732x2 .f32 := (Host.divf) v1 v2
  have v4 : FVec Ideal S8732x2 .f32 := (subf) v0 v3
  have v5 : FVec Ideal S8732x2 .f32 := ((extractStridedSlice S8732x2 ![0, 0] · slices_S8732x4_S8732x2_0_0)) x4
  have v6 : FVec Ideal S8732x2 .f32 := ((extractStridedSlice S8732x2 ![0, 2] · slices_S8732x4_S8732x2_0_2)) x4
  have cst_0 : FVec Ideal S_ .f32 := (constant S_ .f32 0x40000000#32)
  have v7 : FVec Ideal S8732x2 .f32 := (broadcastInDim S8732x2 ![] bcast_S_S8732x2) cst_0
  have v8 : FVec Ideal S8732x2 .f32 := (Host.divf) v6 v7
  have v9 : FVec Ideal S8732x2 .f32 := (addf) v5 v8
  ((fun a b => concatenate S8732x4 1 [⟨S8732x2, a⟩, ⟨S8732x2, b⟩] concatenates_S8732x2_S8732x2_S8732x4_d1)) v4 v9

def image : IVec S32x1 32 :=
  have v11 : IVec S32 32 := (iotaInDim S32 32 0)
  (broadcastInDim S32x1 ![0] bcast_S32_S32x1_0) v11

def overlap (x2 : FVec Ideal S32x32x4 .f32) (v10 : FVec Ideal S8732x4 .f32) : FVec Ideal S32x32x8732 .f32 :=
  have v21 : FVec Ideal S32x32x2 .f32 := ((extractStridedSlice S32x32x2 ![0, 0, 2] · slices_S32x32x4_S32x32x2_0_0_2)) x2
  have v22 : FVec Ideal S32x32x1x2 .f32 := (broadcastInDim S32x32x1x2 ![0, 1, 3] bcast_S32x32x2_S32x32x1x2_0_1_3) v21
  have v26 : FVec Ideal S32x32x8732x2 .f32 := (broadcastInDim S32x32x8732x2 ![0, 1, 2, 3] bcast_S32x32x1x2_S32x32x8732x2_0_1_2_3) v22
  have v23 : FVec Ideal S8732x2 .f32 := ((extractStridedSlice S8732x2 ![0, 2] · slices_S8732x4_S8732x2_0_2)) v10
  have v24 : FVec Ideal S1x8732x2 .f32 := (broadcastInDim S1x8732x2 ![1, 2] bcast_S8732x2_S1x8732x2_1_2) v23
  have v25 : FVec Ideal S1x1x8732x2 .f32 := (broadcastInDim S1x1x8732x2 ![1, 2, 3] bcast_S1x8732x2_S1x1x8732x2_1_2_3) v24
  have v27 : FVec Ideal S32x32x8732x2 .f32 := (broadcastInDim S32x32x8732x2 ![0, 1, 2, 3] bcast_S1x1x8732x2_S32x32x8732x2_0_1_2_3) v25
  have v28 : FVec Ideal S32x32x8732x2 .f32 := (minimumf) v26 v27
  have v13 : FVec Ideal S32x32x2 .f32 := ((extractStridedSlice S32x32x2 ![0, 0, 0] · slices_S32x32x4_S32x32x2_0_0_0)) x2
  have v14 : FVec Ideal S32x32x1x2 .f32 := (broadcastInDim S32x32x1x2 ![0, 1, 3] bcast_S32x32x2_S32x32x1x2_0_1_3) v13
  have v18 : FVec Ideal S32x32x8732x2 .f32 := (broadcastInDim S32x32x8732x2 ![0, 1, 2, 3] bcast_S32x32x1x2_S32x32x8732x2_0_1_2_3) v14
  have v15 : FVec Ideal S8732x2 .f32 := ((extractStridedSlice S8732x2 ![0, 0] · slices_S8732x4_S8732x2_0_0)) v10
  have v16 : FVec Ideal S1x8732x2 .f32 := (broadcastInDim S1x8732x2 ![1, 2] bcast_S8732x2_S1x8732x2_1_2) v15
  have v17 : FVec Ideal S1x1x8732x2 .f32 := (broadcastInDim S1x1x8732x2 ![1, 2, 3] bcast_S1x8732x2_S1x1x8732x2_1_2_3) v16
  have v19 : FVec Ideal S32x32x8732x2 .f32 := (broadcastInDim S32x32x8732x2 ![0, 1, 2, 3] bcast_S1x1x8732x2_S32x32x8732x2_0_1_2_3) v17
  have v20 : FVec Ideal S32x32x8732x2 .f32 := (maximumf) v18 v19
  have v29 : FVec Ideal S32x32x8732x2 .f32 := (subf) v28 v20
  have cst_1 : FVec Ideal S_ .f32 := (constant S_ .f32 0x00000000#32)
  have v30 : FVec Ideal S32x32x8732x2 .f32 := (broadcastInDim S32x32x8732x2 ![] bcast_S_S32x32x8732x2) cst_1
  have v31 : FVec Ideal S32x32x8732x2 .f32 := (maximumf) v29 v30
  have v32 : FVec Ideal S32x32x8732x1 .f32 := ((extractStridedSlice S32x32x8732x1 ![0, 0, 0, 0] · slices_S32x32x8732x2_S32x32x8732x1_0_0_0_0)) v31
  have v33 : FVec Ideal S32x32x8732 .f32 := shapeCast S32x32x8732 v32 shapeCasts_S32x32x8732x1_S32x32x8732
  have v34 : FVec Ideal S32x32x8732x1 .f32 := ((extractStridedSlice S32x32x8732x1 ![0, 0, 0, 1] · slices_S32x32x8732x2_S32x32x8732x1_0_0_0_1)) v31
  have v35 : FVec Ideal S32x32x8732 .f32 := shapeCast S32x32x8732 v34 shapeCasts_S32x32x8732x1_S32x32x8732
  have v36 : FVec Ideal S32x32x8732 .f32 := (mulf) v33 v35
  have v37 : FVec Ideal S32x32x1 .f32 := ((extractStridedSlice S32x32x1 ![0, 0, 2] · slices_S32x32x4_S32x32x1_0_0_2)) x2
  have v38 : FVec Ideal S32x32 .f32 := shapeCast S32x32 v37 shapeCasts_S32x32x1_S32x32
  have v39 : FVec Ideal S32x32x1 .f32 := ((extractStridedSlice S32x32x1 ![0, 0, 0] · slices_S32x32x4_S32x32x1_0_0_0)) x2
  have v40 : FVec Ideal S32x32 .f32 := shapeCast S32x32 v39 shapeCasts_S32x32x1_S32x32
  have v41 : FVec Ideal S32x32 .f32 := (subf) v38 v40
  have v42 : FVec Ideal S32x32x1 .f32 := ((extractStridedSlice S32x32x1 ![0, 0, 3] · slices_S32x32x4_S32x32x1_0_0_3)) x2
  have v43 : FVec Ideal S32x32 .f32 := shapeCast S32x32 v42 shapeCasts_S32x32x1_S32x32
  have v44 : FVec Ideal S32x32x1 .f32 := ((extractStridedSlice S32x32x1 ![0, 0, 1] · slices_S32x32x4_S32x32x1_0_0_1)) x2
  have v45 : FVec Ideal S32x32 .f32 := shapeCast S32x32 v44 shapeCasts_S32x32x1_S32x32
  have v46 : FVec Ideal S32x32 .f32 := (subf) v43 v45
  have v47 : FVec Ideal S32x32 .f32 := (mulf) v41 v46
  have v59 : FVec Ideal S32x32x1 .f32 := (broadcastInDim S32x32x1 ![0, 1] bcast_S32x32_S32x32x1_0_1) v47
  have v62 : FVec Ideal S32x32x8732 .f32 := (broadcastInDim S32x32x8732 ![0, 1, 2] bcast_S32x32x1_S32x32x8732_0_1_2) v59
  have v48 : FVec Ideal S8732x1 .f32 := ((extractStridedSlice S8732x1 ![0, 2] · slices_S8732x4_S8732x1_0_2)) v10
  have v49 : FVec Ideal S8732 .f32 := shapeCast S8732 v48 shapeCasts_S8732x1_S8732
  have v50 : FVec Ideal S8732x1 .f32 := ((extractStridedSlice S8732x1 ![0, 0] · slices_S8732x4_S8732x1_0_0)) v10
  have v51 : FVec Ideal S8732 .f32 := shapeCast S8732 v50 shapeCasts_S8732x1_S8732
  have v52 : FVec Ideal S8732 .f32 := (subf) v49 v51
  have v53 : FVec Ideal S8732x1 .f32 := ((extractStridedSlice S8732x1 ![0, 3] · slices_S8732x4_S8732x1_0_3)) v10
  have v54 : FVec Ideal S8732 .f32 := shapeCast S8732 v53 shapeCasts_S8732x1_S8732
  have v55 : FVec Ideal S8732x1 .f32 := ((extractStridedSlice S8732x1 ![0, 1] · slices_S8732x4_S8732x1_0_1)) v10
  have v56 : FVec Ideal S8732 .f32 := shapeCast S8732 v55 shapeCasts_S8732x1_S8732
  have v57 : FVec Ideal S8732 .f32 := (subf) v54 v56
  have v58 : FVec Ideal S8732 .f32 := (mulf) v52 v57
  have v60 : FVec Ideal S1x8732 .f32 := (broadcastInDim S1x8732 ![1] bcast_S8732_S1x8732_1) v58
  have v61 : FVec Ideal S1x1x8732 .f32 := (broadcastInDim S1x1x8732 ![1, 2] bcast_S1x8732_S1x1x8732_1_2) v60
  have v63 : FVec Ideal S32x32x8732 .f32 := (broadcastInDim S32x32x8732 ![0, 1, 2] bcast_S1x1x8732_S32x32x8732_0_1_2) v61
  have v64 : FVec Ideal S32x32x8732 .f32 := (addf) v62 v63
  have v65 : FVec Ideal S32x32x8732 .f32 := (subf) v64 v36
  have cst_2 : FVec Ideal S_ .f32 := (constant S_ .f32 0x2EDBE6FF#32)
  have v66 : FVec Ideal S32x32x8732 .f32 := (broadcastInDim S32x32x8732 ![] bcast_S_S32x32x8732) cst_2
  have v67 : FVec Ideal S32x32x8732 .f32 := (addf) v65 v66
  (Host.divf) v36 v67

def top (v68 : FVec Ideal S32x32x8732 .f32) : FVec Ideal S32x8732 .f32 :=
  have cst_3 : FVec Ideal S_ .f32 := (constant S_ .f32 0xFF800000#32)
  ((fun x v => Host.reduce FloatOps.maximumf x v reducesTo_S32x32x8732_S32x8732_d1 h_S_)) v68 cst_3

def bestObject (v68 : FVec Ideal S32x32x8732 .f32) : IVec S32x8732 32 :=
  have call0_v0 : IVec S32x32x8732 32 := (iotaInDim S32x32x8732 32 1)
  have call0_cst : FVec Ideal S_ .f32 := (constant S_ .f32 0xFF800000#32)
  have call0_c : IVec S_ 32 := (constantI S_ 32 0#32)
  (fun x y u v j => (Host.argReduce reducer_argmax_f32_i32 x y u v reducesTo_S32x32x8732_S32x8732_d1 h_S_ j).2) v68 call0_v0 call0_cst call0_c

def bestPrior (v68 : FVec Ideal S32x32x8732 .f32) : IVec S32x32 32 :=
  have call1_v0 : IVec S32x32x8732 32 := (iotaInDim S32x32x8732 32 2)
  have call1_cst : FVec Ideal S_ .f32 := (constant S_ .f32 0xFF800000#32)
  have call1_c : IVec S_ 32 := (constantI S_ 32 0#32)
  (fun x y u v j => (Host.argReduce reducer_argmax_f32_i32 x y u v reducesTo_S32x32x8732_S32x32_d2 h_S_ j).2) v68 call1_v0 call1_cst call1_c

def object : IVec S32 32 :=
  (iotaInDim S32 32 0)

def pairs (v12 : IVec S32x1 32) (v71 : IVec S32x32 32) : IVec S32x32x2 32 :=
  have c : IVec S_ 32 := (constantI S_ 32 0#32)
  have v73 : IVec S32x1 32 := (broadcastInDim S32x1 ![] bcast_S_S32x1) c
  have v74 : IVec S32x1 1 := (cmpi .slt) v12 v73
  have c_4 : IVec S_ 32 := (constantI S_ 32 32#32)
  have v75 : IVec S32x1 32 := (broadcastInDim S32x1 ![] bcast_S_S32x1) c_4
  have v76 : IVec S32x1 32 := (addi) v12 v75
  have v77 : IVec S32x1 32 := (select) v74 v76 v12
  have v83 : IVec S32x32 32 := (broadcastInDim S32x32 ![0, 1] bcast_S32x1_S32x32_0_1) v77
  have v84 : IVec S32x32x1 32 := (broadcastInDim S32x32x1 ![0, 1] bcast_S32x32_S32x32x1_0_1) v83
  have c_5 : IVec S_ 32 := (constantI S_ 32 0#32)
  have v78 : IVec S32x32 32 := (broadcastInDim S32x32 ![] bcast_S_S32x32) c_5
  have v79 : IVec S32x32 1 := (cmpi .slt) v71 v78
  have c_6 : IVec S_ 32 := (constantI S_ 32 8732#32)
  have v80 : IVec S32x32 32 := (broadcastInDim S32x32 ![] bcast_S_S32x32) c_6
  have v81 : IVec S32x32 32 := (addi) v71 v80
  have v82 : IVec S32x32 32 := (select) v79 v81 v71
  have v85 : IVec S32x32x1 32 := (broadcastInDim S32x32x1 ![0, 1] bcast_S32x32_S32x32x1_0_1) v82
  ((fun a b => concatenate S32x32x2 2 [⟨S32x32x1, a⟩, ⟨S32x32x1, b⟩] concatenates_S32x32x1_S32x32x1_S32x32x2_d2)) v84 v85

def objects (v70 : IVec S32x8732 32) (v72 : IVec S32 32) (v86 : IVec S32x32x2 32) : IVec S32x8732 32 :=
  have v87 : IVec S32x32 32 := (broadcastInDim S32x32 ![1] bcast_S32_S32x32_1) v72
  ((fun x i u => Host.scatter scatter_S32x8732_S32x32x2_S32x32_n_01_01_2 (fun _ b => b) x i u)) v70 v86 v87

def marked (v69 : FVec Ideal S32x8732 .f32) (v102 : IVec S32x32x2 32) : FVec Ideal S32x8732 .f32 :=
  have cst_11 : FVec Ideal S_ .f32 := (constant S_ .f32 0x3F800000#32)
  have v103 : FVec Ideal S32x32 .f32 := (broadcastInDim S32x32 ![] bcast_S_S32x32) cst_11
  ((fun x i u => Host.scatter scatter_S32x8732_S32x32x2_S32x32_n_01_01_2 (fun _ b => b) x i u)) v69 v102 v103

def spots (v12 : IVec S32x1 32) (v88 : IVec S32x8732 32) : IVec S32x8732x2 32 :=
  have c_12 : IVec S_ 32 := (constantI S_ 32 0#32)
  have v105 : IVec S32x1 32 := (broadcastInDim S32x1 ![] bcast_S_S32x1) c_12
  have v106 : IVec S32x1 1 := (cmpi .slt) v12 v105
  have c_13 : IVec S_ 32 := (constantI S_ 32 32#32)
  have v107 : IVec S32x1 32 := (broadcastInDim S32x1 ![] bcast_S_S32x1) c_13
  have v108 : IVec S32x1 32 := (addi) v12 v107
  have v109 : IVec S32x1 32 := (select) v106 v108 v12
  have v115 : IVec S32x8732 32 := (broadcastInDim S32x8732 ![0, 1] bcast_S32x1_S32x8732_0_1) v109
  have v116 : IVec S32x8732x1 32 := (broadcastInDim S32x8732x1 ![0, 1] bcast_S32x8732_S32x8732x1_0_1) v115
  have c_14 : IVec S_ 32 := (constantI S_ 32 0#32)
  have v110 : IVec S32x8732 32 := (broadcastInDim S32x8732 ![] bcast_S_S32x8732) c_14
  have v111 : IVec S32x8732 1 := (cmpi .slt) v88 v110
  have c_15 : IVec S_ 32 := (constantI S_ 32 32#32)
  have v112 : IVec S32x8732 32 := (broadcastInDim S32x8732 ![] bcast_S_S32x8732) c_15
  have v113 : IVec S32x8732 32 := (addi) v88 v112
  have v114 : IVec S32x8732 32 := (select) v111 v113 v88
  have v117 : IVec S32x8732x1 32 := (broadcastInDim S32x8732x1 ![0, 1] bcast_S32x8732_S32x8732x1_0_1) v114
  ((fun a b => concatenate S32x8732x2 2 [⟨S32x8732x1, a⟩, ⟨S32x8732x1, b⟩] concatenates_S32x8732x1_S32x8732x1_S32x8732x2_d2)) v116 v117

def classes (v104 : FVec Ideal S32x8732 .f32) (x3 : IVec S32x32 32) (v118 : IVec S32x8732x2 32) : IVec S32x8732 32 :=
  have cst_16 : FVec Ideal S_ .f32 := (constant S_ .f32 0x3F000000#32)
  have v120 : FVec Ideal S32x8732 .f32 := (broadcastInDim S32x8732 ![] bcast_S_S32x8732) cst_16
  have v121 : IVec S32x8732 1 := (cmpf .olt) v104 v120
  have c_17 : IVec S_ 32 := (constantI S_ 32 0#32)
  have call2_v0 : IVec S_ 32 := id c_17
  have call2_v1 : IVec S32x8732 32 := (broadcastInDim S32x8732 ![] bcast_S_S32x8732) call2_v0
  have v119 : IVec S32x8732 32 := ((fun x i => Host.gather gather_S32x32_S32x8732x2_S32x8732_n_01_n_n_01_2_11 x i)) x3 v118
  select v121 call2_v1 v119

def boxes (x2 : FVec Ideal S32x32x4 .f32) (v136 : IVec S32x8732x2 32) : FVec Ideal S32x8732x4 .f32 :=
  ((fun x i => Host.gather gather_S32x32x4_S32x8732x2_S32x8732x4_2_01_n_n_01_2_114 x i)) x2 v136

def locs (v137 : FVec Ideal S32x8732x4 .f32) (x4 : FVec Ideal S8732x4 .f32) : FVec Ideal S32x8732x4 .f32 :=
  have v138 : FVec Ideal S32x8732x2 .f32 := ((extractStridedSlice S32x8732x2 ![0, 0, 0] · slices_S32x8732x4_S32x8732x2_0_0_0)) v137
  have v139 : FVec Ideal S32x8732x2 .f32 := ((extractStridedSlice S32x8732x2 ![0, 0, 2] · slices_S32x8732x4_S32x8732x2_0_0_2)) v137
  have v140 : FVec Ideal S32x8732x2 .f32 := (addf) v138 v139
  have cst_22 : FVec Ideal S_ .f32 := (constant S_ .f32 0x40000000#32)
  have v141 : FVec Ideal S32x8732x2 .f32 := (broadcastInDim S32x8732x2 ![] bcast_S_S32x8732x2) cst_22
  have v142 : FVec Ideal S32x8732x2 .f32 := (Host.divf) v140 v141
  have v143 : FVec Ideal S32x8732x2 .f32 := ((extractStridedSlice S32x8732x2 ![0, 0, 2] · slices_S32x8732x4_S32x8732x2_0_0_2)) v137
  have v144 : FVec Ideal S32x8732x2 .f32 := ((extractStridedSlice S32x8732x2 ![0, 0, 0] · slices_S32x8732x4_S32x8732x2_0_0_0)) v137
  have v145 : FVec Ideal S32x8732x2 .f32 := (subf) v143 v144
  have v146 : FVec Ideal S32x8732x4 .f32 := ((fun a b => concatenate S32x8732x4 2 [⟨S32x8732x2, a⟩, ⟨S32x8732x2, b⟩] concatenates_S32x8732x2_S32x8732x2_S32x8732x4_d2)) v142 v145
  have v147 : FVec Ideal S32x8732x2 .f32 := ((extractStridedSlice S32x8732x2 ![0, 0, 0] · slices_S32x8732x4_S32x8732x2_0_0_0)) v146
  have v148 : FVec Ideal S8732x2 .f32 := ((extractStridedSlice S8732x2 ![0, 0] · slices_S8732x4_S8732x2_0_0)) x4
  have v149 : FVec Ideal S1x8732x2 .f32 := (broadcastInDim S1x8732x2 ![1, 2] bcast_S8732x2_S1x8732x2_1_2) v148
  have v150 : FVec Ideal S32x8732x2 .f32 := (broadcastInDim S32x8732x2 ![0, 1, 2] bcast_S1x8732x2_S32x8732x2_0_1_2) v149
  have v151 : FVec Ideal S32x8732x2 .f32 := (subf) v147 v150
  have v152 : FVec Ideal S8732x2 .f32 := ((extractStridedSlice S8732x2 ![0, 2] · slices_S8732x4_S8732x2_0_2)) x4
  have cst_23 : FVec Ideal S_ .f32 := (constant S_ .f32 0x41200000#32)
  have v153 : FVec Ideal S8732x2 .f32 := (broadcastInDim S8732x2 ![] bcast_S_S8732x2) cst_23
  have v154 : FVec Ideal S8732x2 .f32 := (Host.divf) v152 v153
  have v155 : FVec Ideal S1x8732x2 .f32 := (broadcastInDim S1x8732x2 ![1, 2] bcast_S8732x2_S1x8732x2_1_2) v154
  have v156 : FVec Ideal S32x8732x2 .f32 := (broadcastInDim S32x8732x2 ![0, 1, 2] bcast_S1x8732x2_S32x8732x2_0_1_2) v155
  have v157 : FVec Ideal S32x8732x2 .f32 := (Host.divf) v151 v156
  have v158 : FVec Ideal S32x8732x2 .f32 := ((extractStridedSlice S32x8732x2 ![0, 0, 2] · slices_S32x8732x4_S32x8732x2_0_0_2)) v146
  have cst_24 : FVec Ideal S_ .f32 := (constant S_ .f32 0x322BCC77#32)
  have v159 : FVec Ideal S32x8732x2 .f32 := (broadcastInDim S32x8732x2 ![] bcast_S_S32x8732x2) cst_24
  have v160 : FVec Ideal S32x8732x2 .f32 := (maximumf) v158 v159
  have v161 : FVec Ideal S8732x2 .f32 := ((extractStridedSlice S8732x2 ![0, 2] · slices_S8732x4_S8732x2_0_2)) x4
  have v162 : FVec Ideal S1x8732x2 .f32 := (broadcastInDim S1x8732x2 ![1, 2] bcast_S8732x2_S1x8732x2_1_2) v161
  have v163 : FVec Ideal S32x8732x2 .f32 := (broadcastInDim S32x8732x2 ![0, 1, 2] bcast_S1x8732x2_S32x8732x2_0_1_2) v162
  have v164 : FVec Ideal S32x8732x2 .f32 := (Host.divf) v160 v163
  have v165 : FVec Ideal S32x8732x2 .f32 := (Host.log) v164
  have cst_25 : FVec Ideal S_ .f32 := (constant S_ .f32 0x40A00000#32)
  have v166 : FVec Ideal S32x8732x2 .f32 := (broadcastInDim S32x8732x2 ![] bcast_S_S32x8732x2) cst_25
  have v167 : FVec Ideal S32x8732x2 .f32 := (mulf) v165 v166
  ((fun a b => concatenate S32x8732x4 2 [⟨S32x8732x2, a⟩, ⟨S32x8732x2, b⟩] concatenates_S32x8732x2_S32x8732x2_S32x8732x4_d2)) v157 v167

def posf (v122 : IVec S32x8732 32) : FVec Ideal S32x8732 .f32 :=
  have c_26 : IVec S_ 32 := (constantI S_ 32 0#32)
  have v169 : IVec S32x8732 32 := (broadcastInDim S32x8732 ![] bcast_S_S32x8732) c_26
  have v170 : IVec S32x8732 1 := (cmpi .ne) v122 v169
  (uitofp .f32) v170

def locSum (x0 : FVec Ideal S32x8732x4 .f32) (v168 : FVec Ideal S32x8732x4 .f32) (v171 : FVec Ideal S32x8732 .f32) : FVec Ideal S_ .f32 :=
  have v172 : FVec Ideal S32x8732x4 .f32 := (subf) x0 v168
  have v173 : FVec Ideal S32x8732x4 .f32 := (Host.absf) v172
  have cst_27 : FVec Ideal S_ .f32 := (constant S_ .f32 0x00000000#32)
  have v174 : FVec Ideal S32x8732 .f32 := ((fun x v => Host.reduceAdd x v reducesTo_S32x8732x4_S32x8732_d2 h_S_)) v173 cst_27
  have v175 : FVec Ideal S32x8732 .f32 := (mulf) v174 v171
  have cst_28 : FVec Ideal S_ .f32 := (constant S_ .f32 0x00000000#32)
  ((fun x v => Host.reduceAdd x v reducesTo_S32x8732_S_d0_1 h_S_)) v175 cst_28

def logp (x1 : FVec Ideal S32x8732x81 .f32) : FVec Ideal S32x8732x81 .f32 :=
  have call3_cst_0 : FVec Ideal S_ .f32 := (constant S_ .f32 0xFF800000#32)
  have call3_v1 : FVec Ideal S32x8732 .f32 := (broadcastInDim S32x8732 ![] bcast_S_S32x8732) call3_cst_0
  have call3_cst : FVec Ideal S_ .f32 := (constant S_ .f32 0xFF800000#32)
  have call3_v0 : FVec Ideal S32x8732 .f32 := (fun x v => Host.reduce FloatOps.maximumf x v reducesTo_S32x8732x81_S32x8732_d2 h_S_) x1 call3_cst
  have call3_v2 : FVec Ideal S32x8732 .f32 := maximumf call3_v1 call3_v0
  have call3_v3 : FVec Ideal S32x8732x1 .f32 := (broadcastInDim S32x8732x1 ![0, 1] bcast_S32x8732_S32x8732x1_0_1) call3_v2
  have call3_v4 : FVec Ideal S32x8732x81 .f32 := (broadcastInDim S32x8732x81 ![0, 1, 2] bcast_S32x8732x1_S32x8732x81_0_1_2) call3_v3
  have call3_v5 : FVec Ideal S32x8732x81 .f32 := subf x1 call3_v4
  have call3_v6 : FVec Ideal S32x8732x81 .f32 := Host.exp call3_v5
  have call3_cst_1 : FVec Ideal S_ .f32 := (constant S_ .f32 0x00000000#32)
  have call3_v7 : FVec Ideal S32x8732 .f32 := (fun x v => Host.reduceAdd x v reducesTo_S32x8732x81_S32x8732_d2 h_S_) call3_v6 call3_cst_1
  have call3_v8 : FVec Ideal S32x8732x1 .f32 := (broadcastInDim S32x8732x1 ![0, 1] bcast_S32x8732_S32x8732x1_0_1) call3_v7
  have call3_v9 : FVec Ideal S32x8732x1 .f32 := Host.log call3_v8
  have call3_v10 : FVec Ideal S32x8732x81 .f32 := (broadcastInDim S32x8732x81 ![0, 1, 2] bcast_S32x8732x1_S32x8732x81_0_1_2) call3_v9
  subf call3_v5 call3_v10

def picked (v177 : FVec Ideal S32x8732x81 .f32) (v122 : IVec S32x8732 32) : FVec Ideal S32x8732x1 .f32 :=
  have v178 : IVec S32x8732x1 32 := (broadcastInDim S32x8732x1 ![0, 1] bcast_S32x8732_S32x8732x1_0_1) v122
  have call4_c : IVec S_ 32 := (constantI S_ 32 0#32)
  have call4_v0 : IVec S32x8732x1 32 := (broadcastInDim S32x8732x1 ![] bcast_S_S32x8732x1) call4_c
  have call4_v1 : IVec S32x8732x1 1 := (cmpi .slt) v178 call4_v0
  have call4_c_0 : IVec S_ 32 := (constantI S_ 32 81#32)
  have call4_v2 : IVec S32x8732x1 32 := (broadcastInDim S32x8732x1 ![] bcast_S_S32x8732x1) call4_c_0
  have call4_v3 : IVec S32x8732x1 32 := addi v178 call4_v2
  have call4_v4 : IVec S32x8732x1 32 := select call4_v1 call4_v3 v178
  have call4_v5 : IVec S32x8732x1x1 32 := shapeCast S32x8732x1x1 call4_v4 shapeCasts_S32x8732x1_S32x8732x1x1
  have call4_c_2 : IVec S_ 32 := (constantI S_ 32 0#32)
  have call4_v6 : IVec S32x8732x1x1 32 := (broadcastInDim S32x8732x1x1 ![] bcast_S_S32x8732x1x1) call4_c_2
  have call4_v7 : IVec S32x8732x1x1 1 := (cmpi .sge) call4_v5 call4_v6
  have call4_c_1 : IVec S1 32 := (constantI S1 32 80#32)
  have call4_v8 : IVec S1x1x1x1 32 := (broadcastInDim S1x1x1x1 ![3] bcast_S1_S1x1x1x1_3) call4_c_1
  have call4_v9 : IVec S32x8732x1x1 32 := (broadcastInDim S32x8732x1x1 ![0, 1, 2, 3] bcast_S1x1x1x1_S32x8732x1x1_0_1_2_3) call4_v8
  have call4_v10 : IVec S32x8732x1x1 1 := (cmpi .sle) call4_v5 call4_v9
  have call4_v11 : IVec S32x8732x1x1 1 := andi call4_v7 call4_v10
  have call4_c_3 : IVec S_ 1 := (constantI S_ 1 1#1)
  have call4_v12 : IVec S32x8732x1 1 := (fun x v => Host.reduce IntOp.andi x v reducesTo_S32x8732x1x1_S32x8732x1_d3 h_S_) call4_v11 call4_c_3
  have call4_v13 : FVec Ideal S32x8732x1 .f32 := (fun x i => Host.gather gather_S32x8732x81_S32x8732x1x1_S32x8732x1_n_2_01_01_2_3_111 x i) v177 call4_v5
  have call4_cst : FVec Ideal S_ .f32 := (constant S_ .f32 0x7FC00000#32)
  have call4_v14 : FVec Ideal S32x8732x1 .f32 := (broadcastInDim S32x8732x1 ![] bcast_S_S32x8732x1) call4_cst
  select call4_v12 call4_v13 call4_v14

def negated (v179 : FVec Ideal S32x8732x1 .f32) : FVec Ideal S32x8732 .f32 :=
  have v180 : FVec Ideal S32x8732 .f32 := shapeCast S32x8732 v179 shapeCasts_S32x8732x1_S32x8732
  (Host.negf) v180

def blank : FVec Ideal S32x6x8732 .f32 :=
  have cst_29 : FVec Ideal S_ .f32 := (constant S_ .f32 0x00000000#32)
  (broadcastInDim S32x6x8732 ![] bcast_S_S32x6x8732) cst_29

def rows (v181 : FVec Ideal S32x8732 .f32) (v171 : FVec Ideal S32x8732 .f32) (v182 : FVec Ideal S32x6x8732 .f32) : FVec Ideal S32x8x8732 .f32 :=
  have v183 : FVec Ideal S32x1x8732 .f32 := (broadcastInDim S32x1x8732 ![0, 2] bcast_S32x8732_S32x1x8732_0_2) v181
  have v184 : FVec Ideal S32x1x8732 .f32 := (broadcastInDim S32x1x8732 ![0, 2] bcast_S32x8732_S32x1x8732_0_2) v171
  concatenate S32x8x8732 1 [⟨S32x1x8732, v183⟩, ⟨S32x1x8732, v184⟩, ⟨S32x6x8732, v182⟩] concatenates_S32x1x8732_S32x1x8732_S32x6x8732_S32x8x8732_d1

def total (v176 : FVec Ideal S_ .f32) : FVec Ideal S1x1 .f32 :=
  shapeCast S1x1 v176 shapeCasts_S_S1x1

/-! ## The stages put together -/

variable (x0 : FVec Ideal S32x8732x4 .f32) (x1 : FVec Ideal S32x8732x81 .f32) (x2 : FVec Ideal S32x32x4 .f32) (x3 : IVec S32x32 32) (x4 : FVec Ideal S8732x4 .f32)

/-- The overlap of each object with each prior. -/
def rOverlap : FVec Ideal S32x32x8732 .f32 := overlap x2 (corners x4)
/-- Per object, the image and the prior it claims. -/
def rPairs : IVec S32x32x2 32 := pairs image (bestPrior (rOverlap x2 x4))
/-- The object each prior is matched with. -/
def rObjects : IVec S32x8732 32 := objects (bestObject (rOverlap x2 x4)) object (rPairs x2 x4)
/-- The overlap each prior is judged by: one where an object claims it. -/
def rMarked : FVec Ideal S32x8732 .f32 := marked (top (rOverlap x2 x4)) (rPairs x2 x4)
/-- Per prior, the image and the object to read. -/
def rSpots : IVec S32x8732x2 32 := spots image (rObjects x2 x4)
/-- The class each prior is to predict, zero for the background. -/
def rClasses : IVec S32x8732 32 := classes (rMarked x2 x4) x3 (rSpots x2 x4)
/-- The offsets each prior is to predict. -/
def rLocs : FVec Ideal S32x8732x4 .f32 := locs (boxes x2 (rSpots x2 x4)) x4
/-- The reference's first result. -/
def rRows : FVec Ideal S32x8x8732 .f32 :=
  rows (negated (picked (logp x1) (rClasses x2 x3 x4))) (posf (rClasses x2 x3 x4)) blank
/-- The reference's second result. -/
def rTotal : FVec Ideal S1x1 .f32 := total (locSum x0 (rLocs x2 x4) (posf (rClasses x2 x3 x4)))

end Cert.ReferenceIdeal.Ref

end
-- ==== Proof.RefMatch.lean ====
/- The reference's matching, element by element: the overlaps, each prior's object, its overlap, its class. -/
module

public import proofs.«01_k».proof.Proof.RefStages
public import proofs.«01_k».proof.Proof.Spec
public import Idealize.ShloMosaic.Lib.Routing.OpsPair
public import Idealize.ShloMosaic.Lib.Routing.OpsSet

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-! ## The overlaps -/

theorem two_eq : Ideal.ofBits .f32 0x40000000#32 = ((2 : ℝ) : EReal) := by
  simp [Ideal.ofBits, Ideal.ieee, -EReal.coe_mul]; norm_num

theorem half_eq : Ideal.ofBits .f32 0x3F000000#32 = ((2⁻¹ : ℝ) : EReal) := by
  simp [Ideal.ofBits, Ideal.ieee, -EReal.coe_mul]; norm_num

theorem div_two (x : EReal) : Ideal.div x (Ideal.ofBits .f32 0x40000000#32) = x * Spec.half := by
  have h : ((2 : ℝ) : EReal) ≠ 0 := by norm_num
  rw [Spec.half, two_eq, half_eq, Ideal.div, if_neg h, EReal.coe_inv]

variable (x2 : FVec Ideal S32x32x4 .f32) (x4 : FVec Ideal S8732x4 .f32)

theorem corners0 (p : Fin 8732) : corners x4 (ix2 p 0) = Spec.loEdge (x4 (ix2 p 0)) (x4 (ix2 p 2)) := by
  unfold Spec.loEdge; rw [← div_two]; pointwise [corners]
theorem corners1 (p : Fin 8732) : corners x4 (ix2 p 1) = Spec.loEdge (x4 (ix2 p 1)) (x4 (ix2 p 3)) := by
  unfold Spec.loEdge; rw [← div_two]; pointwise [corners]
theorem corners2 (p : Fin 8732) : corners x4 (ix2 p 2) = Spec.hiEdge (x4 (ix2 p 0)) (x4 (ix2 p 2)) := by
  unfold Spec.hiEdge; rw [← div_two]; pointwise [corners]
theorem corners3 (p : Fin 8732) : corners x4 (ix2 p 3) = Spec.hiEdge (x4 (ix2 p 1)) (x4 (ix2 p 3)) := by
  unfold Spec.hiEdge; rw [← div_two]; pointwise [corners]

theorem overlap_at (b o : Fin 32) (p : Fin 8732) :
    rOverlap x2 x4 (ix3 b o p) = Spec.iou (fun k => x2 (ix3 b o k)) (fun k => x4 (ix2 p k)) := by
  unfold Spec.iou Spec.side rOverlap
  simp only [← corners0, ← corners1, ← corners2, ← corners3]
  generalize corners x4 = c
  pointwise [overlap]

/-! ## The indices -/

theorem wrap (n : ℕ) (h : n < 2 ^ 31) (y : BitVec 32) :
    Scalar.select (IntOp.cmpi .slt (BitVec.ofNat 32 n) 0#32) y (BitVec.ofNat 32 n) = BitVec.ofNat 32 n := by
  exact Routing.wrap_of_lt _ _ (by rw [BitVec.toNat_ofNat]; omega)

theorem pairs0 (v : IVec S32x32 32) (b o : Fin 32) : pairs image v (ix3 b o 0) = BitVec.ofNat 32 b.val := by
  refine Eq.trans ?_ (wrap b.val (by omega) (IntOp.addi (BitVec.ofNat 32 b.val) 32#32))
  pointwise [pairs, image]

theorem pairs1 (v : IVec S32x32 32) (b o : Fin 32) (g : ℕ) (hg : g < 2 ^ 31) (hv : v (ix2 b o) = BitVec.ofNat 32 g) :
    pairs image v (ix3 b o 1) = BitVec.ofNat 32 g := by
  refine Eq.trans ?_ (wrap g hg (IntOp.addi (BitVec.ofNat 32 g) 8732#32))
  rw [← hv]
  pointwise [pairs, image]

theorem spots0 (v : IVec S32x8732 32) (b : Fin 32) (p : Fin 8732) : spots image v (ix3 b p 0) = BitVec.ofNat 32 b.val := by
  refine Eq.trans ?_ (wrap b.val (by omega) (IntOp.addi (BitVec.ofNat 32 b.val) 32#32))
  pointwise [spots, image]

theorem spots1 (v : IVec S32x8732 32) (b : Fin 32) (p : Fin 8732) (g : ℕ) (hg : g < 2 ^ 31) (hv : v (ix2 b p) = BitVec.ofNat 32 g) :
    spots image v (ix3 b p 1) = BitVec.ofNat 32 g := by
  refine Eq.trans ?_ (wrap g hg (IntOp.addi (BitVec.ofNat 32 g) 32#32))
  rw [← hv]
  pointwise [spots, image]

/-! ## The largest overlaps -/

theorem top_at (v : FVec Ideal S32x32x8732 .f32) (b : Fin 32) (p : Fin 8732) :
    top v (ix2 b p) = v (ix3 b (Spec.first fun o : Fin 32 => v (ix3 b o p)) p) := by
  refine Eq.trans ?_ (Spec.fold_max_eq (n := 31) fun o : Fin 32 => v (ix3 b o p))
  pointwise [top]

end Cert.ReferenceIdeal.Ref

end
-- ==== Proof.RefArg.lean ====
/- The reference's two arg-max reductions: each finds the first index of the largest value. -/
module

public import proofs.«01_k».proof.Proof.RefMatch

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-- A value with its index as a word. -/
def tagged {n : ℕ} (f : Fin (n + 1) → EReal) (i : Fin (n + 1)) : Ideal .f32 × BitVec 32 := (f i, BitVec.ofNat 32 i.val)

theorem reducer_at (a b : EReal) (i j : ℕ) (hi : i < 2 ^ 31) (hj : j < 2 ^ 31) :
    reducer_argmax_f32_i32 (F := Ideal) (a, BitVec.ofNat 32 i) (b, BitVec.ofNat 32 j)
      = if b < a ∨ (a = b ∧ i < j) then (a, BitVec.ofNat 32 i) else (b, BitVec.ofNat 32 j) := by
  have hs : IntOp.cmpi .slt (BitVec.ofNat 32 i) (BitVec.ofNat 32 j) = if i < j then 1#1 else 0#1 := by
    simp only [IntOp.cmpi, BitVec.slt, Spec.toInt_ofNat_small i hi, Spec.toInt_ofNat_small j hj, Nat.cast_lt]
    by_cases h : i < j <;> simp [h]
  have hg : FloatOps.cmpf (F := Ideal) (φ := .f32) .ogt a b = if b < a then 1#1 else 0#1 := by
    simp only [Ideal.cmpf_def, Ideal.cmp]; by_cases h : b < a <;> simp [h]
  have he : FloatOps.cmpf (F := Ideal) (φ := .f32) .oeq a b = if a = b then 1#1 else 0#1 := by
    simp only [Ideal.cmpf_def, Ideal.cmp]; by_cases h : a = b <;> simp [h]
  have hn : FloatOps.cmpf (F := Ideal) (φ := .f32) .une a a = 0#1 := by
    simp [Ideal.cmpf_def, Ideal.cmp]
  unfold reducer_argmax_f32_i32
  simp only [hs, hg, he, hn]
  by_cases h1 : b < a
  · have h2 : a ≠ b := h1.ne'
    simp [h1, h2, IntOp.ori, IntOp.andi, Scalar.select]
  · by_cases h2 : a = b
    · by_cases h3 : i < j
      · simp [h1, h2, h3, IntOp.ori, IntOp.andi, Scalar.select]
      · simp [h1, h2, h3, IntOp.ori, IntOp.andi, Scalar.select]
    · simp [h1, h2, IntOp.ori, IntOp.andi, Scalar.select]

/-- What the fold holds after a list of tagged values: nothing above `-∞` yet, or the first largest so far. -/
theorem fold_tagged {n : ℕ} (hn : n + 1 < 2 ^ 31) (f : Fin (n + 1) → EReal) (L : List (Fin (n + 1))) :
    ((L.map (tagged f)).foldl (reducer_argmax_f32_i32 (F := Ideal)) (⊥, 0#32) = (⊥, 0#32) ∧ ∀ i ∈ L, f i = ⊥)
    ∨ ∃ i, (L.map (tagged f)).foldl (reducer_argmax_f32_i32 (F := Ideal)) (⊥, 0#32) = tagged f i
        ∧ ∀ j ∈ L, f j < f i ∨ (f j = f i ∧ i ≤ j) := by
  induction L using List.reverseRecOn with
  | nil => left; simp
  | append_singleton L k ih =>
    have hk := k.isLt
    rw [List.map_append, List.foldl_append]
    simp only [List.map_cons, List.map_nil, List.foldl_cons, List.foldl_nil, List.mem_append, List.mem_singleton]
    rcases ih with ⟨e, hL⟩ | ⟨i, e, hL⟩
    · rw [e]
      have r := reducer_at ⊥ (f k) 0 k.val (by omega) (by omega)
      change reducer_argmax_f32_i32 (F := Ideal) (⊥, 0#32) (tagged f k) = _ at r
      rw [r]
      by_cases h : f k < ⊥ ∨ (⊥ = f k ∧ 0 < k.val)
      · rw [if_pos h]
        left
        refine ⟨rfl, fun j hj => ?_⟩
        rcases hj with hj | rfl
        · exact hL j hj
        · rcases h with h | h
          · exact absurd h not_lt_bot
          · exact h.1.symm
      · rw [if_neg h]
        right
        refine ⟨k, rfl, fun j hj => ?_⟩
        rcases hj with hj | rfl
        · rw [hL j hj]
          by_cases hb : f k = ⊥
          · right
            refine ⟨hb.symm, ?_⟩
            have : ¬ 0 < k.val := fun q => h (Or.inr ⟨hb.symm, q⟩)
            show k.val ≤ j.val
            omega
          · left; exact bot_lt_iff_ne_bot.2 hb
        · right; exact ⟨rfl, le_refl _⟩
    · rw [e]
      have hi := i.isLt
      have r := reducer_at (f i) (f k) i.val k.val (by omega) (by omega)
      change reducer_argmax_f32_i32 (F := Ideal) (tagged f i) (tagged f k) = _ at r
      rw [r]
      right
      by_cases h : f k < f i ∨ (f i = f k ∧ i.val < k.val)
      · rw [if_pos h]
        refine ⟨i, rfl, fun j hj => ?_⟩
        rcases hj with hj | rfl
        · exact hL j hj
        · rcases h with h | h
          · exact Or.inl h
          · exact Or.inr ⟨h.1.symm, Fin.le_def.2 h.2.le⟩
      · rw [if_neg h]
        refine ⟨k, rfl, fun j hj => ?_⟩
        push Not at h
        rcases hj with hj | rfl
        · rcases hL j hj with q | q
          · exact Or.inl (lt_of_lt_of_le q h.1)
          · rcases lt_or_eq_of_le h.1 with w | w
            · left; rw [q.1]; exact w
            · right
              refine ⟨q.1.trans w, ?_⟩
              have := h.2 w
              have := Fin.le_def.1 q.2
              exact Fin.le_def.2 (by omega)
        · right; exact ⟨rfl, le_refl _⟩

/-- Over a list that holds every index, the fold's index is the first largest. -/
theorem fold_tagged_first {n : ℕ} (hn : n + 1 < 2 ^ 31) (f : Fin (n + 1) → EReal) (L : List (Fin (n + 1))) (hL : ∀ i, i ∈ L) :
    ((L.map (tagged f)).foldl (reducer_argmax_f32_i32 (F := Ideal)) (⊥, 0#32)).2 = BitVec.ofNat 32 (Spec.first f).val := by
  rcases fold_tagged hn f L with ⟨e, h⟩ | ⟨i, e, h⟩
  · rw [e]
    have : Spec.first f = 0 := (Spec.first_spec f).unique
      ⟨fun j => by rw [h j (hL j), h 0 (hL 0)], fun j hj => absurd hj (Fin.not_lt_zero j)⟩
    rw [this]; rfl
  · rw [e]
    have : Spec.first f = i := (Spec.first_spec f).unique
      ⟨fun j => by rcases h j (hL j) with q | q; exact q.le; exact q.1.le,
       fun j hj => by rcases h j (hL j) with q | q; exact q; exact absurd q.2 (not_le.2 hj)⟩
    rw [this]; rfl

/-- An arg-max over one axis, the fiber's members listed by `coord`, is the first largest along the fiber. -/
theorem argmax_at {s t u : Shape} {axes : List (Fin s.rank)} {n : ℕ} (hn : n + 1 < 2 ^ 31) (x : FVec Ideal s .f32) (y : IVec s 32)
    (ix : FVec Ideal u .f32) (iy : IVec u 32) (h : s.ReducesTo axes t) (hu : 0 < u.numel) (j : t.Idx)
    (hx : ix (Shape.Idx.first hu) = ⊥) (hy : iy (Shape.Idx.first hu) = 0#32)
    (coord : s.Idx → Fin (n + 1)) (slot : Fin (n + 1) → s.Idx) (hyc : ∀ i, y i = BitVec.ofNat 32 (coord i).val)
    (hs : ∀ i, h.drop i = j → slot (coord i) = i) (hd : ∀ k, h.drop (slot k) = j) (hc : ∀ k, coord (slot k) = k) :
    (Host.argReduce (reducer_argmax_f32_i32 (F := Ideal)) x y ix iy h hu j).2
      = BitVec.ofNat 32 (Spec.first fun k => x (slot k)).val := by
  rw [Ideal.argReduce_eq_reduce2, Host.reduce2_eq_foldl_fiber, hx, hy, Host.argReduceFiber]
  rw [← fold_tagged_first hn (fun k => x (slot k))
    (((List.finRange s.numel).filter fun n => h.drop (s.rowMajor.symm n) = j).map fun n => coord (s.rowMajor.symm n))]
  · rw [List.map_map]
    refine congrArg (fun l => (List.foldl (reducer_argmax_f32_i32 (F := Ideal)) (⊥, 0#32) l).2) ?_
    refine List.map_congr_left fun m hm => ?_
    have e := hs _ (of_decide_eq_true (List.mem_filter.1 hm).2)
    show (x _, y _) = (x (slot (coord _)), _)
    rw [e, hyc]
  · intro k
    refine List.mem_map.2 ⟨s.rowMajor (slot k), List.mem_filter.2 ⟨List.mem_finRange _, ?_⟩, ?_⟩
    · rw [Equiv.symm_apply_apply]; exact decide_eq_true (hd k)
    · rw [Equiv.symm_apply_apply]; exact hc k

theorem drop1 (b o : Fin 32) (p : Fin 8732) :
    reducesTo_S32x32x8732_S32x8732_d1.drop (ix3 b o p) = ix2 b p := by
  funext a
  match a with
  | ⟨0, _⟩ => rfl
  | ⟨1, _⟩ => rfl

theorem drop2 (b o : Fin 32) (p : Fin 8732) :
    reducesTo_S32x32x8732_S32x32_d2.drop (ix3 b o p) = ix2 b o := by
  funext a
  match a with
  | ⟨0, _⟩ => rfl
  | ⟨1, _⟩ => rfl

theorem slot1 (b : Fin 32) (p : Fin 8732) (i : S32x32x8732.Idx) (hi : reducesTo_S32x32x8732_S32x8732_d1.drop i = ix2 b p) :
    ix3 b (i 1) p = i := by
  have e : ix2 (i 0) (i 2) = ix2 b p := ((drop1 (i 0) (i 1) (i 2)).symm.trans (congrArg _ (ValueIdx.eq_ix3 i).symm)).trans hi
  have e0 : i 0 = b := congrFun e 0
  have e1 : i 2 = p := congrFun e 1
  rw [← e0, ← e1]
  exact (ValueIdx.eq_ix3 i).symm

theorem slot2 (b o : Fin 32) (i : S32x32x8732.Idx) (hi : reducesTo_S32x32x8732_S32x32_d2.drop i = ix2 b o) :
    ix3 b o (i 2) = i := by
  have e : ix2 (i 0) (i 1) = ix2 b o := ((drop2 (i 0) (i 1) (i 2)).symm.trans (congrArg _ (ValueIdx.eq_ix3 i).symm)).trans hi
  have e0 : i 0 = b := congrFun e 0
  have e1 : i 1 = o := congrFun e 1
  rw [← e0, ← e1]
  exact (ValueIdx.eq_ix3 i).symm

theorem arg1_at (v : FVec Ideal S32x32x8732 .f32) (y : IVec S32x32x8732 32) (hy : ∀ i, y i = BitVec.ofNat 32 (i 1).val)
    (ix : FVec Ideal S_ .f32) (iy : IVec S_ 32) (hx : ix (Shape.Idx.first h_S_) = ⊥) (hz : iy (Shape.Idx.first h_S_) = 0#32)
    (b : Fin 32) (p : Fin 8732) :
    (Host.argReduce (reducer_argmax_f32_i32 (F := Ideal)) v y ix iy reducesTo_S32x32x8732_S32x8732_d1 h_S_ (ix2 b p)).2
      = BitVec.ofNat 32 (Spec.first fun o : Fin 32 => v (ix3 b o p)).val :=
  argmax_at (n := 31) (by norm_num) v y ix iy reducesTo_S32x32x8732_S32x8732_d1 h_S_ (ix2 b p) hx hz
    (fun i => i 1) (fun o => ix3 b o p) hy (slot1 b p) (fun k => drop1 b k p) (fun k => rfl)

theorem arg2_at (v : FVec Ideal S32x32x8732 .f32) (y : IVec S32x32x8732 32) (hy : ∀ i, y i = BitVec.ofNat 32 (i 2).val)
    (ix : FVec Ideal S_ .f32) (iy : IVec S_ 32) (hx : ix (Shape.Idx.first h_S_) = ⊥) (hz : iy (Shape.Idx.first h_S_) = 0#32)
    (b o : Fin 32) :
    (Host.argReduce (reducer_argmax_f32_i32 (F := Ideal)) v y ix iy reducesTo_S32x32x8732_S32x32_d2 h_S_ (ix2 b o)).2
      = BitVec.ofNat 32 (Spec.first fun p : Fin 8732 => v (ix3 b o p)).val :=
  argmax_at (n := 8731) (by norm_num) v y ix iy reducesTo_S32x32x8732_S32x32_d2 h_S_ (ix2 b o) hx hz
    (fun i => i 2) (fun p => ix3 b o p) hy (slot2 b o) (fun k => drop2 b o k) (fun k => rfl)

theorem tag_at (d : Fin 3) (i : S32x32x8732.Idx) : iotaInDim S32x32x8732 32 d i = BitVec.ofNat 32 (i d).val := rfl
theorem low_at (i : S_.Idx) : constant (F := Ideal) S_ .f32 0xFF800000#32 i = ⊥ := Spec.negInf
theorem zero_at (i : S_.Idx) : constantI S_ 32 0#32 i = 0#32 := rfl

theorem bestObject_eq (v : FVec Ideal S32x32x8732 .f32) :
    bestObject v = fun j => (Host.argReduce (reducer_argmax_f32_i32 (F := Ideal)) v (iotaInDim S32x32x8732 32 1)
      (constant S_ .f32 0xFF800000#32) (constantI S_ 32 0#32) reducesTo_S32x32x8732_S32x8732_d1 h_S_ j).2 := by
  delta bestObject
  dsimp only

/-- Each prior's best object. -/
theorem bestObject_at (v : FVec Ideal S32x32x8732 .f32) (b : Fin 32) (p : Fin 8732) :
    bestObject v (ix2 b p) = BitVec.ofNat 32 (Spec.first fun o : Fin 32 => v (ix3 b o p)).val :=
  (congrFun (bestObject_eq v) (ix2 b p)).trans
    (arg1_at v (iotaInDim S32x32x8732 32 1) (tag_at 1) (constant S_ .f32 0xFF800000#32) (constantI S_ 32 0#32)
      (low_at _) (zero_at _) b p)

theorem bestPrior_eq (v : FVec Ideal S32x32x8732 .f32) :
    bestPrior v = fun j => (Host.argReduce (reducer_argmax_f32_i32 (F := Ideal)) v (iotaInDim S32x32x8732 32 2)
      (constant S_ .f32 0xFF800000#32) (constantI S_ 32 0#32) reducesTo_S32x32x8732_S32x32_d2 h_S_ j).2 := by
  delta bestPrior
  dsimp only

/-- Each object's best prior. -/
theorem bestPrior_at (v : FVec Ideal S32x32x8732 .f32) (b o : Fin 32) :
    bestPrior v (ix2 b o) = BitVec.ofNat 32 (Spec.first fun p : Fin 8732 => v (ix3 b o p)).val :=
  (congrFun (bestPrior_eq v) (ix2 b o)).trans
    (arg2_at v (iotaInDim S32x32x8732 32 2) (tag_at 2) (constant S_ .f32 0xFF800000#32) (constantI S_ 32 0#32)
      (low_at _) (zero_at _) b o)

end Cert.ReferenceIdeal.Ref

end
-- ==== Proof.RefPlace.lean ====
/- The reference's scatters and gathers, read at an element. -/
module

public import proofs.«01_k».proof.Proof.RefMatch

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-! ## The gathers -/

theorem start_word {n m : ℕ} (h : n < 2 ^ 31) (hm : n ≤ m) : min (BitVec.ofNat 32 n).toInt.toNat m = n := by
  rw [Spec.toInt_ofNat_small n h]; omega

theorem word_at (x : IVec S32x32 32) (idx : IVec S32x8732x2 32) (b : Fin 32) (p : Fin 8732) (o : Fin 32)
    (h0 : idx (ix3 b p 0) = BitVec.ofNat 32 b.val) (h1 : idx (ix3 b p 1) = BitVec.ofNat 32 o.val) :
    Host.gather gather_S32x32_S32x8732x2_S32x8732_n_01_n_n_01_2_11 x idx (ix2 b p) = x (ix2 b o) := by
  have hb := b.isLt
  have ho := o.isLt
  unfold Host.gather
  refine congrArg x (funext fun a => Fin.ext ?_)
  have hsi : ∀ c : Fin 2, gather_S32x32_S32x8732x2_S32x8732_n_01_n_n_01_2_11.siIdx (ix2 b p) c = ix3 b p c := by
    intro c
    funext q
    match q with
    | ⟨0, _⟩ => rfl
    | ⟨1, _⟩ => rfl
    | ⟨2, _⟩ => rfl
  match a with
  | ⟨0, _⟩ =>
    show min (idx (gather_S32x32_S32x8732x2_S32x8732_n_01_n_n_01_2_11.siIdx (ix2 b p) (0 : Fin 2))).toInt.toNat 31 + 0 + 0 = b.val
    rw [hsi, h0, start_word (by omega) (by omega), Nat.add_zero]
  | ⟨1, _⟩ =>
    show min (idx (gather_S32x32_S32x8732x2_S32x8732_n_01_n_n_01_2_11.siIdx (ix2 b p) (1 : Fin 2))).toInt.toNat 31 + 0 + 0 = o.val
    rw [hsi, h1, start_word (by omega) (by omega), Nat.add_zero]

theorem box_at (x : FVec Ideal S32x32x4 .f32) (idx : IVec S32x8732x2 32) (b : Fin 32) (p : Fin 8732) (o : Fin 32) (k : Fin 4)
    (h0 : idx (ix3 b p 0) = BitVec.ofNat 32 b.val) (h1 : idx (ix3 b p 1) = BitVec.ofNat 32 o.val) :
    boxes x idx (ix3 b p k) = x (ix3 b o k) := by
  have hb := b.isLt
  have ho := o.isLt
  unfold boxes Host.gather
  refine congrArg x (funext fun a => Fin.ext ?_)
  have hsi : ∀ c : Fin 2, gather_S32x32x4_S32x8732x2_S32x8732x4_2_01_n_n_01_2_114.siIdx (ix3 b p k) c = ix3 b p c := by
    intro c
    funext q
    match q with
    | ⟨0, _⟩ => rfl
    | ⟨1, _⟩ => rfl
    | ⟨2, _⟩ => rfl
  match a with
  | ⟨0, _⟩ =>
    show min (idx (gather_S32x32x4_S32x8732x2_S32x8732x4_2_01_n_n_01_2_114.siIdx (ix3 b p k) (0 : Fin 2))).toInt.toNat 31 + 0 + 0 = b.val
    rw [hsi, h0, start_word (by omega) (by omega), Nat.add_zero]
  | ⟨1, _⟩ =>
    show min (idx (gather_S32x32x4_S32x8732x2_S32x8732x4_2_01_n_n_01_2_114.siIdx (ix3 b p k) (1 : Fin 2))).toInt.toNat 31 + 0 + 0 = o.val
    rw [hsi, h1, start_word (by omega) (by omega), Nat.add_zero]
  | ⟨2, _⟩ =>
    show 0 + 0 + k.val = k.val
    omega

theorem pick_at (x : FVec Ideal S32x8732x81 .f32) (idx : IVec S32x8732x1x1 32) (b : Fin 32) (p : Fin 8732) (k : Fin 81)
    (h : idx (ix4 b p 0 0) = BitVec.ofNat 32 k.val) :
    Host.gather gather_S32x8732x81_S32x8732x1x1_S32x8732x1_n_2_01_01_2_3_111 x idx (ix3 b p 0) = x (ix3 b p k) := by
  have hk := k.isLt
  unfold Host.gather
  refine congrArg x (funext fun a => Fin.ext ?_)
  have hsi : gather_S32x8732x81_S32x8732x1x1_S32x8732x1_n_2_01_01_2_3_111.siIdx (ix3 b p 0) (0 : Fin 1) = ix4 b p 0 0 := by
    funext q
    match q with
    | ⟨0, _⟩ => rfl
    | ⟨1, _⟩ => rfl
    | ⟨2, _⟩ => rfl
    | ⟨3, _⟩ => rfl
  match a with
  | ⟨0, _⟩ =>
    show 0 + b.val + 0 = b.val
    omega
  | ⟨1, _⟩ =>
    show 0 + p.val + 0 = p.val
    omega
  | ⟨2, _⟩ =>
    show min (idx (gather_S32x8732x81_S32x8732x1x1_S32x8732x1_n_2_01_01_2_3_111.siIdx (ix3 b p 0) (0 : Fin 1))).toInt.toNat 80 + 0 + 0 = k.val
    rw [hsi, h, start_word (by omega) (by omega), Nat.add_zero]

/-! ## The scatters -/

/-- In a left fold of overwrites over an increasing list, the last position that writes decides. -/
theorem fold_last {α : Type} {N : ℕ} (hit : Fin N → Prop) [DecidablePred hit] (f : Fin N → α) (n : Fin N) (hn : hit n) :
    ∀ (L : List (Fin N)), L.Pairwise (· < ·) → n ∈ L → (∀ m ∈ L, n < m → ¬ hit m) → ∀ a : α,
      L.foldl (fun a m => if hit m then f m else a) a = f n := by
  intro L
  induction L using List.reverseRecOn with
  | nil => intro _ h; cases h
  | append_singleton L k ih =>
    intro hp hm hl a
    rw [List.foldl_append]
    simp only [List.foldl_cons, List.foldl_nil]
    by_cases e : k = n
    · rw [e, if_pos hn]
    · have hmL : n ∈ L := by
        rcases List.mem_append.1 hm with h | h
        · exact h
        · exact absurd (List.mem_singleton.1 h).symm e
      have hlt : n < k := (List.pairwise_append.1 hp).2.2 n hmL k (List.mem_singleton.2 rfl)
      rw [if_neg (hl k (List.mem_append.2 (Or.inr (List.mem_singleton.2 rfl))) hlt)]
      exact ih (List.pairwise_append.1 hp).1 hmL (fun m h => hl m (List.mem_append.2 (Or.inl h))) a

section Scatter
variable (idx : IVec S32x32x2 32) (g : Fin 32 → Fin 32 → Fin 8732)
  (h0 : ∀ b o : Fin 32, idx (ix3 b o 0) = BitVec.ofNat 32 b.val)
  (h1 : ∀ b o : Fin 32, idx (ix3 b o 1) = BitVec.ofNat 32 (g b o).val)
include h0 h1

/-- Where an update lands: its own image, at the prior its object claims. -/
theorem lands (b' o : Fin 32) (b : Fin 32) (p : Fin 8732) :
    scatter_S32x8732_S32x32x2_S32x32_n_01_01_2.resultIdx? (ix2 b' o) idx = some (ix2 b p) ↔ b' = b ∧ g b o = p := by
  refine (show _ ↔ (idx (ix3 b' o 0)).toInt = b.val ∧ (idx (ix3 b' o 1)).toInt = p.val from
    Routing.scatter_lands2 scatter_S32x8732_S32x32x2_S32x32_n_01_01_2 rfl rfl rfl idx b' o b p).trans ?_
  rw [h0, h1, Spec.toInt_ofNat_small _ (by omega), Spec.toInt_ofNat_small _ (by omega)]
  constructor
  · rintro ⟨e, e'⟩
    have : b' = b := Fin.ext (by omega)
    subst this
    exact ⟨rfl, Fin.ext (by omega)⟩
  · rintro ⟨rfl, e⟩
    exact ⟨rfl, by rw [e]⟩

/-- The same at any update's index. -/
theorem lands_idx (k : S32x32.Idx) (b : Fin 32) (p : Fin 8732)
    (h : scatter_S32x8732_S32x32x2_S32x32_n_01_01_2.resultIdx? k idx = some (ix2 b p)) :
    ∃ o : Fin 32, k = ix2 b o ∧ g b o = p := by
  have e : k = ix2 (n0 := 32) (n1 := 32) (k 0) (k 1) := ValueIdx.eq_ix2 k
  rw [e] at h
  obtain ⟨e0, e1⟩ := (lands idx g h0 h1 (k 0) (k 1) b p).1 h
  exact ⟨k 1, by rw [← e0]; exact e, e1⟩

omit h0 h1 in
theorem place (b o : Fin 32) : (S32x32.rowMajor (ix2 b o)).val = b.val * 32 + o.val := by
  rw [Shape.rowMajor_val_two]; rfl

/-- A prior that no object claims keeps what it had. -/
theorem keep {α : Type} (x : S32x8732.Idx → α) (u : S32x32.Idx → α) (b : Fin 32) (p : Fin 8732) (h : ∀ o, g b o ≠ p) :
    Host.scatter scatter_S32x8732_S32x32x2_S32x32_n_01_01_2 (fun _ b => b) x idx u (ix2 b p) = x (ix2 b p) := by
  refine Routing.scatter_set_miss _ _ _ _ _ fun k hk => ?_
  obtain ⟨o, _, e⟩ := lands_idx idx g h0 h1 k b p hk
  exact h o e

/-- A claimed prior takes the update of the last object that claims it. -/
theorem take {α : Type} (x : S32x8732.Idx → α) (u : S32x32.Idx → α) (b : Fin 32) (p : Fin 8732) (o : Fin 32)
    (h : Spec.IsLast (g b) p o) :
    Host.scatter scatter_S32x8732_S32x32x2_S32x32_n_01_01_2 (fun _ b => b) x idx u (ix2 b p) = u (ix2 b o) := by
  rw [Routing.scatter_at]
  have key := fold_last
    (fun n => scatter_S32x8732_S32x32x2_S32x32_n_01_01_2.resultIdx? (S32x32.rowMajor.symm n) idx = some (ix2 b p))
    (fun n => u (S32x32.rowMajor.symm n)) (S32x32.rowMajor (ix2 b o))
    (by rw [Equiv.symm_apply_apply]; exact (lands idx g h0 h1 b o b p).2 ⟨rfl, h.1⟩)
    (List.finRange _) (List.pairwise_lt_finRange _) (List.mem_finRange _) ?_ (x (ix2 b p))
  · rw [Equiv.symm_apply_apply] at key
    exact key
  · intro m _ hm hh
    obtain ⟨j, rfl⟩ := S32x32.rowMajor.surjective m
    rw [Equiv.symm_apply_apply] at hh
    obtain ⟨o', rfl, e1⟩ := lands_idx idx g h0 h1 j b p hh
    have hv : (S32x32.rowMajor (ix2 b o)).val < (S32x32.rowMajor (ix2 b o')).val := hm
    rw [place, place] at hv
    exact h.2 o' (Fin.lt_def.2 (by omega)) e1

end Scatter

end Cert.ReferenceIdeal.Ref

end
-- ==== Proof.RefTargets.lean ====
/- The reference's matched objects, classes and targets, in the terms that the kernel's are stated in. -/
module

public import proofs.«01_k».proof.Proof.RefArg
public import proofs.«01_k».proof.Proof.RefPlace

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

variable (x2 : FVec Ideal S32x32x4 .f32) (x3 : IVec S32x32 32) (x4 : FVec Ideal S8732x4 .f32)

/-- The overlap of image `b`'s object `o` with prior `p`. -/
def ov (b : Fin 32) (o : Fin 32) (p : Fin 8732) : EReal :=
  Spec.iou (fun k => x2 (ix3 b o k)) (fun k => x4 (ix2 p k))

theorem rPairs0 (b o : Fin 32) : rPairs x2 x4 (ix3 b o 0) = BitVec.ofNat 32 b.val := pairs0 _ b o

theorem rPairs1 (b o : Fin 32) : rPairs x2 x4 (ix3 b o 1) = BitVec.ofNat 32 (Spec.claims (ov x2 x4 b) o).val := by
  refine pairs1 _ b o _ (by omega) ?_
  rw [bestPrior_at]
  simp only [overlap_at]
  rfl

/-- The object each prior is matched with. -/
theorem rObjects_at (b : Fin 32) (p : Fin 8732) :
    rObjects x2 x4 (ix2 b p) = BitVec.ofNat 32 (Spec.obj (ov x2 x4 b) p).val := by
  unfold rObjects objects
  dsimp only
  rcases Spec.claimant_cases (Spec.claims (ov x2 x4 b)) p with ⟨o, ho, e⟩ | ⟨ho, e⟩
  · rw [take (rPairs x2 x4) (fun b => Spec.claims (ov x2 x4 b)) (rPairs0 x2 x4) (rPairs1 x2 x4) _ _ b p o ho]
    unfold Spec.obj
    rw [e]
    pointwise [object]
    rfl
  · rw [keep (rPairs x2 x4) (fun b => Spec.claims (ov x2 x4 b)) (rPairs0 x2 x4) (rPairs1 x2 x4) _ _ b p ho]
    unfold Spec.obj
    rw [e, bestObject_at]
    simp only [overlap_at]
    rfl

theorem one_eq : Ideal.ofBits .f32 0x3F800000#32 = 1 := by
  simp [Ideal.ofBits, Ideal.ieee, -EReal.coe_mul]; norm_num

/-- The overlap each prior is judged by. -/
theorem rMarked_at (b : Fin 32) (p : Fin 8732) : rMarked x2 x4 (ix2 b p) = Spec.val (ov x2 x4 b) p := by
  unfold rMarked marked
  dsimp only
  rcases Spec.claimant_cases (Spec.claims (ov x2 x4 b)) p with ⟨o, ho, e⟩ | ⟨ho, e⟩
  · rw [take (rPairs x2 x4) (fun b => Spec.claims (ov x2 x4 b)) (rPairs0 x2 x4) (rPairs1 x2 x4) _ _ b p o ho]
    unfold Spec.val
    rw [e]
    exact one_eq
  · rw [keep (rPairs x2 x4) (fun b => Spec.claims (ov x2 x4 b)) (rPairs0 x2 x4) (rPairs1 x2 x4) _ _ b p ho]
    unfold Spec.val
    rw [e, top_at]
    simp only [overlap_at]
    rfl

theorem rSpots0 (b : Fin 32) (p : Fin 8732) : rSpots x2 x4 (ix3 b p 0) = BitVec.ofNat 32 b.val := spots0 _ b p

theorem rSpots1 (b : Fin 32) (p : Fin 8732) :
    rSpots x2 x4 (ix3 b p 1) = BitVec.ofNat 32 (Spec.obj (ov x2 x4 b) p).val :=
  spots1 _ b p _ (by omega) (rObjects_at x2 x4 b p)

/-- The class each prior is to predict. -/
def word (b : Fin 32) (p : Fin 8732) : BitVec 32 :=
  Spec.word (Spec.val (ov x2 x4 b) p) (x3 (ix2 b (Spec.obj (ov x2 x4 b) p)))

theorem select_word (v : EReal) (l : BitVec 32) :
    Scalar.select (FloatOps.cmpf (F := Ideal) (φ := .f32) .olt v (Ideal.ofBits .f32 0x3F000000#32)) 0#32 l = Spec.word v l := by
  unfold Spec.word Spec.half
  simp only [Ideal.cmpf_def, Ideal.cmp]
  by_cases h : v < Ideal.ofBits .f32 0x3F000000#32 <;> simp [h, Scalar.select]

theorem classes_at (v : FVec Ideal S32x8732 .f32) (x3 : IVec S32x32 32) (i : IVec S32x8732x2 32) (j : S32x8732.Idx) :
    classes v x3 i j = Scalar.select (FloatOps.cmpf (F := Ideal) (φ := .f32) .olt (v j) (Ideal.ofBits .f32 0x3F000000#32)) 0#32
      (Host.gather gather_S32x32_S32x8732x2_S32x8732_n_01_n_n_01_2_11 x3 i j) := rfl

theorem rClasses_at (b : Fin 32) (p : Fin 8732) : rClasses x2 x3 x4 (ix2 b p) = word x2 x3 x4 b p := by
  unfold rClasses word
  rw [classes_at, select_word, rMarked_at, word_at x3 _ b p _ (rSpots0 x2 x4 b p) (rSpots1 x2 x4 b p)]

/-! ## The targets -/

theorem locs0 (u : FVec Ideal S32x8732x4 .f32) (b : Fin 32) (p : Fin 8732) :
    locs u x4 (ix3 b p 0) = Spec.target (fun k => u (ix3 b p k)) (fun k => x4 (ix2 p k)) 0 := by
  show _ = Ideal.div ((u (ix3 b p 0) + u (ix3 b p 2)) * Spec.half - x4 (ix2 p 0)) (Ideal.div (x4 (ix2 p 2)) Spec.ten)
  rw [← div_two]; unfold Spec.ten; pointwise [locs]
theorem locs1 (u : FVec Ideal S32x8732x4 .f32) (b : Fin 32) (p : Fin 8732) :
    locs u x4 (ix3 b p 1) = Spec.target (fun k => u (ix3 b p k)) (fun k => x4 (ix2 p k)) 1 := by
  show _ = Ideal.div ((u (ix3 b p 1) + u (ix3 b p 3)) * Spec.half - x4 (ix2 p 1)) (Ideal.div (x4 (ix2 p 3)) Spec.ten)
  rw [← div_two]; unfold Spec.ten; pointwise [locs]
theorem locs2 (u : FVec Ideal S32x8732x4 .f32) (b : Fin 32) (p : Fin 8732) :
    locs u x4 (ix3 b p 2) = Spec.target (fun k => u (ix3 b p k)) (fun k => x4 (ix2 p k)) 2 := by
  show _ = Ideal.log (Ideal.div (max (u (ix3 b p 2) - u (ix3 b p 0)) Spec.tiny) (x4 (ix2 p 2))) * Spec.five
  unfold Spec.tiny Spec.five; pointwise [locs]
theorem locs3 (u : FVec Ideal S32x8732x4 .f32) (b : Fin 32) (p : Fin 8732) :
    locs u x4 (ix3 b p 3) = Spec.target (fun k => u (ix3 b p k)) (fun k => x4 (ix2 p k)) 3 := by
  show _ = Ideal.log (Ideal.div (max (u (ix3 b p 3) - u (ix3 b p 1)) Spec.tiny) (x4 (ix2 p 3))) * Spec.five
  unfold Spec.tiny Spec.five; pointwise [locs]

theorem rLocs_at (b : Fin 32) (p : Fin 8732) (k : Fin 4) :
    rLocs x2 x4 (ix3 b p k)
      = Spec.target (fun k => x2 (ix3 b (Spec.obj (ov x2 x4 b) p) k)) (fun k => x4 (ix2 p k)) k := by
  have h : ∀ k, boxes x2 (rSpots x2 x4) (ix3 b p k) = x2 (ix3 b (Spec.obj (ov x2 x4 b) p) k) := fun k =>
    box_at x2 _ b p _ k (rSpots0 x2 x4 b p) (rSpots1 x2 x4 b p)
  unfold rLocs
  simp only [← h]
  match k with
  | ⟨0, _⟩ => exact locs0 x4 _ b p
  | ⟨1, _⟩ => exact locs1 x4 _ b p
  | ⟨2, _⟩ => exact locs2 x4 _ b p
  | ⟨3, _⟩ => exact locs3 x4 _ b p

/-- One where the class is not the background. -/
theorem posf_at (w : IVec S32x8732 32) (j : S32x8732.Idx) : posf w j = if w j = 0#32 then 0 else 1 := by
  show FloatOps.uitofp (F := Ideal) .f32 (IntOp.cmpi .ne (w j) 0#32) = _
  by_cases h : w j = 0#32
  · rw [if_pos h, h]; simp [IntOp.cmpi, FloatOps.uitofp]
  · rw [if_neg h]
    have : IntOp.cmpi .ne (w j) 0#32 = 1#1 := by
      show BitVec.ofBool (w j != 0#32) = 1#1
      rw [show (w j != 0#32) = true from bne_iff_ne.2 h]; rfl
    rw [this]; simp [FloatOps.uitofp]

end Cert.ReferenceIdeal.Ref

end
-- ==== Proof.RefLoss.lean ====
/- The reference's two results, element by element. -/
module

public import proofs.«01_k».proof.Proof.RefTargets

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-! ## The classification loss -/

/-- The largest score of each prior. -/
def peak (x1 : FVec Ideal S32x8732x81 .f32) : FVec Ideal S32x8732 .f32 :=
  have call3_cst_0 : FVec Ideal S_ .f32 := (constant S_ .f32 0xFF800000#32)
  have call3_v1 : FVec Ideal S32x8732 .f32 := (broadcastInDim S32x8732 ![] bcast_S_S32x8732) call3_cst_0
  have call3_cst : FVec Ideal S_ .f32 := (constant S_ .f32 0xFF800000#32)
  have call3_v0 : FVec Ideal S32x8732 .f32 := (fun x v => Host.reduce FloatOps.maximumf x v reducesTo_S32x8732x81_S32x8732_d2 h_S_) x1 call3_cst
  maximumf call3_v1 call3_v0

theorem largest_at (x1 : FVec Ideal S32x8732x81 .f32) (b : Fin 32) (p : Fin 8732) :
    Host.reduce FloatOps.maximumf x1 (constant (F := Ideal) S_ .f32 0xFF800000#32) reducesTo_S32x8732x81_S32x8732_d2 h_S_ (ix2 b p)
      = x1 (ix3 b p (Spec.first fun c : Fin 81 => x1 (ix3 b p c))) := by
  refine Eq.trans ?_ (Spec.fold_max_eq (n := 80) fun c : Fin 81 => x1 (ix3 b p c))
  pointwise

theorem peak_eq (x1 : FVec Ideal S32x8732x81 .f32) :
    peak x1 = maximumf (broadcastInDim S32x8732 ![] bcast_S_S32x8732 (constant (F := Ideal) S_ .f32 0xFF800000#32))
      (Host.reduce FloatOps.maximumf x1 (constant (F := Ideal) S_ .f32 0xFF800000#32) reducesTo_S32x8732x81_S32x8732_d2 h_S_) := by
  delta peak
  dsimp only

theorem max_low (v : FVec Ideal S32x8732 .f32) (j : S32x8732.Idx) :
    maximumf (broadcastInDim S32x8732 ![] bcast_S_S32x8732 (constant (F := Ideal) S_ .f32 0xFF800000#32)) v j = v j := by
  show max (Ideal.ofBits .f32 0xFF800000#32) (v j) = v j
  rw [Spec.negInf]
  exact max_eq_right bot_le

theorem peak_at (x1 : FVec Ideal S32x8732x81 .f32) (b : Fin 32) (p : Fin 8732) :
    peak x1 (ix2 b p) = x1 (ix3 b p (Spec.first fun c : Fin 81 => x1 (ix3 b p c))) :=
  (congrFun (peak_eq x1) (ix2 b p)).trans ((max_low _ _).trans (largest_at x1 b p))

/-- Scores less one number per prior. -/
def shifted (x1 : FVec Ideal S32x8732x81 .f32) (call3_v2 : FVec Ideal S32x8732 .f32) : FVec Ideal S32x8732x81 .f32 :=
  have call3_v3 : FVec Ideal S32x8732x1 .f32 := (broadcastInDim S32x8732x1 ![0, 1] bcast_S32x8732_S32x8732x1_0_1) call3_v2
  have call3_v4 : FVec Ideal S32x8732x81 .f32 := (broadcastInDim S32x8732x81 ![0, 1, 2] bcast_S32x8732x1_S32x8732x81_0_1_2) call3_v3
  subf x1 call3_v4

theorem shifted_at (x1 : FVec Ideal S32x8732x81 .f32) (m : FVec Ideal S32x8732 .f32) (b : Fin 32) (p : Fin 8732) (k : Fin 81) :
    shifted x1 m (ix3 b p k) = x1 (ix3 b p k) - m (ix2 b p) := by
  pointwise [shifted]

/-- Scores less the logarithm of their exponentials' sum. -/
def lessLog (call3_v5 : FVec Ideal S32x8732x81 .f32) : FVec Ideal S32x8732x81 .f32 :=
  have call3_v6 : FVec Ideal S32x8732x81 .f32 := Host.exp call3_v5
  have call3_cst_1 : FVec Ideal S_ .f32 := (constant S_ .f32 0x00000000#32)
  have call3_v7 : FVec Ideal S32x8732 .f32 := (fun x v => Host.reduceAdd x v reducesTo_S32x8732x81_S32x8732_d2 h_S_) call3_v6 call3_cst_1
  have call3_v8 : FVec Ideal S32x8732x1 .f32 := (broadcastInDim S32x8732x1 ![0, 1] bcast_S32x8732_S32x8732x1_0_1) call3_v7
  have call3_v9 : FVec Ideal S32x8732x1 .f32 := Host.log call3_v8
  have call3_v10 : FVec Ideal S32x8732x81 .f32 := (broadcastInDim S32x8732x81 ![0, 1, 2] bcast_S32x8732x1_S32x8732x81_0_1_2) call3_v9
  subf call3_v5 call3_v10

theorem lessLog_at (x : FVec Ideal S32x8732x81 .f32) (b : Fin 32) (p : Fin 8732) (k : Fin 81) :
    lessLog x (ix3 b p k) = x (ix3 b p k) - Ideal.log (∑ c : Fin 81, Ideal.exp (x (ix3 b p c))) := by
  pointwise [lessLog]

theorem logp_eq (x1 : FVec Ideal S32x8732x81 .f32) : logp x1 = lessLog (shifted x1 (peak x1)) := by
  delta logp lessLog shifted peak
  dsimp only

theorem logp_at (x1 : FVec Ideal S32x8732x81 .f32) (b : Fin 32) (p : Fin 8732) (k : Fin 81) :
    logp x1 (ix3 b p k)
      = (x1 (ix3 b p k) - peak x1 (ix2 b p)) - Ideal.log (∑ c : Fin 81, Ideal.exp (x1 (ix3 b p c) - peak x1 (ix2 b p))) := by
  rw [logp_eq, lessLog_at]
  simp only [shifted_at]

theorem logsum (r : Fin 81 → ℝ) (M : ℝ) (k : Fin 81) :
    -(((r k : ℝ) : EReal) - (M : EReal) - Ideal.log (∑ c : Fin 81, Ideal.exp (((r c : ℝ) : EReal) - (M : EReal))))
      = Spec.conf (fun c => ((r c : ℝ) : EReal)) k := by
  unfold Spec.conf
  have e1 : ∀ c, Ideal.exp (((r c : ℝ) : EReal) - (M : EReal)) = ((Real.exp (r c) * Real.exp (-M) : ℝ) : EReal) := by
    intro c
    rw [← EReal.coe_sub, Ideal.exp_coe, sub_eq_add_neg, Real.exp_add]
  have e2 : ∀ c, Ideal.exp ((r c : ℝ) : EReal) = ((Real.exp (r c) : ℝ) : EReal) := fun c => Ideal.exp_coe _
  simp only [e1, e2]
  have s1 : ∀ f : Fin 81 → ℝ, (∑ c, ((f c : ℝ) : EReal)) = ((∑ c, f c : ℝ) : EReal) := fun f => (map_sum (⟨⟨Real.toEReal, EReal.coe_zero⟩, EReal.coe_add⟩ : ℝ →+ EReal) f Finset.univ).symm
  rw [s1, s1, ← Finset.sum_mul]
  have hp : 0 < ∑ c, Real.exp (r c) := Finset.sum_pos (fun c _ => Real.exp_pos _) ⟨0, Finset.mem_univ _⟩
  have l : ∀ x : ℝ, 0 < x → Ideal.log ((x : ℝ) : EReal) = ((Real.log x : ℝ) : EReal) := by
    intro x hx
    rw [Ideal.log_coe]
    simp [hx, hx.not_ge]
  rw [l _ hp, l _ (mul_pos hp (Real.exp_pos _)), Real.log_mul hp.ne' (Real.exp_pos _).ne', Real.log_exp,
    ← EReal.coe_sub, ← EReal.coe_sub, ← EReal.coe_neg, ← EReal.coe_sub]
  congr 1
  ring

/-- The classes as the gather reads them. -/
def wrapped (v122 : IVec S32x8732 32) : IVec S32x8732x1x1 32 :=
  have v178 : IVec S32x8732x1 32 := (broadcastInDim S32x8732x1 ![0, 1] bcast_S32x8732_S32x8732x1_0_1) v122
  have call4_c : IVec S_ 32 := (constantI S_ 32 0#32)
  have call4_v0 : IVec S32x8732x1 32 := (broadcastInDim S32x8732x1 ![] bcast_S_S32x8732x1) call4_c
  have call4_v1 : IVec S32x8732x1 1 := (cmpi .slt) v178 call4_v0
  have call4_c_0 : IVec S_ 32 := (constantI S_ 32 81#32)
  have call4_v2 : IVec S32x8732x1 32 := (broadcastInDim S32x8732x1 ![] bcast_S_S32x8732x1) call4_c_0
  have call4_v3 : IVec S32x8732x1 32 := addi v178 call4_v2
  have call4_v4 : IVec S32x8732x1 32 := select call4_v1 call4_v3 v178
  shapeCast S32x8732x1x1 call4_v4 shapeCasts_S32x8732x1_S32x8732x1x1

theorem wrapped_at (w : IVec S32x8732 32) (b : Fin 32) (p : Fin 8732) (k : ℕ) (hk : k < 2 ^ 31)
    (h : w (ix2 b p) = BitVec.ofNat 32 k) : wrapped w (ix4 b p 0 0) = BitVec.ofNat 32 k := by
  refine Eq.trans ?_ (wrap k hk (IntOp.addi (BitVec.ofNat 32 k) 81#32))
  rw [← h]
  pointwise [wrapped]

/-- Whether each class is one there is. -/
def fits (call4_v5 : IVec S32x8732x1x1 32) : IVec S32x8732x1 1 :=
  have call4_c_2 : IVec S_ 32 := (constantI S_ 32 0#32)
  have call4_v6 : IVec S32x8732x1x1 32 := (broadcastInDim S32x8732x1x1 ![] bcast_S_S32x8732x1x1) call4_c_2
  have call4_v7 : IVec S32x8732x1x1 1 := (cmpi .sge) call4_v5 call4_v6
  have call4_c_1 : IVec S1 32 := (constantI S1 32 80#32)
  have call4_v8 : IVec S1x1x1x1 32 := (broadcastInDim S1x1x1x1 ![3] bcast_S1_S1x1x1x1_3) call4_c_1
  have call4_v9 : IVec S32x8732x1x1 32 := (broadcastInDim S32x8732x1x1 ![0, 1, 2, 3] bcast_S1x1x1x1_S32x8732x1x1_0_1_2_3) call4_v8
  have call4_v10 : IVec S32x8732x1x1 1 := (cmpi .sle) call4_v5 call4_v9
  have call4_v11 : IVec S32x8732x1x1 1 := andi call4_v7 call4_v10
  have call4_c_3 : IVec S_ 1 := (constantI S_ 1 1#1)
  (fun x v => Host.reduce IntOp.andi x v reducesTo_S32x8732x1x1_S32x8732x1_d3 h_S_) call4_v11 call4_c_3

theorem fold_one (f : Fin 1 → BitVec 1) : Finset.fold IntOp.andi (1#1) f Finset.univ = IntOp.andi (f 0) (1#1) := by
  rw [show (Finset.univ : Finset (Fin 1)) = {0} from rfl, Finset.fold_singleton]

theorem fits_at (w : IVec S32x8732x1x1 32) (b : Fin 32) (p : Fin 8732) :
    fits w (ix3 b p 0) = IntOp.andi (IntOp.andi (IntOp.cmpi .sge (w (ix4 b p 0 0)) 0#32) (IntOp.cmpi .sle (w (ix4 b p 0 0)) 80#32)) 1#1 := by
  refine Eq.trans ?_ (fold_one fun x => IntOp.andi (IntOp.cmpi .sge (w (ix4 b p 0 x)) 0#32) (IntOp.cmpi .sle (w (ix4 b p 0 x)) 80#32))
  pointwise [fits]

theorem picked_eq (x : FVec Ideal S32x8732x81 .f32) (w : IVec S32x8732 32) :
    picked x w = select (fits (wrapped w)) (Host.gather gather_S32x8732x81_S32x8732x1x1_S32x8732x1_n_2_01_01_2_3_111 x (wrapped w))
      (broadcastInDim S32x8732x1 ![] bcast_S_S32x8732x1 (constant (F := Ideal) S_ .f32 0x7FC00000#32)) := by
  delta picked fits wrapped
  dsimp only

theorem in_range (k : ℕ) (hk : k < 81) :
    IntOp.andi (IntOp.andi (IntOp.cmpi .sge (BitVec.ofNat 32 k) 0#32) (IntOp.cmpi .sle (BitVec.ofNat 32 k) 80#32)) 1#1 = 1#1 := by
  have t := Spec.toInt_ofNat_small k (by omega)
  have h1 : (0#32).toInt ≤ (BitVec.ofNat 32 k).toInt := by rw [t]; exact Int.natCast_nonneg k
  have h2 : (BitVec.ofNat 32 k).toInt ≤ (80#32).toInt := by
    rw [t, show (80#32).toInt = 80 from rfl]; omega
  have e1 : IntOp.cmpi .sge (BitVec.ofNat 32 k) 0#32 = 1#1 := by
    show BitVec.ofBool (decide _) = 1#1
    rw [decide_eq_true h1]; rfl
  have e2 : IntOp.cmpi .sle (BitVec.ofNat 32 k) 80#32 = 1#1 := by
    show BitVec.ofBool (decide _) = 1#1
    rw [decide_eq_true h2]; rfl
  rw [e1, e2]; rfl

theorem select_at (c : IVec S32x8732x1 1) (u v : FVec Ideal S32x8732x1 .f32) (j : S32x8732x1.Idx) (h : c j = 1#1) :
    select c u v j = u j := by
  show Scalar.select (c j) (u j) (v j) = u j
  rw [h]; rfl

theorem picked_at (x : FVec Ideal S32x8732x81 .f32) (w : IVec S32x8732 32) (b : Fin 32) (p : Fin 8732) (k : Fin 81)
    (h : w (ix2 b p) = BitVec.ofNat 32 k.val) : picked x w (ix3 b p 0) = x (ix3 b p k) := by
  have hw := wrapped_at w b p k.val (by omega) h
  rw [picked_eq, select_at _ _ _ _ (by rw [fits_at, hw]; exact in_range k.val k.isLt), pick_at x _ b p k hw]

theorem negated_at (v : FVec Ideal S32x8732x1 .f32) (b : Fin 32) (p : Fin 8732) : negated v (ix2 b p) = -(v (ix3 b p 0)) := by
  pointwise [negated]

theorem rows0 (u v : FVec Ideal S32x8732 .f32) (w : FVec Ideal S32x6x8732 .f32) (b : Fin 32) (p : Fin 8732) :
    rows u v w (ix3 b 0 p) = u (ix2 b p) := by
  pointwise [rows]
theorem rows1 (u v : FVec Ideal S32x8732 .f32) (w : FVec Ideal S32x6x8732 .f32) (b : Fin 32) (p : Fin 8732) :
    rows u v w (ix3 b 1 p) = v (ix2 b p) := by
  pointwise [rows]

/-! ## The localisation loss -/

theorem locSum_at (x0 L : FVec Ideal S32x8732x4 .f32) (v : FVec Ideal S32x8732 .f32) :
    total (locSum x0 L v) (ix2 0 0)
      = ∑ b : Fin 32, ∑ p : Fin 8732, (∑ k : Fin 4, max (x0 (ix3 b p k) - L (ix3 b p k)) (-(x0 (ix3 b p k) - L (ix3 b p k)))) * v (ix2 b p) := by
  pointwise [total, locSum]
  rfl

/-! ## The results -/

variable (x0 : FVec Ideal S32x8732x4 .f32) (x1 : FVec Ideal S32x8732x81 .f32) (x2 : FVec Ideal S32x32x4 .f32) (x3 : IVec S32x32 32) (x4 : FVec Ideal S8732x4 .f32)

/-- The first row: the classification losses, the scores being finite. -/
theorem rRows0 (b : Fin 32) (p : Fin 8732) (k : Fin 81) (hk : word x2 x3 x4 b p = BitVec.ofNat 32 k.val)
    (r : Fin 81 → ℝ) (hr : ∀ c, x1 (ix3 b p c) = ((r c : ℝ) : EReal)) :
    rRows x1 x2 x3 x4 (ix3 b 0 p) = Spec.conf (fun c => x1 (ix3 b p c)) k := by
  unfold rRows
  rw [rows0, negated_at, picked_at _ _ b p k ((rClasses_at x2 x3 x4 b p).trans hk), logp_at, peak_at]
  simp only [hr]
  exact logsum r _ k

/-- The second row: which priors are matched. -/
theorem rRows1 (b : Fin 32) (p : Fin 8732) :
    rRows x1 x2 x3 x4 (ix3 b 1 p) = if word x2 x3 x4 b p = 0#32 then 0 else 1 := by
  unfold rRows
  rw [rows1, posf_at, rClasses_at]

/-- The localisation loss's sum. -/
theorem rTotal_at :
    rTotal x0 x2 x3 x4 (ix2 0 0)
      = ∑ b : Fin 32, ∑ p : Fin 8732, (∑ k : Fin 4, Spec.dist (fun k => x0 (ix3 b p k))
          (Spec.target (fun k => x2 (ix3 b (Spec.obj (ov x2 x4 b) p) k)) (fun k => x4 (ix2 p k))) k)
          * (if word x2 x3 x4 b p = 0#32 then 0 else 1) := by
  unfold rTotal
  rw [locSum_at]
  refine Finset.sum_congr rfl fun b _ => Finset.sum_congr rfl fun p _ => ?_
  rw [posf_at, rClasses_at]
  refine congrArg (fun z : EReal => z * _) ?_
  refine Finset.sum_congr rfl fun k _ => ?_
  rw [rLocs_at]
  rfl

end Cert.ReferenceIdeal.Ref

end
-- ==== Proof.Results.lean ====
/- The kernel's two results in the reference's terms: the rows of losses and marks, and the accumulated sum. -/
module

public import proofs.«01_k».proof.Proof.Blocks
public import proofs.«01_k».proof.Proof.RefLoss

@[expose] public section

set_option maxRecDepth 16384

noncomputable section

namespace Cert.KernelIdeal.Results

open Cert.KernelIdeal Cert.KernelIdeal.Gen Cert.KernelIdeal.Body Cert.KernelIdeal.Launch
open Cert.KernelIdeal.Blocks
open Cert.ReferenceIdeal (Ref.rRows Ref.rTotal Ref.word Ref.ov)
open Idealize.ShloMosaic Idealize.ShloMosaic.TcCoe
open Idealize.SL.Sem

variable (m : (ℓ : Loc nD τ sig) → Buf (Elt Ideal) ℓ) (c : Dev nD)

/-- The predicted offsets. -/
def a0 : FVec Ideal S32x8732x4 .f32 := m ((c : Thread nD τ).loc main_arg0)
/-- The predicted scores. -/
def a1 : FVec Ideal S32x8732x81 .f32 := m ((c : Thread nD τ).loc main_arg1)
/-- The objects' boxes. -/
def a2 : FVec Ideal S32x32x4 .f32 := m ((c : Thread nD τ).loc main_arg2)
/-- The objects' labels. -/
def a3 : IVec S32x32 32 := m ((c : Thread nD τ).loc main_arg3)
/-- The priors. -/
def a4 : FVec Ideal S8732x4 .f32 := m ((c : Thread nD τ).loc main_arg4)

section Image

variable (t : Fin cfg0.N) (b : Fin 32) (hb : b.val = t.val)

include hb

theorem block0 (o : Fin 32) (k : Fin 4) : iblk m c 0 t (ix3 0 o k) = a2 m c (ix3 b o k) := iblk0_at m c t b hb o k
theorem block3 (p : Fin 8732) (k : Fin 4) : iblk m c 3 t (ix3 0 p k) = a0 m c (ix3 b p k) := iblk3_at m c t b hb p k
theorem block4 (p : Fin 8732) (k : Fin 81) : iblk m c 4 t (ix3 0 p k) = a1 m c (ix3 b p k) := iblk4_at m c t b hb p k
theorem label (o : Fin 32) : iblk m c 1 t (ix3 0 4 o) = (((a3 m c (ix2 b o)).toInt : ℝ) : EReal) := iblk1_label m c t b hb o
theorem edges (k : Fin 4) (o : Fin 32) : iblk m c 1 t (ix3 0 ⟨k.val, by omega⟩ o) = iblk m c 0 t (ix3 0 o k) :=
  (iblk1_box m c t b hb k o).trans (iblk0_at m c t b hb o k).symm

omit hb in
theorem block2 (k : Fin 4) (p : Fin 8732) : iblk m c 2 t (ix2 k p) = a4 m c (ix2 p k) := iblk2_at m c t k p

theorem ov_eq : Pay.ov (iblk m c 0 t) (iblk m c 2 t) = Ref.ov (a2 m c) (a4 m c) b := by
  funext o p
  show Spec.iou (fun k => iblk m c 0 t (ix3 0 o k)) (fun k => iblk m c 2 t (ix2 k p))
    = Spec.iou (fun k => a2 m c (ix3 b o k)) (fun k => a4 m c (ix2 p k))
  rw [funext fun k => block0 m c t b hb o k, funext fun k => block2 m c t k p]

theorem words_eq (p : Fin 8732) :
    Pay.words (iblk m c 0 t) (iblk m c 2 t) (fun o => a3 m c (ix2 b o)) p = Ref.word (a2 m c) (a3 m c) (a4 m c) b p := by
  rw [Pay.words, ov_eq m c t b hb, Ref.word]

/-- The marks of one image. -/
theorem marks (p : Fin 8732) :
    posRow (iblk m c 0 t) (iblk m c 1 t) (iblk m c 2 t) (ix3 0 0 p) = Ref.rRows (a1 m c) (a2 m c) (a3 m c) (a4 m c) (ix3 b 1 p) := by
  rw [Pay.posRow_at _ _ _ _ (label m c t b hb), words_eq m c t b hb, ← Cert.ReferenceIdeal.Ref.rRows1]

/-- The classification losses of one image. -/
theorem losses (p : Fin 8732) (k : Fin 81) (hk : Ref.word (a2 m c) (a3 m c) (a4 m c) b p = BitVec.ofNat 32 k.val)
    (r : Fin 81 → ℝ) (hr : ∀ j, a1 m c (ix3 b p j) = ((r j : ℝ) : EReal)) :
    confRow (iblk m c 0 t) (iblk m c 1 t) (iblk m c 2 t) (iblk m c 4 t) (ix3 0 0 p)
      = Ref.rRows (a1 m c) (a2 m c) (a3 m c) (a4 m c) (ix3 b 0 p) := by
  rw [Cert.ReferenceIdeal.Ref.rRows0 _ _ _ _ b p k hk r hr,
    Pay.confRow_at _ _ _ _ (label m c t b hb) _ p k ((words_eq m c t b hb p).trans hk),
    funext fun j => block4 m c t b hb p j]

/-- What one image adds to the sum. -/
def part (b : Fin 32) : EReal :=
  ∑ p : Fin 8732, (∑ k : Fin 4, Spec.dist (fun k => a0 m c (ix3 b p k))
    (Spec.target (fun k => a2 m c (ix3 b (Spec.obj (Ref.ov (a2 m c) (a4 m c) b) p) k)) (fun k => a4 m c (ix2 p k))) k)
    * (if Ref.word (a2 m c) (a3 m c) (a4 m c) b p = 0#32 then 0 else 1)

omit hb in
theorem sum_marked (d : Fin 8732 → Fin 4 → EReal) (w : Fin 8732 → BitVec 32) :
    (∑ k : Fin 4, ∑ p : Fin 8732, d p k * (if w p = 0#32 then 0 else 1))
      = ∑ p : Fin 8732, (∑ k : Fin 4, d p k) * (if w p = 0#32 then 0 else 1) := by
  rw [Finset.sum_comm]
  refine Finset.sum_congr rfl fun p _ => ?_
  by_cases h : w p = 0#32
  · simp only [if_pos h, mul_zero, Finset.sum_const_zero]
  · simp only [if_neg h, mul_one]

theorem adds (acc : Vec Ideal S1x1 .f32) :
    locSum (iblk m c 0 t) (iblk m c 1 t) (iblk m c 2 t) (iblk m c 3 t) acc (ix2 0 0) = acc (ix2 0 0) + part m c b := by
  rw [Pay.locSum_at _ _ _ _ (label m c t b hb) (edges m c t b hb), sum_marked]
  refine congrArg (fun z : EReal => acc (ix2 0 0) + z) (Finset.sum_congr rfl fun p _ => ?_)
  rw [words_eq m c t b hb p, ov_eq m c t b hb, funext fun k => block3 m c t b hb p k, funext fun k => block2 m c t k p,
    funext fun k => block0 m c t b hb _ k]

end Image

/-- The first image starts from nothing. -/
theorem start : k0_pay37 (F := Ideal) (ix2 0 0) = 0 := by
  pointwise [k0_pay37]

/-- What an image adds, by its number. -/
def partN (n : ℕ) : EReal := if h : n < 32 then part m c ⟨n, h⟩ else 0

theorem acc_eq (n : ℕ) (h : n < cfg0.N) : accAt m c n h (ix2 0 0) = ∑ i ∈ Finset.range (n + 1), partN m c i := by
  have hN : cfg0.N = 32 := N_0
  induction n with
  | zero =>
    rw [Finset.sum_range_one, partN, dif_pos (by decide)]
    exact (adds m c ⟨0, h⟩ ⟨0, by decide⟩ rfl _).trans (by rw [start, zero_add])
  | succ n ih =>
    rw [Finset.sum_range_succ, ← ih (by omega), partN, dif_pos (by omega)]
    exact adds m c ⟨n + 1, h⟩ ⟨n + 1, by omega⟩ rfl _

/-- The sum over the images. -/
theorem total (h : 31 < cfg0.N) : accAt m c 31 h = Ref.rTotal (a0 m c) (a2 m c) (a3 m c) (a4 m c) := by
  funext i
  have hi : i = ix2 (0 : Fin 1) (0 : Fin 1) := by
    rw [eq_ix2 i]
    exact congrArg₂ ix2 (Subsingleton.elim _ _) (Subsingleton.elim _ _)
  rw [hi, acc_eq, Cert.ReferenceIdeal.Ref.rTotal_at, Finset.sum_range]
  refine Finset.sum_congr rfl fun b _ => ?_
  rw [partN, dif_pos b.isLt, part]

end Cert.KernelIdeal.Results

end
-- ==== Proof.Domain.lean ====
/- What the condition on the arguments and the mask on the first result say, element by element. -/
module

public import proofs.«01_k».proof.Proof.RefLoss
public import proofs.«01_k».proof.Proof.Gen.Pre_labels_in_range_scores_finite
public import proofs.«01_k».proof.Proof.Gen.On_rows_written

@[expose] public section

set_option maxRecDepth 16384

noncomputable section

namespace Cert.Domain

open Cert.ReferenceIdeal
open Idealize.ShloMosaic Idealize.SL.Sem

variable (x0 : FVec Ideal S32x8732x4 .f32) (x1 : FVec Ideal S32x8732x81 .f32) (x2 : FVec Ideal S32x32x4 .f32) (x3 : IVec S32x32 32) (x4 : FVec Ideal S8732x4 .f32)

/-- A label between 1 and 80 is one of the 81 classes. -/
theorem small (l : BitVec 32) (h1 : (1#32).sle l = true) (h2 : l.slt 81#32 = true) : ∃ k : Fin 81, l = BitVec.ofNat 32 k.val := by
  have hu : l.toNat < 81 := by
    simp only [BitVec.sle, BitVec.slt, decide_eq_true_eq, BitVec.toInt_eq_toNat_cond] at h1 h2
    simp at h1 h2
    split at h1 <;> split at h2 <;> omega
  exact ⟨⟨l.toNat, hu⟩, BitVec.eq_of_toNat_eq (by simp)⟩

/-- The labels are classes. -/
theorem labels (h : (Pre_labels_in_range_scores_finite.fn (F := Ideal) x0 x1 x2 x3 x4).1 = fun _ => 1#1) (i : S32x32.Idx) :
    ∃ k : Fin 81, x3 i = BitVec.ofNat 32 k.val := by
  have e : BitVec.ofBool ((1#32).sle (x3 i)) &&& BitVec.ofBool ((x3 i).slt 81#32) = 1#1 := congrFun h i
  refine small (x3 i) ?_ ?_
  · cases h1 : (1#32).sle (x3 i)
    · rw [h1] at e; simp at e
    · rfl
  · cases h2 : (x3 i).slt 81#32
    · rw [h2] at e; simp at e
    · rfl

/-- The word of infinity. -/
theorem inf_eq : (Ideal.ofBits .f32 0x7F800000#32 : EReal) = ⊤ := by
  simp [Ideal.ofBits, Ideal.ieee, -EReal.coe_mul]

/-- The scores are real numbers. -/
theorem scores (h : (Pre_labels_in_range_scores_finite.fn (F := Ideal) x0 x1 x2 x3 x4).2 = fun _ => 1#1) (i : S32x8732x81.Idx) :
    x1 i = ((EReal.toReal (x1 i) : ℝ) : EReal) := by
  have e : (FloatOps.cmpf .olt (max (x1 i : EReal) (-x1 i) : Ideal .f32) (Ideal.ofBits .f32 0x7F800000#32 : Ideal .f32) : BitVec 1) = 1#1 := congrFun h i
  rw [inf_eq, Ideal.cmpf_def] at e
  have lt : max (x1 i : EReal) (-x1 i) < ⊤ := by
    by_contra hn
    simp [Ideal.cmp, hn] at e
  have h1 : (x1 i : EReal) ≠ ⊤ := fun ht => by rw [ht] at lt; simp at lt
  have h2 : (x1 i : EReal) ≠ ⊥ := fun ht => by rw [ht] at lt; simp at lt
  exact (EReal.coe_toReal h1 h2).symm

/-- Every class word is a class. -/
theorem word_class (h : ∀ i : S32x32.Idx, ∃ k : Fin 81, x3 i = BitVec.ofNat 32 k.val) (b : Fin 32) (p : Fin 8732) :
    ∃ k : Fin 81, Ref.word x2 x3 x4 b p = BitVec.ofNat 32 k.val := by
  rw [Ref.word, Spec.word]
  split
  · exact ⟨0, rfl⟩
  · exact h _

/-- The mask holds of rows 0 and 1 alone. -/
theorem row (b : Fin 32) (r : Fin 8) (p : Fin 8732) (h : (On_rows_written.fn (F := Ideal) x0 x1 x2 x3 x4).1 (ix3 b r p) = 1#1) : r = 0 ∨ r = 1 := by
  have e : BitVec.ofBool ((BitVec.ofNat 32 r.val).slt 2#32) = 1#1 := h
  have all : ∀ r : Fin 8, BitVec.ofBool ((BitVec.ofNat 32 r.val).slt 2#32) = 1#1 → r = 0 ∨ r = 1 := by decide
  exact all r e

end Cert.Domain

end
-- ==== Proof.RefOps.lean ====
/- The operations of the reference, cut into short lines, and the program as the line of all of them. -/
module

public import proofs.«01_k».proof.Proof.Gen.ReferenceIdeal
public import Idealize.ShloMosaic.Lib.Pointwise
public import Idealize.ShloMosaic.Lib.StableHlo.Run
public import Idealize.ShloMosaic.Lib.StableHlo.RunHlo

@[expose] public section

set_option maxRecDepth 16384
set_option Elab.async false

noncomputable section

namespace Cert.ReferenceIdeal.Ref

open Cert.ReferenceIdeal Cert.ReferenceIdeal.Gen
open Idealize.ShloMosaic Idealize.ShloMosaic.TcCoe Idealize.ShloMosaic.Tactic
open Idealize.SL.Sem
open StableHlo (after)

variable {F : FTy → Type} [FloatOps F]

def opsA : List (HloOp τ sig (Elt F)) :=
  [StableHlo.unary main_arg4 main_v0 ((extractStridedSlice S8732x2 ![0, 0] · slices_S8732x4_S8732x2_0_0) : (⟨S8732x4, .f32⟩ : BufTy).Contents (Elt F) → (⟨S8732x2, .f32⟩ : BufTy).Contents (Elt F)),
   StableHlo.unary main_arg4 main_v1 ((extractStridedSlice S8732x2 ![0, 2] · slices_S8732x4_S8732x2_0_2) : (⟨S8732x4, .f32⟩ : BufTy).Contents (Elt F) → (⟨S8732x2, .f32⟩ : BufTy).Contents (Elt F)),
   StableHlo.nullary main_cst (constant S_ .f32 0x40000000#32),
   StableHlo.unary main_cst main_v2 (broadcastInDim S8732x2 ![] bcast_S_S8732x2 : (⟨S_, .f32⟩ : BufTy).Contents (Elt F) → (⟨S8732x2, .f32⟩ : BufTy).Contents (Elt F)),
   StableHlo.binary main_v1 main_v2 main_v3 (Host.divf : (⟨S8732x2, .f32⟩ : BufTy).Contents (Elt F) → (⟨S8732x2, .f32⟩ : BufTy).Contents (Elt F) → (⟨S8732x2, .f32⟩ : BufTy).Contents (Elt F)),
   StableHlo.binary main_v0 main_v3 main_v4 (subf : (⟨S8732x2, .f32⟩ : BufTy).Contents (Elt F) → (⟨S8732x2, .f32⟩ : BufTy).Contents (Elt F) → (⟨S8732x2, .f32⟩ : BufTy).Contents (Elt F)),
   StableHlo.unary main_arg4 main_v5 ((extractStridedSlice S8732x2 ![0, 0] · slices_S8732x4_S8732x2_0_0) : (⟨S8732x4, .f32⟩ : BufTy).Contents (Elt F) → (⟨S8732x2, .f32⟩ : BufTy).Contents (Elt F)),
   StableHlo.unary main_arg4 main_v6 ((extractStridedSlice S8732x2 ![0, 2] · slices_S8732x4_S8732x2_0_2) : (⟨S8732x4, .f32⟩ : BufTy).Contents (Elt F) → (⟨S8732x2, .f32⟩ : BufTy).Contents (Elt F)),
   StableHlo.nullary main_cst_0 (constant S_ .f32 0x40000000#32),
   StableHlo.unary main_cst_0 main_v7 (broadcastInDim S8732x2 ![] bcast_S_S8732x2 : (⟨S_, .f32⟩ : BufTy).Contents (Elt F) → (⟨S8732x2, .f32⟩ : BufTy).Contents (Elt F)),
   StableHlo.binary main_v6 main_v7 main_v8 (Host.divf : (⟨S8732x2, .f32⟩ : BufTy).Contents (Elt F) → (⟨S8732x2, .f32⟩ : BufTy).Contents (Elt F) → (⟨S8732x2, .f32⟩ : BufTy).Contents (Elt F)),
   StableHlo.binary main_v5 main_v8 main_v9 (addf : (⟨S8732x2, .f32⟩ : BufTy).Contents (Elt F) → (⟨S8732x2, .f32⟩ : BufTy).Contents (Elt F) → (⟨S8732x2, .f32⟩ : BufTy).Contents (Elt F)),
   StableHlo.binary main_v4 main_v9 main_v10 ((fun a b => concatenate S8732x4 1 [⟨S8732x2, a⟩, ⟨S8732x2, b⟩] concatenates_S8732x2_S8732x2_S8732x4_d1) : (⟨S8732x2, .f32⟩ : BufTy).Contents (Elt F) → (⟨S8732x2, .f32⟩ : BufTy).Contents (Elt F) → (⟨S8732x4, .f32⟩ : BufTy).Contents (Elt F)),
   StableHlo.nullary main_v11 (iotaInDim S32 32 0),
   StableHlo.unary main_v11 main_v12 (broadcastInDim S32x1 ![0] bcast_S32_S32x1_0 : (⟨S32, .i32⟩ : BufTy).Contents (Elt F) → (⟨S32x1, .i32⟩ : BufTy).Contents (Elt F))]

def opsB : List (HloOp τ sig (Elt F)) :=
  [StableHlo.unary main_arg2 main_v13 ((extractStridedSlice S32x32x2 ![0, 0, 0] · slices_S32x32x4_S32x32x2_0_0_0) : (⟨S32x32x4, .f32⟩ : BufTy).Contents (Elt F) → (⟨S32x32x2, .f32⟩ : BufTy).Contents (Elt F)),
   StableHlo.unary main_v13 main_v14 (broadcastInDim S32x32x1x2 ![0, 1, 3] bcast_S32x32x2_S32x32x1x2_0_1_3 : (⟨S32x32x2, .f32⟩ : BufTy).Contents (Elt F) → (⟨S32x32x1x2, .f32⟩ : BufTy).Contents (Elt F)),
   StableHlo.unary main_v10 main_v15 ((extractStridedSlice S8732x2 ![0, 0] · slices_S8732x4_S8732x2_0_0) : (⟨S8732x4, .f32⟩ : BufTy).Contents (Elt F) → (⟨S8732x2, .f32⟩ : BufTy).Contents (Elt F)),
   StableHlo.unary main_v15 main_v16 (broadcastInDim S1x8732x2 ![1, 2] bcast_S8732x2_S1x8732x2_1_2 : (⟨S8732x2, .f32⟩ : BufTy).Contents (Elt F) → (⟨S1x8732x2, .f32⟩ : BufTy).Contents (Elt F)),
   StableHlo.unary main_v16 main_v17 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
   StableHlo.unary main_v14 main_v18 (broadcastInDim S32x32x8732x2 ![0, 1, 2, 3] bcast_S32x32x1x2_S32x32x8732x2_0_1_2_3 : (⟨S32x32x1x2, .f32⟩ : BufTy).Contents (Elt F) → (⟨S32x32x8732x2, .f32⟩ : BufTy).Contents (Elt F)),
   StableHlo.unary main_v17 main_v19 (broadcastInDim S32x32x8732x2 ![0, 1, 2, 3] bcast_S1x1x8732x2_S32x32x8732x2_0_1_2_3 : (⟨S1x1x8732x2, .f32⟩ : BufTy).Contents (Elt F) → (⟨S32x32x8732x2, .f32⟩ : BufTy).Contents (Elt F)),
   StableHlo.binary main_v18 main_v19 main_v20 (maximumf : (⟨S32x32x8732x2, .f32⟩ : BufTy).Contents (Elt F) → (⟨S32x32x8732x2, .f32⟩ : BufTy).Contents (Elt F) → (⟨S32x32x8732x2, .f32⟩ : BufTy).Contents (Elt F)),
   StableHlo.unary main_arg2 main_v21 ((extractStridedSlice S32x32x2 ![0, 0, 2] · slices_S32x32x4_S32x32x2_0_0_2) : (⟨S32x32x4, .f32⟩ : BufTy).Contents (Elt F) → (⟨S32x32x2, .f32⟩ : BufTy).Contents (Elt F)),
   StableHlo.unary main_v21 main_v22 (broadcastInDim S32x32x1x2 ![0, 1, 3] bcast_S32x32x2_S32x32x1x2_0_1_3 : (⟨S32x32x2, .f32⟩ : BufTy).Contents (Elt F) → (⟨S32x32x1x2, .f32⟩ : BufTy).Contents (Elt F)),
   StableHlo.unary main_v10 main_v23 ((extractStridedSlice S8732x2 ![0, 2] · slices_S8732x4_S8732x2_0_2) : (⟨S8732x4, .f32⟩ : BufTy).Contents (Elt F) → (⟨S8732x2, .f32⟩ : BufTy).Contents (Elt F)),
   StableHlo.unary main_v23 main_v24 (broadcastInDim S1x8732x2 ![1, 2] bcast_S8732x2_S1x8732x2_1_2 : (⟨S8732x2, .f32⟩ : BufTy).Contents (Elt F) → (⟨S1x8732x2, .f32⟩ : BufTy).Contents (Elt F)),
   StableHlo.unary main_v24 main_v25 (broadcastInDim S1x1x8732x2 ![1, 2, 3] bcast_S1x8732x2_S1x1x8732x2_1_2_3 : (⟨S1x8732x2, .f32⟩ : BufTy).Contents (Elt F) → (⟨S1x1x8732x2, .f32⟩ : BufTy).Contents (Elt F)),
   StableHlo.unary main_v22 main_v26 (broadcastInDim S32x32x8732x2 ![0, 1, 2, 3] bcast_S32x32x1x2_S32x32x8732x2_0_1_2_3 : (⟨S32x32x1x2, .f32⟩ : BufTy).Contents (Elt F) → (⟨S32x32x8732x2, .f32⟩ : BufTy).Contents (Elt F)),
   StableHlo.unary main_v25 main_v27 (broadcastInDim S32x32x8732x2 ![0, 1, 2, 3] bcast_S1x1x8732x2_S32x32x8732x2_0_1_2_3 : (⟨S1x1x8732x2, .f32⟩ : BufTy).Contents (Elt F) → (⟨S32x32x8732x2, .f32⟩ : BufTy).Contents (Elt F)),
   StableHlo.binary main_v26 main_v27 main_v28 (minimumf : (⟨S32x32x8732x2, .f32⟩ : BufTy).Contents (Elt F) → (⟨S32x32x8732x2, .f32⟩ : BufTy).Contents (Elt F) → (⟨S32x32x8732x2, .f32⟩ : BufTy).Contents (Elt F)),
   StableHlo.binary main_v28 main_v20 main_v29 (subf : (⟨S32x32x8732x2, .f32⟩ : BufTy).Contents (Elt F) → (⟨S32x32x8732x2, .f32⟩ : BufTy).Contents (Elt F) → (⟨S32x32x8732x2, .f32⟩ : BufTy).Contents (Elt F)),
   StableHlo.nullary main_cst_1 (constant S_ .f32 0x00000000#32),
   StableHlo.unary main_cst_1 main_v30 (broadcastInDim S32x32x8732x2 ![] bcast_S_S32x32x8732x2 : (⟨S_, .f32⟩ : BufTy).Contents (Elt F) → (⟨S32x32x8732x2, .f32⟩ : BufTy).Contents (Elt F)),
   StableHlo.binary main_v29 main_v30 main_v31 (maximumf : (⟨S32x32x8732x2, .f32⟩ : BufTy).Contents (Elt F) → (⟨S32x32x8732x2, .f32⟩ : BufTy).Contents (Elt F) → (⟨S32x32x8732x2, .f32⟩ : BufTy).Contents (Elt F)),
   StableHlo.unary main_v31 main_v32 ((extractStridedSlice S32x32x8732x1 ![0, 0, 0, 0] · slices_S32x32x8732x2_S32x32x8732x1_0_0_0_0) : (⟨S32x32x8732x2, .f32⟩ : BufTy).Contents (Elt F) → (⟨S32x32x8732x1, .f32⟩ : BufTy).Contents (Elt F)),
   StableHlo.reshape main_v32 main_v33 (rfl : (.f32 : EltTy) = .f32) shapeCasts_S32x32x8732x1_S32x32x8732,
   StableHlo.unary main_v31 main_v34 ((extractStridedSlice S32x32x8732x1 ![0, 0, 0, 1] · slices_S32x32x8732x2_S32x32x8732x1_0_0_0_1) : (⟨S32x32x8732x2, .f32⟩ : BufTy).Contents (Elt F) → (⟨S32x32x8732x1, .f32⟩ : BufTy).Contents (Elt F)),
   StableHlo.reshape main_v34 main_v35 (rfl : (.f32 : EltTy) = .f32) shapeCasts_S32x32x8732x1_S32x32x8732,
   StableHlo.binary main_v33 main_v35 main_v36 (mulf : (⟨S32x32x8732, .f32⟩ : BufTy).Contents (Elt F) → (⟨S32x32x8732, .f32⟩ : BufTy).Contents (Elt F) → (⟨S32x32x8732, .f32⟩ : BufTy).Contents (Elt F)),
   StableHlo.unary main_arg2 main_v37 ((extractStridedSlice S32x32x1 ![0, 0, 2] · slices_S32x32x4_S32x32x1_0_0_2) : (⟨S32x32x4, .f32⟩ : BufTy).Contents (Elt F) → (⟨S32x32x1, .f32⟩ : BufTy).Contents (Elt F)),
   StableHlo.reshape main_v37 main_v38 (rfl : (.f32 : EltTy) = .f32) shapeCasts_S32x32x1_S32x32,
   StableHlo.unary main_arg2 main_v39 ((extractStridedSlice S32x32x1 ![0, 0, 0] · slices_S32x32x4_S32x32x1_0_0_0) : (⟨S32x32x4, .f32⟩ : BufTy).Contents (Elt F) → (⟨S32x32x1, .f32⟩ : BufTy).Contents (Elt F)),
   StableHlo.reshape main_v39 main_v40 (rfl : (.f32 : EltTy) = .f32) shapeCasts_S32x32x1_S32x32,
   StableHlo.binary main_v38 main_v40 main_v41 (subf : (⟨S32x32, .f32⟩ : BufTy).Contents (Elt F) → (⟨S32x32, .f32⟩ : BufTy).Contents (Elt F) → (⟨S32x32, .f32⟩ : BufTy).Contents (Elt F)),
   StableHlo.unary main_arg2 main_v42 ((extractStridedSlice S32x32x1 ![0, 0, 3] · slices_S32x32x4_S32x32x1_0_0_3) : (⟨S32x32x4, .f32⟩ : BufTy).Contents (Elt F) → (⟨S32x32x1, .f32⟩ : BufTy).Contents (Elt F)),
   StableHlo.reshape main_v42 main_v43 (rfl : (.f32 : EltTy) = .f32) shapeCasts_S32x32x1_S32x32,
   StableHlo.unary main_arg2 main_v44 ((extractStridedSlice S32x32x1 ![0, 0, 1] · slices_S32x32x4_S32x32x1_0_0_1) : (⟨S32x32x4, .f32⟩ : BufTy).Contents (Elt F) → (⟨S32x32x1, .f32⟩ : BufTy).Contents (Elt F)),
   StableHlo.reshape main_v44 main_v45 (rfl : (.f32 : EltTy) = .f32) shapeCasts_S32x32x1_S32x32,
   StableHlo.binary main_v43 main_v45 main_v46 (subf : (⟨S32x32, .f32⟩ : BufTy).Contents (Elt F) → (⟨S32x32, .f32⟩ : BufTy).Contents (Elt F) → (⟨S32x32, .f32⟩ : BufTy).Contents (Elt F)),
   StableHlo.binary main_v41 main_v46 main_v47 (mulf : (⟨S32x32, .f32⟩ : BufTy).Contents (Elt F) → (⟨S32x32, .f32⟩ : BufTy).Contents (Elt F) → (⟨S32x32, .f32⟩ : BufTy).Contents (Elt F)),
   StableHlo.unary main_v10 main_v48 ((extractStridedSlice S8732x1 ![0, 2] · slices_S8732x4_S8732x1_0_2) : (⟨S8732x4, .f32⟩ : BufTy).Contents (Elt F) → (⟨S8732x1, .f32⟩ : BufTy).Contents (Elt F)),
   StableHlo.reshape main_v48 main_v49 (rfl : (.f32 : EltTy) = .f32) shapeCasts_S8732x1_S8732,
   StableHlo.unary main_v10 main_v50 ((extractStridedSlice S8732x1 ![0, 0] · slices_S8732x4_S8732x1_0_0) : (⟨S8732x4, .f32⟩ : BufTy).Contents (Elt F) → (⟨S8732x1, .f32⟩ : BufTy).Contents (Elt F)),
   StableHlo.reshape main_v50 main_v51 (rfl : (.f32 : EltTy) = .f32) shapeCasts_S8732x1_S8732,
   StableHlo.binary main_v49 main_v51 main_v52 (subf : (⟨S8732, .f32⟩ : BufTy).Contents (Elt F) → (⟨S8732, .f32⟩ : BufTy).Contents (Elt F) → (⟨S8732, .f32⟩ : BufTy).Contents (Elt F)),
   StableHlo.unary main_v10 main_v53 ((extractStridedSlice S8732x1 ![0, 3] · slices_S8732x4_S8732x1_0_3) : (⟨S8732x4, .f32⟩ : BufTy).Contents (Elt F) → (⟨S8732x1, .f32⟩ : BufTy).Contents (Elt F)),
   StableHlo.reshape main_v53 main_v54 (rfl : (.f32 : EltTy) = .f32) shapeCasts_S8732x1_S8732,
   StableHlo.unary main_v10 main_v55 ((extractStridedSlice S8732x1 ![0, 1] · slices_S8732x4_S8732x1_0_1) : (⟨S8732x4, .f32⟩ : BufTy).Contents (Elt F) → (⟨S8732x1, .f32⟩ : BufTy).Contents (Elt F)),
   StableHlo.reshape main_v55 main_v56 (rfl : (.f32 : EltTy) = .f32) shapeCasts_S8732x1_S8732]

def opsB2 : List (HloOp τ sig (Elt F)) :=
  [StableHlo.binary main_v54 main_v56 main_v57 (subf : (⟨S8732, .f32⟩ : BufTy).Contents (Elt F) → (⟨S8732, .f32⟩ : BufTy).Contents (Elt F) → (⟨S8732, .f32⟩ : BufTy).Contents (Elt F)),
   StableHlo.binary main_v52 main_v57 main_v58 (mulf : (⟨S8732, .f32⟩ : BufTy).Contents (Elt F) → (⟨S8732, .f32⟩ : BufTy).Contents (Elt F) → (⟨S8732, .f32⟩ : BufTy).Contents (Elt F)),
   StableHlo.unary main_v47 main_v59 (broadcastInDim S32x32x1 ![0, 1] bcast_S32x32_S32x32x1_0_1 : (⟨S32x32, .f32⟩ : BufTy).Contents (Elt F) → (⟨S32x32x1, .f32⟩ : BufTy).Contents (Elt F)),
   StableHlo.unary main_v58 main_v60 (broadcastInDim S1x8732 ![1] bcast_S8732_S1x8732_1 : (⟨S8732, .f32⟩ : BufTy).Contents (Elt F) → (⟨S1x8732, .f32⟩ : BufTy).Contents (Elt F)),
   StableHlo.unary main_v60 main_v61 (broadcastInDim S1x1x8732 ![1, 2] bcast_S1x8732_S1x1x8732_1_2 : (⟨S1x8732, .f32⟩ : BufTy).Contents (Elt F) → (⟨S1x1x8732, .f32⟩ : BufTy).Contents (Elt F)),
   StableHlo.unary main_v59 main_v62 (broadcastInDim S32x32x8732 ![0, 1, 2] bcast_S32x32x1_S32x32x8732_0_1_2 : (⟨S32x32x1, .f32⟩ : BufTy).Contents (Elt F) → (⟨S32x32x8732, .f32⟩ : BufTy).Contents (Elt F)),
   StableHlo.unary main_v61 main_v63 (broadcastInDim S32x32x8732 ![0, 1, 2] bcast_S1x1x8732_S32x32x8732_0_1_2 : (⟨S1x1x8732, .f32⟩ : BufTy).Contents (Elt F) → (⟨S32x32x8732, .f32⟩ : BufTy).Contents (Elt F)),
   StableHlo.binary main_v62 main_v63 main_v64 (addf : (⟨S32x32x8732, .f32⟩ : BufTy).Contents (Elt F) → (⟨S32x32x8732, .f32⟩ : BufTy).Contents (Elt F) → (⟨S32x32x8732, .f32⟩ : BufTy).Contents (Elt F)),
   StableHlo.binary main_v64 main_v36 main_v65 (subf : (⟨S32x32x8732, .f32⟩ : BufTy).Contents (Elt F) → (⟨S32x32x8732, .f32⟩ : BufTy).Contents (Elt F) → (⟨S32x32x8732, .f32⟩ : BufTy).Contents (Elt F)),
   StableHlo.nullary main_cst_2 (constant S_ .f32 0x2EDBE6FF#32),
   StableHlo.unary main_cst_2 main_v66 (broadcastInDim S32x32x8732 ![] bcast_S_S32x32x8732 : (⟨S_, .f32⟩ : BufTy).Contents (Elt F) → (⟨S32x32x8732, .f32⟩ : BufTy).Contents (Elt F)),
   StableHlo.binary main_v65 main_v66 main_v67 (addf : (⟨S32x32x8732, .f32⟩ : BufTy).Contents (Elt F) → (⟨S32x32x8732, .f32⟩ : BufTy).Contents (Elt F) → (⟨S32x32x8732, .f32⟩ : BufTy).Contents (Elt F)),
   StableHlo.binary main_v36 main_v67 main_v68 (Host.divf : (⟨S32x32x8732, .f32⟩ : BufTy).Contents (Elt F) → (⟨S32x32x8732, .f32⟩ : BufTy).Contents (Elt F) → (⟨S32x32x8732, .f32⟩ : BufTy).Contents (Elt F))]

def opsC : List (HloOp τ sig (Elt F)) :=
  [StableHlo.nullary main_cst_3 (constant S_ .f32 0xFF800000#32),
   StableHlo.binary main_v68 main_cst_3 main_v69 ((fun x v => Host.reduce FloatOps.maximumf x v reducesTo_S32x32x8732_S32x8732_d1 h_S_) : (⟨S32x32x8732, .f32⟩ : BufTy).Contents (Elt F) → (⟨S_, .f32⟩ : BufTy).Contents (Elt F) → (⟨S32x8732, .f32⟩ : BufTy).Contents (Elt F)),
   StableHlo.TRef.nullary (.of main_call0_v0 : StableHlo.TRef sig ⟨S32x32x8732, .i32⟩) (iotaInDim S32x32x8732 32 1),
   StableHlo.TRef.nullary (.of main_call0_cst : StableHlo.TRef sig ⟨S_, .f32⟩) (constant S_ .f32 0xFF800000#32),
   StableHlo.TRef.nullary (.of main_call0_c : StableHlo.TRef sig ⟨S_, .i32⟩) (constantI S_ 32 0#32),
   StableHlo.TRef.quaternary (.of main_v68 : StableHlo.TRef sig ⟨S32x32x8732, .f32⟩) (.of main_call0_v0 : StableHlo.TRef sig ⟨S32x32x8732, .i32⟩) (.of main_call0_cst : StableHlo.TRef sig ⟨S_, .f32⟩) (.of main_call0_c : StableHlo.TRef sig ⟨S_, .i32⟩) (.of main_call0_v1_0 : StableHlo.TRef sig ⟨S32x8732, .f32⟩) (fun x y u v j => (Host.argReduce reducer_argmax_f32_i32 x y u v reducesTo_S32x32x8732_S32x8732_d1 h_S_ j).1),
   StableHlo.TRef.quaternary (.of main_v68 : StableHlo.TRef sig ⟨S32x32x8732, .f32⟩) (.of main_call0_v0 : StableHlo.TRef sig ⟨S32x32x8732, .i32⟩) (.of main_call0_cst : StableHlo.TRef sig ⟨S_, .f32⟩) (.of main_call0_c : StableHlo.TRef sig ⟨S_, .i32⟩) (.of main_v70 : StableHlo.TRef sig ⟨S32x8732, .i32⟩) (fun x y u v j => (Host.argReduce reducer_argmax_f32_i32 x y u v reducesTo_S32x32x8732_S32x8732_d1 h_S_ j).2),
   StableHlo.TRef.nullary (.of main_call1_v0 : StableHlo.TRef sig ⟨S32x32x8732, .i32⟩) (iotaInDim S32x32x8732 32 2),
   StableHlo.TRef.nullary (.of main_call1_cst : StableHlo.TRef sig ⟨S_, .f32⟩) (constant S_ .f32 0xFF800000#32),
   StableHlo.TRef.nullary (.of main_call1_c : StableHlo.TRef sig ⟨S_, .i32⟩) (constantI S_ 32 0#32),
   StableHlo.TRef.quaternary (.of main_v68 : StableHlo.TRef sig ⟨S32x32x8732, .f32⟩) (.of main_call1_v0 : StableHlo.TRef sig ⟨S32x32x8732, .i32⟩) (.of main_call1_cst : StableHlo.TRef sig ⟨S_, .f32⟩) (.of main_call1_c : StableHlo.TRef sig ⟨S_, .i32⟩) (.of main_call1_v1_0 : StableHlo.TRef sig ⟨S32x32, .f32⟩) (fun x y u v j => (Host.argReduce reducer_argmax_f32_i32 x y u v reducesTo_S32x32x8732_S32x32_d2 h_S_ j).1),
   StableHlo.TRef.quaternary (.of main_v68 : StableHlo.TRef sig ⟨S32x32x8732, .f32⟩) (.of main_call1_v0 : StableHlo.TRef sig ⟨S32x32x8732, .i32⟩) (.of main_call1_cst : StableHlo.TRef sig ⟨S_, .f32⟩) (.of main_call1_c : StableHlo.TRef sig ⟨S_, .i32⟩) (.of main_v71 : StableHlo.TRef sig ⟨S32x32, .i32⟩) (fun x y u v j => (Host.argReduce reducer_argmax_f32_i32 x y u v reducesTo_S32x32x8732_S32x32_d2 h_S_ j).2),
   StableHlo.nullary main_v72 (iotaInDim S32 32 0)]

def opsD : List (HloOp τ sig (Elt F)) :=
  [StableHlo.nullary main_c (constantI S_ 32 0#32),
   StableHlo.unary main_c main_v73 (broadcastInDim S32x1 ![] bcast_S_S32x1 : (⟨S_, .i32⟩ : BufTy).Contents (Elt F) → (⟨S32x1, .i32⟩ : BufTy).Contents (Elt F)),
   StableHlo.binary main_v12 main_v73 main_v74 (cmpi .slt : (⟨S32x1, .i32⟩ : BufTy).Contents (Elt F) → (⟨S32x1, .i32⟩ : BufTy).Contents (Elt F) → (⟨S32x1, .i1⟩ : BufTy).Contents (Elt F)),
   StableHlo.nullary main_c_4 (constantI S_ 32 32#32),
   StableHlo.unary main_c_4 main_v75 (broadcastInDim S32x1 ![] bcast_S_S32x1 : (⟨S_, .i32⟩ : BufTy).Contents (Elt F) → (⟨S32x1, .i32⟩ : BufTy).Contents (Elt F)),
   StableHlo.binary main_v12 main_v75 main_v76 (addi : (⟨S32x1, .i32⟩ : BufTy).Contents (Elt F) → (⟨S32x1, .i32⟩ : BufTy).Contents (Elt F) → (⟨S32x1, .i32⟩ : BufTy).Contents (Elt F)),
   StableHlo.ternary main_v74 main_v76 main_v12 main_v77 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
   StableHlo.nullary main_c_5 (constantI S_ 32 0#32),
   StableHlo.unary main_c_5 main_v78 (broadcastInDim S32x32 ![] bcast_S_S32x32 : (⟨S_, .i32⟩ : BufTy).Contents (Elt F) → (⟨S32x32, .i32⟩ : BufTy).Contents (Elt F)),
   StableHlo.binary main_v71 main_v78 main_v79 (cmpi .slt : (⟨S32x32, .i32⟩ : BufTy).Contents (Elt F) → (⟨S32x32, .i32⟩ : BufTy).Contents (Elt F) → (⟨S32x32, .i1⟩ : BufTy).Contents (Elt F)),
   StableHlo.nullary main_c_6 (constantI S_ 32 8732#32),
   StableHlo.unary main_c_6 main_v80 (broadcastInDim S32x32 ![] bcast_S_S32x32 : (⟨S_, .i32⟩ : BufTy).Contents (Elt F) → (⟨S32x32, .i32⟩ : BufTy).Contents (Elt F)),
   StableHlo.binary main_v71 main_v80 main_v81 (addi : (⟨S32x32, .i32⟩ : BufTy).Contents (Elt F) → (⟨S32x32, .i32⟩ : BufTy).Contents (Elt F) → (⟨S32x32, .i32⟩ : BufTy).Contents (Elt F)),
   StableHlo.ternary main_v79 main_v81 main_v71 main_v82 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
   StableHlo.unary main_v77 main_v83 (broadcastInDim S32x32 ![0, 1] bcast_S32x1_S32x32_0_1 : (⟨S32x1, .i32⟩ : BufTy).Contents (Elt F) → (⟨S32x32, .i32⟩ : BufTy).Contents (Elt F)),
   StableHlo.unary main_v83 main_v84 (broadcastInDim S32x32x1 ![0, 1] bcast_S32x32_S32x32x1_0_1 : (⟨S32x32, .i32⟩ : BufTy).Contents (Elt F) → (⟨S32x32x1, .i32⟩ : BufTy).Contents (Elt F)),
   StableHlo.unary main_v82 main_v85 (broadcastInDim S32x32x1 ![0, 1] bcast_S32x32_S32x32x1_0_1 : (⟨S32x32, .i32⟩ : BufTy).Contents (Elt F) → (⟨S32x32x1, .i32⟩ : BufTy).Contents (Elt F)),
   StableHlo.binary main_v84 main_v85 main_v86 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
   StableHlo.unary main_v72 main_v87 (broadcastInDim S32x32 ![1] bcast_S32_S32x32_1 : (⟨S32, .i32⟩ : BufTy).Contents (Elt F) → (⟨S32x32, .i32⟩ : BufTy).Contents (Elt F)),
   StableHlo.ternary main_v70 main_v86 main_v87 main_v88 ((fun x i u => Host.scatter scatter_S32x8732_S32x32x2_S32x32_n_01_01_2 (fun _ b => b) x i u) : (⟨S32x8732, .i32⟩ : BufTy).Contents (Elt F) → (⟨S32x32x2, .i32⟩ : BufTy).Contents (Elt F) → (⟨S32x32, .i32⟩ : BufTy).Contents (Elt F) → (⟨S32x8732, .i32⟩ : BufTy).Contents (Elt F)),
   StableHlo.nullary main_c_7 (constantI S_ 32 0#32),
   StableHlo.unary main_c_7 main_v89 (broadcastInDim S32x1 ![] bcast_S_S32x1 : (⟨S_, .i32⟩ : BufTy).Contents (Elt F) → (⟨S32x1, .i32⟩ : BufTy).Contents (Elt F)),
   StableHlo.binary main_v12 main_v89 main_v90 (cmpi .slt : (⟨S32x1, .i32⟩ : BufTy).Contents (Elt F) → (⟨S32x1, .i32⟩ : BufTy).Contents (Elt F) → (⟨S32x1, .i1⟩ : BufTy).Contents (Elt F)),
   StableHlo.nullary main_c_8 (constantI S_ 32 32#32),
   StableHlo.unary main_c_8 main_v91 (broadcastInDim S32x1 ![] bcast_S_S32x1 : (⟨S_, .i32⟩ : BufTy).Contents (Elt F) → (⟨S32x1, .i32⟩ : BufTy).Contents (Elt F)),
   StableHlo.binary main_v12 main_v91 main_v92 (addi : (⟨S32x1, .i32⟩ : BufTy).Contents (Elt F) → (⟨S32x1, .i32⟩ : BufTy).Contents (Elt F) → (⟨S32x1, .i32⟩ : BufTy).Contents (Elt F)),
   StableHlo.ternary main_v90 main_v92 main_v12 main_v93 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
   StableHlo.nullary main_c_9 (constantI S_ 32 0#32),
   StableHlo.unary main_c_9 main_v94 (broadcastInDim S32x32 ![] bcast_S_S32x32 : (⟨S_, .i32⟩ : BufTy).Contents (Elt F) → (⟨S32x32, .i32⟩ : BufTy).Contents (Elt F)),
   StableHlo.binary main_v71 main_v94 main_v95 (cmpi .slt : (⟨S32x32, .i32⟩ : BufTy).Contents (Elt F) → (⟨S32x32, .i32⟩ : BufTy).Contents (Elt F) → (⟨S32x32, .i1⟩ : BufTy).Contents (Elt F)),
   StableHlo.nullary main_c_10 (constantI S_ 32 8732#32),
   StableHlo.unary main_c_10 main_v96 (broadcastInDim S32x32 ![] bcast_S_S32x32 : (⟨S_, .i32⟩ : BufTy).Contents (Elt F) → (⟨S32x32, .i32⟩ : BufTy).Contents (Elt F)),
   StableHlo.binary main_v71 main_v96 main_v97 (addi : (⟨S32x32, .i32⟩ : BufTy).Contents (Elt F) → (⟨S32x32, .i32⟩ : BufTy).Contents (Elt F) → (⟨S32x32, .i32⟩ : BufTy).Contents (Elt F)),
   StableHlo.ternary main_v95 main_v97 main_v71 main_v98 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
   StableHlo.unary main_v93 main_v99 (broadcastInDim S32x32 ![0, 1] bcast_S32x1_S32x32_0_1 : (⟨S32x1, .i32⟩ : BufTy).Contents (Elt F) → (⟨S32x32, .i32⟩ : BufTy).Contents (Elt F)),
   StableHlo.unary main_v99 main_v100 (broadcastInDim S32x32x1 ![0, 1] bcast_S32x32_S32x32x1_0_1 : (⟨S32x32, .i32⟩ : BufTy).Contents (Elt F) → (⟨S32x32x1, .i32⟩ : BufTy).Contents (Elt F)),
   StableHlo.unary main_v98 main_v101 (broadcastInDim S32x32x1 ![0, 1] bcast_S32x32_S32x32x1_0_1 : (⟨S32x32, .i32⟩ : BufTy).Contents (Elt F) → (⟨S32x32x1, .i32⟩ : BufTy).Contents (Elt F)),
   StableHlo.binary main_v100 main_v101 main_v102 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
   StableHlo.nullary main_cst_11 (constant S_ .f32 0x3F800000#32),
   StableHlo.unary main_cst_11 main_v103 (broadcastInDim S32x32 ![] bcast_S_S32x32 : (⟨S_, .f32⟩ : BufTy).Contents (Elt F) → (⟨S32x32, .f32⟩ : BufTy).Contents (Elt F)),
   StableHlo.ternary main_v69 main_v102 main_v103 main_v104 ((fun x i u => Host.scatter scatter_S32x8732_S32x32x2_S32x32_n_01_01_2 (fun _ b => b) x i u) : (⟨S32x8732, .f32⟩ : BufTy).Contents (Elt F) → (⟨S32x32x2, .i32⟩ : BufTy).Contents (Elt F) → (⟨S32x32, .f32⟩ : BufTy).Contents (Elt F) → (⟨S32x8732, .f32⟩ : BufTy).Contents (Elt F))]

def opsE : List (HloOp τ sig (Elt F)) :=
  [StableHlo.nullary main_c_12 (constantI S_ 32 0#32)]

def opsE2 : List (HloOp τ sig (Elt F)) :=
  [StableHlo.unary main_c_12 main_v105 (broadcastInDim S32x1 ![] bcast_S_S32x1 : (⟨S_, .i32⟩ : BufTy).Contents (Elt F) → (⟨S32x1, .i32⟩ : BufTy).Contents (Elt F)),
   StableHlo.binary main_v12 main_v105 main_v106 (cmpi .slt : (⟨S32x1, .i32⟩ : BufTy).Contents (Elt F) → (⟨S32x1, .i32⟩ : BufTy).Contents (Elt F) → (⟨S32x1, .i1⟩ : BufTy).Contents (Elt F)),
   StableHlo.nullary main_c_13 (constantI S_ 32 32#32),
   StableHlo.unary main_c_13 main_v107 (broadcastInDim S32x1 ![] bcast_S_S32x1 : (⟨S_, .i32⟩ : BufTy).Contents (Elt F) → (⟨S32x1, .i32⟩ : BufTy).Contents (Elt F)),
   StableHlo.binary main_v12 main_v107 main_v108 (addi : (⟨S32x1, .i32⟩ : BufTy).Contents (Elt F) → (⟨S32x1, .i32⟩ : BufTy).Contents (Elt F) → (⟨S32x1, .i32⟩ : BufTy).Contents (Elt F)),
   StableHlo.ternary main_v106 main_v108 main_v12 main_v109 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
   StableHlo.nullary main_c_14 (constantI S_ 32 0#32),
   StableHlo.unary main_c_14 main_v110 (broadcastInDim S32x8732 ![] bcast_S_S32x8732 : (⟨S_, .i32⟩ : BufTy).Contents (Elt F) → (⟨S32x8732, .i32⟩ : BufTy).Contents (Elt F)),
   StableHlo.binary main_v88 main_v110 main_v111 (cmpi .slt : (⟨S32x8732, .i32⟩ : BufTy).Contents (Elt F) → (⟨S32x8732, .i32⟩ : BufTy).Contents (Elt F) → (⟨S32x8732, .i1⟩ : BufTy).Contents (Elt F)),
   StableHlo.nullary main_c_15 (constantI S_ 32 32#32),
   StableHlo.unary main_c_15 main_v112 (broadcastInDim S32x8732 ![] bcast_S_S32x8732 : (⟨S_, .i32⟩ : BufTy).Contents (Elt F) → (⟨S32x8732, .i32⟩ : BufTy).Contents (Elt F)),
   StableHlo.binary main_v88 main_v112 main_v113 (addi : (⟨S32x8732, .i32⟩ : BufTy).Contents (Elt F) → (⟨S32x8732, .i32⟩ : BufTy).Contents (Elt F) → (⟨S32x8732, .i32⟩ : BufTy).Contents (Elt F)),
   StableHlo.ternary main_v111 main_v113 main_v88 main_v114 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
   StableHlo.unary main_v109 main_v115 (broadcastInDim S32x8732 ![0, 1] bcast_S32x1_S32x8732_0_1 : (⟨S32x1, .i32⟩ : BufTy).Contents (Elt F) → (⟨S32x8732, .i32⟩ : BufTy).Contents (Elt F)),
   StableHlo.unary main_v115 main_v116 (broadcastInDim S32x8732x1 ![0, 1] bcast_S32x8732_S32x8732x1_0_1 : (⟨S32x8732, .i32⟩ : BufTy).Contents (Elt F) → (⟨S32x8732x1, .i32⟩ : BufTy).Contents (Elt F)),
   StableHlo.unary main_v114 main_v117 (broadcastInDim S32x8732x1 ![0, 1] bcast_S32x8732_S32x8732x1_0_1 : (⟨S32x8732, .i32⟩ : BufTy).Contents (Elt F) → (⟨S32x8732x1, .i32⟩ : BufTy).Contents (Elt F)),
   StableHlo.binary main_v116 main_v117 main_v118 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F)),
   StableHlo.binary main_arg3 main_v118 main_v119 ((fun x i => Host.gather gather_S32x32_S32x8732x2_S32x8732_n_01_n_n_01_2_11 x i) : (⟨S32x32, .i32⟩ : BufTy).Contents (Elt F) → (⟨S32x8732x2, .i32⟩ : BufTy).Contents (Elt F) → (⟨S32x8732, .i32⟩ : BufTy).Contents (Elt F)),
   StableHlo.nullary main_cst_16 (constant S_ .f32 0x3F000000#32),
   StableHlo.unary main_cst_16 main_v120 (broadcastInDim S32x8732 ![] bcast_S_S32x8732 : (⟨S_, .f32⟩ : BufTy).Contents (Elt F) → (⟨S32x8732, .f32⟩ : BufTy).Contents (Elt F)),
   StableHlo.binary main_v104 main_v120 main_v121 (cmpf .olt : (⟨S32x8732, .f32⟩ : BufTy).Contents (Elt F) → (⟨S32x8732, .f32⟩ : BufTy).Contents (Elt F) → (⟨S32x8732, .i1⟩ : BufTy).Contents (Elt F)),
   StableHlo.nullary main_c_17 (constantI S_ 32 0#32),
   StableHlo.TRef.unary (.of main_c_17 : StableHlo.TRef sig ⟨S_, .i32⟩) (.of main_call2_v0 : StableHlo.TRef sig ⟨S_, .i32⟩) id,
   StableHlo.TRef.unary (.of main_call2_v0 : StableHlo.TRef sig ⟨S_, .i32⟩) (.of main_call2_v1 : StableHlo.TRef sig ⟨S32x8732, .i32⟩) (broadcastInDim S32x8732 ![] bcast_S_S32x8732),
   StableHlo.TRef.ternary (.of main_v121 : StableHlo.TRef sig ⟨S32x8732, .i1⟩) (.of main_call2_v1 : StableHlo.TRef sig ⟨S32x8732, .i32⟩) (.of main_v119 : StableHlo.TRef sig ⟨S32x8732, .i32⟩) (.of main_v122 : StableHlo.TRef sig ⟨S32x8732, .i32⟩) select]

def opsG : List (HloOp τ sig (Elt F)) :=
  [StableHlo.nullary main_c_18 (constantI S_ 32 0#32),
   StableHlo.unary main_c_18 main_v123 (broadcastInDim S32x1 ![] bcast_S_S32x1 : (⟨S_, .i32⟩ : BufTy).Contents (Elt F) → (⟨S32x1, .i32⟩ : BufTy).Contents (Elt F)),
   StableHlo.binary main_v12 main_v123 main_v124 (cmpi .slt : (⟨S32x1, .i32⟩ : BufTy).Contents (Elt F) → (⟨S32x1, .i32⟩ : BufTy).Contents (Elt F) → (⟨S32x1, .i1⟩ : BufTy).Contents (Elt F)),
   StableHlo.nullary main_c_19 (constantI S_ 32 32#32),
   StableHlo.unary main_c_19 main_v125 (broadcastInDim S32x1 ![] bcast_S_S32x1 : (⟨S_, .i32⟩ : BufTy).Contents (Elt F) → (⟨S32x1, .i32⟩ : BufTy).Contents (Elt F)),
   StableHlo.binary main_v12 main_v125 main_v126 (addi : (⟨S32x1, .i32⟩ : BufTy).Contents (Elt F) → (⟨S32x1, .i32⟩ : BufTy).Contents (Elt F) → (⟨S32x1, .i32⟩ : BufTy).Contents (Elt F)),
   StableHlo.ternary main_v124 main_v126 main_v12 main_v127 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
   StableHlo.nullary main_c_20 (constantI S_ 32 0#32),
   StableHlo.unary main_c_20 main_v128 (broadcastInDim S32x8732 ![] bcast_S_S32x8732 : (⟨S_, .i32⟩ : BufTy).Contents (Elt F) → (⟨S32x8732, .i32⟩ : BufTy).Contents (Elt F)),
   StableHlo.binary main_v88 main_v128 main_v129 (cmpi .slt : (⟨S32x8732, .i32⟩ : BufTy).Contents (Elt F) → (⟨S32x8732, .i32⟩ : BufTy).Contents (Elt F) → (⟨S32x8732, .i1⟩ : BufTy).Contents (Elt F)),
   StableHlo.nullary main_c_21 (constantI S_ 32 32#32),
   StableHlo.unary main_c_21 main_v130 (broadcastInDim S32x8732 ![] bcast_S_S32x8732 : (⟨S_, .i32⟩ : BufTy).Contents (Elt F) → (⟨S32x8732, .i32⟩ : BufTy).Contents (Elt F)),
   StableHlo.binary main_v88 main_v130 main_v131 (addi : (⟨S32x8732, .i32⟩ : BufTy).Contents (Elt F) → (⟨S32x8732, .i32⟩ : BufTy).Contents (Elt F) → (⟨S32x8732, .i32⟩ : BufTy).Contents (Elt F)),
   StableHlo.ternary main_v129 main_v131 main_v88 main_v132 (select : (⟨S32x8732, .i1⟩ : BufTy).Contents (Elt F) → (⟨S32x8732, .i32⟩ : BufTy).Contents (Elt F) → (⟨S32x8732, .i32⟩ : BufTy).Contents (Elt F) → (⟨S32x8732, .i32⟩ : BufTy).Contents (Elt F)),
   StableHlo.unary main_v127 main_v133 (broadcastInDim S32x8732 ![0, 1] bcast_S32x1_S32x8732_0_1 : (⟨S32x1, .i32⟩ : BufTy).Contents (Elt F) → (⟨S32x8732, .i32⟩ : BufTy).Contents (Elt F)),
   StableHlo.unary main_v133 main_v134 (broadcastInDim S32x8732x1 ![0, 1] bcast_S32x8732_S32x8732x1_0_1 : (⟨S32x8732, .i32⟩ : BufTy).Contents (Elt F) → (⟨S32x8732x1, .i32⟩ : BufTy).Contents (Elt F)),
   StableHlo.unary main_v132 main_v135 (broadcastInDim S32x8732x1 ![0, 1] bcast_S32x8732_S32x8732x1_0_1 : (⟨S32x8732, .i32⟩ : BufTy).Contents (Elt F) → (⟨S32x8732x1, .i32⟩ : BufTy).Contents (Elt F)),
   StableHlo.binary main_v134 main_v135 main_v136 ((fun a b => concatenate S32x8732x2 2 [⟨S32x8732x1, a⟩, ⟨S32x8732x1, b⟩] concatenates_S32x8732x1_S32x8732x1_S32x8732x2_d2) : (⟨S32x8732x1, .i32⟩ : BufTy).Contents (Elt F) → (⟨S32x8732x1, .i32⟩ : BufTy).Contents (Elt F) → (⟨S32x8732x2, .i32⟩ : BufTy).Contents (Elt F)),
   StableHlo.binary main_arg2 main_v136 main_v137 ((fun x i => Host.gather gather_S32x32x4_S32x8732x2_S32x8732x4_2_01_n_n_01_2_114 x i) : (⟨S32x32x4, .f32⟩ : BufTy).Contents (Elt F) → (⟨S32x8732x2, .i32⟩ : BufTy).Contents (Elt F) → (⟨S32x8732x4, .f32⟩ : BufTy).Contents (Elt F))]

def opsK : List (HloOp τ sig (Elt F)) :=
  [StableHlo.unary main_v137 main_v138 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
   StableHlo.unary main_v137 main_v139 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
   StableHlo.binary main_v138 main_v139 main_v140 (addf : (⟨S32x8732x2, .f32⟩ : BufTy).Contents (Elt F) → (⟨S32x8732x2, .f32⟩ : BufTy).Contents (Elt F) → (⟨S32x8732x2, .f32⟩ : BufTy).Contents (Elt F)),
   StableHlo.nullary main_cst_22 (constant S_ .f32 0x40000000#32),
   StableHlo.unary main_cst_22 main_v141 (broadcastInDim S32x8732x2 ![] bcast_S_S32x8732x2 : (⟨S_, .f32⟩ : BufTy).Contents (Elt F) → (⟨S32x8732x2, .f32⟩ : BufTy).Contents (Elt F)),
   StableHlo.binary main_v140 main_v141 main_v142 (Host.divf : (⟨S32x8732x2, .f32⟩ : BufTy).Contents (Elt F) → (⟨S32x8732x2, .f32⟩ : BufTy).Contents (Elt F) → (⟨S32x8732x2, .f32⟩ : BufTy).Contents (Elt F)),
   StableHlo.unary main_v137 main_v143 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
   StableHlo.unary main_v137 main_v144 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
   StableHlo.binary main_v143 main_v144 main_v145 (subf : (⟨S32x8732x2, .f32⟩ : BufTy).Contents (Elt F) → (⟨S32x8732x2, .f32⟩ : BufTy).Contents (Elt F) → (⟨S32x8732x2, .f32⟩ : BufTy).Contents (Elt F)),
   StableHlo.binary main_v142 main_v145 main_v146 ((fun a b => concatenate S32x8732x4 2 [⟨S32x8732x2, a⟩, ⟨S32x8732x2, b⟩] concatenates_S32x8732x2_S32x8732x2_S32x8732x4_d2) : (⟨S32x8732x2, .f32⟩ : BufTy).Contents (Elt F) → (⟨S32x8732x2, .f32⟩ : BufTy).Contents (Elt F) → (⟨S32x8732x4, .f32⟩ : BufTy).Contents (Elt F)),
   StableHlo.unary main_v146 main_v147 ((extractStridedSlice S32x8732x2 ![0, 0, 0] · slices_S32x8732x4_S32x8732x2_0_0_0) : (⟨S32x8732x4, .f32⟩ : BufTy).Contents (Elt F) → (⟨S32x8732x2, .f32⟩ : BufTy).Contents (Elt F)),
   StableHlo.unary main_arg4 main_v148 ((extractStridedSlice S8732x2 ![0, 0] · slices_S8732x4_S8732x2_0_0) : (⟨S8732x4, .f32⟩ : BufTy).Contents (Elt F) → (⟨S8732x2, .f32⟩ : BufTy).Contents (Elt F)),
   StableHlo.unary main_v148 main_v149 (broadcastInDim S1x8732x2 ![1, 2] bcast_S8732x2_S1x8732x2_1_2 : (⟨S8732x2, .f32⟩ : BufTy).Contents (Elt F) → (⟨S1x8732x2, .f32⟩ : BufTy).Contents (Elt F)),
   StableHlo.unary main_v149 main_v150 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
   StableHlo.binary main_v147 main_v150 main_v151 (subf : (⟨S32x8732x2, .f32⟩ : BufTy).Contents (Elt F) → (⟨S32x8732x2, .f32⟩ : BufTy).Contents (Elt F) → (⟨S32x8732x2, .f32⟩ : BufTy).Contents (Elt F)),
   StableHlo.unary main_arg4 main_v152 ((extractStridedSlice S8732x2 ![0, 2] · slices_S8732x4_S8732x2_0_2) : (⟨S8732x4, .f32⟩ : BufTy).Contents (Elt F) → (⟨S8732x2, .f32⟩ : BufTy).Contents (Elt F)),
   StableHlo.nullary main_cst_23 (constant S_ .f32 0x41200000#32),
   StableHlo.unary main_cst_23 main_v153 (broadcastInDim S8732x2 ![] bcast_S_S8732x2 : (⟨S_, .f32⟩ : BufTy).Contents (Elt F) → (⟨S8732x2, .f32⟩ : BufTy).Contents (Elt F))]

def opsK2 : List (HloOp τ sig (Elt F)) :=
  [StableHlo.binary main_v152 main_v153 main_v154 (Host.divf : (⟨S8732x2, .f32⟩ : BufTy).Contents (Elt F) → (⟨S8732x2, .f32⟩ : BufTy).Contents (Elt F) → (⟨S8732x2, .f32⟩ : BufTy).Contents (Elt F)),
   StableHlo.unary main_v154 main_v155 (broadcastInDim S1x8732x2 ![1, 2] bcast_S8732x2_S1x8732x2_1_2 : (⟨S8732x2, .f32⟩ : BufTy).Contents (Elt F) → (⟨S1x8732x2, .f32⟩ : BufTy).Contents (Elt F)),
   StableHlo.unary main_v155 main_v156 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
   StableHlo.binary main_v151 main_v156 main_v157 (Host.divf : (⟨S32x8732x2, .f32⟩ : BufTy).Contents (Elt F) → (⟨S32x8732x2, .f32⟩ : BufTy).Contents (Elt F) → (⟨S32x8732x2, .f32⟩ : BufTy).Contents (Elt F)),
   StableHlo.unary main_v146 main_v158 ((extractStridedSlice S32x8732x2 ![0, 0, 2] · slices_S32x8732x4_S32x8732x2_0_0_2) : (⟨S32x8732x4, .f32⟩ : BufTy).Contents (Elt F) → (⟨S32x8732x2, .f32⟩ : BufTy).Contents (Elt F)),
   StableHlo.nullary main_cst_24 (constant S_ .f32 0x322BCC77#32),
   StableHlo.unary main_cst_24 main_v159 (broadcastInDim S32x8732x2 ![] bcast_S_S32x8732x2 : (⟨S_, .f32⟩ : BufTy).Contents (Elt F) → (⟨S32x8732x2, .f32⟩ : BufTy).Contents (Elt F)),
   StableHlo.binary main_v158 main_v159 main_v160 (maximumf : (⟨S32x8732x2, .f32⟩ : BufTy).Contents (Elt F) → (⟨S32x8732x2, .f32⟩ : BufTy).Contents (Elt F) → (⟨S32x8732x2, .f32⟩ : BufTy).Contents (Elt F)),
   StableHlo.unary main_arg4 main_v161 ((extractStridedSlice S8732x2 ![0, 2] · slices_S8732x4_S8732x2_0_2) : (⟨S8732x4, .f32⟩ : BufTy).Contents (Elt F) → (⟨S8732x2, .f32⟩ : BufTy).Contents (Elt F)),
   StableHlo.unary main_v161 main_v162 (broadcastInDim S1x8732x2 ![1, 2] bcast_S8732x2_S1x8732x2_1_2 : (⟨S8732x2, .f32⟩ : BufTy).Contents (Elt F) → (⟨S1x8732x2, .f32⟩ : BufTy).Contents (Elt F)),
   StableHlo.unary main_v162 main_v163 (broadcastInDim S32x8732x2 ![0, 1, 2] bcast_S1x8732x2_S32x8732x2_0_1_2 : (⟨S1x8732x2, .f32⟩ : BufTy).Contents (Elt F) → (⟨S32x8732x2, .f32⟩ : BufTy).Contents (Elt F)),
   StableHlo.binary main_v160 main_v163 main_v164 (Host.divf : (⟨S32x8732x2, .f32⟩ : BufTy).Contents (Elt F) → (⟨S32x8732x2, .f32⟩ : BufTy).Contents (Elt F) → (⟨S32x8732x2, .f32⟩ : BufTy).Contents (Elt F)),
   StableHlo.unary main_v164 main_v165 (Host.log : (⟨S32x8732x2, .f32⟩ : BufTy).Contents (Elt F) → (⟨S32x8732x2, .f32⟩ : BufTy).Contents (Elt F)),
   StableHlo.nullary main_cst_25 (constant S_ .f32 0x40A00000#32),
   StableHlo.unary main_cst_25 main_v166 (broadcastInDim S32x8732x2 ![] bcast_S_S32x8732x2 : (⟨S_, .f32⟩ : BufTy).Contents (Elt F) → (⟨S32x8732x2, .f32⟩ : BufTy).Contents (Elt F)),
   StableHlo.binary main_v165 main_v166 main_v167 (mulf : (⟨S32x8732x2, .f32⟩ : BufTy).Contents (Elt F) → (⟨S32x8732x2, .f32⟩ : BufTy).Contents (Elt F) → (⟨S32x8732x2, .f32⟩ : BufTy).Contents (Elt F)),
   StableHlo.binary main_v157 main_v167 main_v168 ((fun a b => concatenate S32x8732x4 2 [⟨S32x8732x2, a⟩, ⟨S32x8732x2, b⟩] concatenates_S32x8732x2_S32x8732x2_S32x8732x4_d2) : (⟨S32x8732x2, .f32⟩ : BufTy).Contents (Elt F) → (⟨S32x8732x2, .f32⟩ : BufTy).Contents (Elt F) → (⟨S32x8732x4, .f32⟩ : BufTy).Contents (Elt F))]

def opsH : List (HloOp τ sig (Elt F)) :=
  [StableHlo.nullary main_c_26 (constantI S_ 32 0#32),
   StableHlo.unary main_c_26 main_v169 (broadcastInDim S32x8732 ![] bcast_S_S32x8732 : (⟨S_, .i32⟩ : BufTy).Contents (Elt F) → (⟨S32x8732, .i32⟩ : BufTy).Contents (Elt F)),
   StableHlo.binary main_v122 main_v169 main_v170 (cmpi .ne : (⟨S32x8732, .i32⟩ : BufTy).Contents (Elt F) → (⟨S32x8732, .i32⟩ : BufTy).Contents (Elt F) → (⟨S32x8732, .i1⟩ : BufTy).Contents (Elt F)),
   StableHlo.unary main_v170 main_v171 (uitofp .f32 : (⟨S32x8732, .i1⟩ : BufTy).Contents (Elt F) → (⟨S32x8732, .f32⟩ : BufTy).Contents (Elt F)),
   StableHlo.binary main_arg0 main_v168 main_v172 (subf : (⟨S32x8732x4, .f32⟩ : BufTy).Contents (Elt F) → (⟨S32x8732x4, .f32⟩ : BufTy).Contents (Elt F) → (⟨S32x8732x4, .f32⟩ : BufTy).Contents (Elt F)),
   StableHlo.unary main_v172 main_v173 (Host.absf : (⟨S32x8732x4, .f32⟩ : BufTy).Contents (Elt F) → (⟨S32x8732x4, .f32⟩ : BufTy).Contents (Elt F)),
   StableHlo.nullary main_cst_27 (constant S_ .f32 0x00000000#32),
   StableHlo.binary main_v173 main_cst_27 main_v174 ((fun x v => Host.reduceAdd x v reducesTo_S32x8732x4_S32x8732_d2 h_S_) : (⟨S32x8732x4, .f32⟩ : BufTy).Contents (Elt F) → (⟨S_, .f32⟩ : BufTy).Contents (Elt F) → (⟨S32x8732, .f32⟩ : BufTy).Contents (Elt F)),
   StableHlo.binary main_v174 main_v171 main_v175 (mulf : (⟨S32x8732, .f32⟩ : BufTy).Contents (Elt F) → (⟨S32x8732, .f32⟩ : BufTy).Contents (Elt F) → (⟨S32x8732, .f32⟩ : BufTy).Contents (Elt F)),
   StableHlo.nullary main_cst_28 (constant S_ .f32 0x00000000#32),
   StableHlo.binary main_v175 main_cst_28 main_v176 ((fun x v => Host.reduceAdd x v reducesTo_S32x8732_S_d0_1 h_S_) : (⟨S32x8732, .f32⟩ : BufTy).Contents (Elt F) → (⟨S_, .f32⟩ : BufTy).Contents (Elt F) → (⟨S_, .f32⟩ : BufTy).Contents (Elt F))]

def opsI : List (HloOp τ sig (Elt F)) :=
  [StableHlo.TRef.nullary (.of main_call3_cst : StableHlo.TRef sig ⟨S_, .f32⟩) (constant S_ .f32 0xFF800000#32),
   StableHlo.TRef.binary (.of main_arg1 : StableHlo.TRef sig ⟨S32x8732x81, .f32⟩) (.of main_call3_cst : StableHlo.TRef sig ⟨S_, .f32⟩) (.of main_call3_v0 : StableHlo.TRef sig ⟨S32x8732, .f32⟩) (fun x v => Host.reduce FloatOps.maximumf x v reducesTo_S32x8732x81_S32x8732_d2 h_S_),
   StableHlo.TRef.nullary (.of main_call3_cst_0 : StableHlo.TRef sig ⟨S_, .f32⟩) (constant S_ .f32 0xFF800000#32),
   StableHlo.TRef.unary (.of main_call3_cst_0 : StableHlo.TRef sig ⟨S_, .f32⟩) (.of main_call3_v1 : StableHlo.TRef sig ⟨S32x8732, .f32⟩) (broadcastInDim S32x8732 ![] bcast_S_S32x8732),
   StableHlo.TRef.binary (.of main_call3_v1 : StableHlo.TRef sig ⟨S32x8732, .f32⟩) (.of main_call3_v0 : StableHlo.TRef sig ⟨S32x8732, .f32⟩) (.of main_call3_v2 : StableHlo.TRef sig ⟨S32x8732, .f32⟩) maximumf,
   StableHlo.TRef.unary (.of main_call3_v2 : StableHlo.TRef sig ⟨S32x8732, .f32⟩) (.of main_call3_v3 : StableHlo.TRef sig ⟨S32x8732x1, .f32⟩) (broadcastInDim S32x8732x1 ![0, 1] bcast_S32x8732_S32x8732x1_0_1),
   StableHlo.TRef.unary (.of main_call3_v3 : StableHlo.TRef sig ⟨S32x8732x1, .f32⟩) (.of main_call3_v4 : StableHlo.TRef sig ⟨S32x8732x81, .f32⟩) (broadcastInDim S32x8732x81 ![0, 1, 2] bcast_S32x8732x1_S32x8732x81_0_1_2),
   StableHlo.TRef.binary (.of main_arg1 : StableHlo.TRef sig ⟨S32x8732x81, .f32⟩) (.of main_call3_v4 : StableHlo.TRef sig ⟨S32x8732x81, .f32⟩) (.of main_call3_v5 : StableHlo.TRef sig ⟨S32x8732x81, .f32⟩) subf,
   StableHlo.TRef.unary (.of main_call3_v5 : StableHlo.TRef sig ⟨S32x8732x81, .f32⟩) (.of main_call3_v6 : StableHlo.TRef sig ⟨S32x8732x81, .f32⟩) Host.exp,
   StableHlo.TRef.nullary (.of main_call3_cst_1 : StableHlo.TRef sig ⟨S_, .f32⟩) (constant S_ .f32 0x00000000#32),
   StableHlo.TRef.binary (.of main_call3_v6 : StableHlo.TRef sig ⟨S32x8732x81, .f32⟩) (.of main_call3_cst_1 : StableHlo.TRef sig ⟨S_, .f32⟩) (.of main_call3_v7 : StableHlo.TRef sig ⟨S32x8732, .f32⟩) (fun x v => Host.reduceAdd x v reducesTo_S32x8732x81_S32x8732_d2 h_S_),
   StableHlo.TRef.unary (.of main_call3_v7 : StableHlo.TRef sig ⟨S32x8732, .f32⟩) (.of main_call3_v8 : StableHlo.TRef sig ⟨S32x8732x1, .f32⟩) (broadcastInDim S32x8732x1 ![0, 1] bcast_S32x8732_S32x8732x1_0_1),
   StableHlo.TRef.unary (.of main_call3_v8 : StableHlo.TRef sig ⟨S32x8732x1, .f32⟩) (.of main_call3_v9 : StableHlo.TRef sig ⟨S32x8732x1, .f32⟩) Host.log,
   StableHlo.TRef.unary (.of main_call3_v9 : StableHlo.TRef sig ⟨S32x8732x1, .f32⟩) (.of main_call3_v10 : StableHlo.TRef sig ⟨S32x8732x81, .f32⟩) (broadcastInDim S32x8732x81 ![0, 1, 2] bcast_S32x8732x1_S32x8732x81_0_1_2),
   StableHlo.TRef.binary (.of main_call3_v5 : StableHlo.TRef sig ⟨S32x8732x81, .f32⟩) (.of main_call3_v10 : StableHlo.TRef sig ⟨S32x8732x81, .f32⟩) (.of main_v177 : StableHlo.TRef sig ⟨S32x8732x81, .f32⟩) subf]

def opsJ : List (HloOp τ sig (Elt F)) :=
  [StableHlo.unary main_v122 main_v178 (broadcastInDim S32x8732x1 ![0, 1] bcast_S32x8732_S32x8732x1_0_1 : (⟨S32x8732, .i32⟩ : BufTy).Contents (Elt F) → (⟨S32x8732x1, .i32⟩ : BufTy).Contents (Elt F)),
   StableHlo.TRef.nullary (.of main_call4_c : StableHlo.TRef sig ⟨S_, .i32⟩) (constantI S_ 32 0#32),
   StableHlo.TRef.unary (.of main_call4_c : StableHlo.TRef sig ⟨S_, .i32⟩) (.of main_call4_v0 : StableHlo.TRef sig ⟨S32x8732x1, .i32⟩) (broadcastInDim S32x8732x1 ![] bcast_S_S32x8732x1),
   StableHlo.TRef.binary (.of main_v178 : StableHlo.TRef sig ⟨S32x8732x1, .i32⟩) (.of main_call4_v0 : StableHlo.TRef sig ⟨S32x8732x1, .i32⟩) (.of main_call4_v1 : StableHlo.TRef sig ⟨S32x8732x1, .i1⟩) (cmpi .slt),
   StableHlo.TRef.nullary (.of main_call4_c_0 : StableHlo.TRef sig ⟨S_, .i32⟩) (constantI S_ 32 81#32),
   StableHlo.TRef.unary (.of main_call4_c_0 : StableHlo.TRef sig ⟨S_, .i32⟩) (.of main_call4_v2 : StableHlo.TRef sig ⟨S32x8732x1, .i32⟩) (broadcastInDim S32x8732x1 ![] bcast_S_S32x8732x1),
   StableHlo.TRef.binary (.of main_v178 : StableHlo.TRef sig ⟨S32x8732x1, .i32⟩) (.of main_call4_v2 : StableHlo.TRef sig ⟨S32x8732x1, .i32⟩) (.of main_call4_v3 : StableHlo.TRef sig ⟨S32x8732x1, .i32⟩) addi,
   StableHlo.TRef.ternary (.of main_call4_v1 : StableHlo.TRef sig ⟨S32x8732x1, .i1⟩) (.of main_call4_v3 : StableHlo.TRef sig ⟨S32x8732x1, .i32⟩) (.of main_v178 : StableHlo.TRef sig ⟨S32x8732x1, .i32⟩) (.of main_call4_v4 : StableHlo.TRef sig ⟨S32x8732x1, .i32⟩) select,
   StableHlo.TRef.reshape (.of main_call4_v4 : StableHlo.TRef sig ⟨S32x8732x1, .i32⟩) (.of main_call4_v5 : StableHlo.TRef sig ⟨S32x8732x1x1, .i32⟩) (rfl : (.i32 : EltTy) = .i32) shapeCasts_S32x8732x1_S32x8732x1x1,
   StableHlo.TRef.nullary (.of main_call4_c_1 : StableHlo.TRef sig ⟨S1, .i32⟩) (constantI S1 32 80#32),
   StableHlo.TRef.nullary (.of main_call4_c_2 : StableHlo.TRef sig ⟨S_, .i32⟩) (constantI S_ 32 0#32),
   StableHlo.TRef.unary (.of main_call4_c_2 : StableHlo.TRef sig ⟨S_, .i32⟩) (.of main_call4_v6 : StableHlo.TRef sig ⟨S32x8732x1x1, .i32⟩) (broadcastInDim S32x8732x1x1 ![] bcast_S_S32x8732x1x1),
   StableHlo.TRef.binary (.of main_call4_v5 : StableHlo.TRef sig ⟨S32x8732x1x1, .i32⟩) (.of main_call4_v6 : StableHlo.TRef sig ⟨S32x8732x1x1, .i32⟩) (.of main_call4_v7 : StableHlo.TRef sig ⟨S32x8732x1x1, .i1⟩) (cmpi .sge),
   StableHlo.TRef.unary (.of main_call4_c_1 : StableHlo.TRef sig ⟨S1, .i32⟩) (.of main_call4_v8 : StableHlo.TRef sig ⟨S1x1x1x1, .i32⟩) (broadcastInDim S1x1x1x1 ![3] bcast_S1_S1x1x1x1_3),
   StableHlo.TRef.unary (.of main_call4_v8 : StableHlo.TRef sig ⟨S1x1x1x1, .i32⟩) (.of main_call4_v9 : StableHlo.TRef sig ⟨S32x8732x1x1, .i32⟩) (broadcastInDim S32x8732x1x1 ![0, 1, 2, 3] bcast_S1x1x1x1_S32x8732x1x1_0_1_2_3),
   StableHlo.TRef.binary (.of main_call4_v5 : StableHlo.TRef sig ⟨S32x8732x1x1, .i32⟩) (.of main_call4_v9 : StableHlo.TRef sig ⟨S32x8732x1x1, .i32⟩) (.of main_call4_v10 : StableHlo.TRef sig ⟨S32x8732x1x1, .i1⟩) (cmpi .sle),
   StableHlo.TRef.binary (.of main_call4_v7 : StableHlo.TRef sig ⟨S32x8732x1x1, .i1⟩) (.of main_call4_v10 : StableHlo.TRef sig ⟨S32x8732x1x1, .i1⟩) (.of main_call4_v11 : StableHlo.TRef sig ⟨S32x8732x1x1, .i1⟩) andi,
   StableHlo.TRef.nullary (.of main_call4_c_3 : StableHlo.TRef sig ⟨S_, .i1⟩) (constantI S_ 1 1#1),
   StableHlo.TRef.binary (.of main_call4_v11 : StableHlo.TRef sig ⟨S32x8732x1x1, .i1⟩) (.of main_call4_c_3 : StableHlo.TRef sig ⟨S_, .i1⟩) (.of main_call4_v12 : StableHlo.TRef sig ⟨S32x8732x1, .i1⟩) (fun x v => Host.reduce IntOp.andi x v reducesTo_S32x8732x1x1_S32x8732x1_d3 h_S_),
   StableHlo.TRef.binary (.of main_v177 : StableHlo.TRef sig ⟨S32x8732x81, .f32⟩) (.of main_call4_v5 : StableHlo.TRef sig ⟨S32x8732x1x1, .i32⟩) (.of main_call4_v13 : StableHlo.TRef sig ⟨S32x8732x1, .f32⟩) (fun x i => Host.gather gather_S32x8732x81_S32x8732x1x1_S32x8732x1_n_2_01_01_2_3_111 x i),
   StableHlo.TRef.nullary (.of main_call4_cst : StableHlo.TRef sig ⟨S_, .f32⟩) (constant S_ .f32 0x7FC00000#32),
   StableHlo.TRef.unary (.of main_call4_cst : StableHlo.TRef sig ⟨S_, .f32⟩) (.of main_call4_v14 : StableHlo.TRef sig ⟨S32x8732x1, .f32⟩) (broadcastInDim S32x8732x1 ![] bcast_S_S32x8732x1),
   StableHlo.TRef.ternary (.of main_call4_v12 : StableHlo.TRef sig ⟨S32x8732x1, .i1⟩) (.of main_call4_v13 : StableHlo.TRef sig ⟨S32x8732x1, .f32⟩) (.of main_call4_v14 : StableHlo.TRef sig ⟨S32x8732x1, .f32⟩) (.of main_v179 : StableHlo.TRef sig ⟨S32x8732x1, .f32⟩) select]

def opsL : List (HloOp τ sig (Elt F)) :=
  [StableHlo.reshape main_v179 main_v180 (rfl : (.f32 : EltTy) = .f32) shapeCasts_S32x8732x1_S32x8732,
   StableHlo.unary main_v180 main_v181 (Host.negf : (⟨S32x8732, .f32⟩ : BufTy).Contents (Elt F) → (⟨S32x8732, .f32⟩ : BufTy).Contents (Elt F)),
   StableHlo.nullary main_cst_29 (constant S_ .f32 0x00000000#32),
   StableHlo.unary main_cst_29 main_v182 (broadcastInDim S32x6x8732 ![] bcast_S_S32x6x8732 : (⟨S_, .f32⟩ : BufTy).Contents (Elt F) → (⟨S32x6x8732, .f32⟩ : BufTy).Contents (Elt F))]

def opsM : List (HloOp τ sig (Elt F)) :=
  [StableHlo.unary main_v181 main_v183 (broadcastInDim S32x1x8732 ![0, 2] bcast_S32x8732_S32x1x8732_0_2 : (⟨S32x8732, .f32⟩ : BufTy).Contents (Elt F) → (⟨S32x1x8732, .f32⟩ : BufTy).Contents (Elt F)),
   StableHlo.unary main_v171 main_v184 (broadcastInDim S32x1x8732 ![0, 2] bcast_S32x8732_S32x1x8732_0_2 : (⟨S32x8732, .f32⟩ : BufTy).Contents (Elt F) → (⟨S32x1x8732, .f32⟩ : BufTy).Contents (Elt F)),
   StableHlo.nary ![main_v183, main_v184, main_v182] main_v185 (fun u => (concatenate S32x8x8732 1 [⟨S32x1x8732, (u 0 : (⟨S32x1x8732, .f32⟩ : BufTy).Contents (Elt F))⟩, ⟨S32x1x8732, (u 1 : (⟨S32x1x8732, .f32⟩ : BufTy).Contents (Elt F))⟩, ⟨S32x6x8732, (u 2 : (⟨S32x6x8732, .f32⟩ : BufTy).Contents (Elt F))⟩] concatenates_S32x1x8732_S32x1x8732_S32x6x8732_S32x8x8732_d1 : (⟨S32x8x8732, .f32⟩ : BufTy).Contents (Elt F))),
   StableHlo.reshape main_v176 main_v186 (rfl : (.f32 : EltTy) = .f32) shapeCasts_S_S1x1]

set_option maxHeartbeats 4000000 in
theorem part0 (d : Dev nD) : main_part0 (F := F) d = StableHlo.seq (opsA ++ opsB) := rfl

set_option maxHeartbeats 4000000 in
theorem part1 (d : Dev nD) : main_part1 (F := F) d = StableHlo.seq (opsB2 ++ opsC ++ opsD ++ opsE) := rfl

set_option maxHeartbeats 4000000 in
theorem part2 (d : Dev nD) : main_part2 (F := F) d = StableHlo.seq (opsE2 ++ opsG ++ opsK) := rfl

set_option maxHeartbeats 4000000 in
theorem part3 (d : Dev nD) : main_part3 (F := F) d = StableHlo.seq (opsK2 ++ opsH ++ opsI ++ opsJ ++ opsL ++ opsM) := rfl

def ops : List (HloOp τ sig (Elt F)) := (opsA ++ opsB) ++ ((opsB2 ++ opsC ++ opsD ++ opsE) ++ ((opsE2 ++ opsG ++ opsK) ++ (opsK2 ++ opsH ++ opsI ++ opsJ ++ opsL ++ opsM)))

theorem main_eq (d : Dev nD) : main (F := F) d = StableHlo.seq ops := by
  unfold main ops
  rw [part0, part1, part2, part3]
  simp only [StableHlo.seq_append, bind_assoc]

theorem opsA_sub : (opsA : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub ..⟩

theorem opsA_fresh : (opsA : List (HloOp τ sig (Elt F))).Forall fun op => op.fresh = ∅ :=
  StableHlo.forall_fresh_of_map rfl

theorem opsB_sub : (opsB : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub ..⟩

theorem opsB_fresh : (opsB : List (HloOp τ sig (Elt F))).Forall fun op => op.fresh = ∅ :=
  StableHlo.forall_fresh_of_map rfl

theorem opsB2_sub : (opsB2 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

theorem opsB2_fresh : (opsB2 : List (HloOp τ sig (Elt F))).Forall fun op => op.fresh = ∅ :=
  StableHlo.forall_fresh_of_map rfl

theorem opsC_sub : (opsC : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.nullary_bufs_sub .., StableHlo.nullary_bufs_sub .., StableHlo.quaternary_bufs_sub .., StableHlo.quaternary_bufs_sub .., StableHlo.nullary_bufs_sub ..⟩

theorem opsC_fresh : (opsC : List (HloOp τ sig (Elt F))).Forall fun op => op.fresh = ∅ :=
  StableHlo.forall_fresh_of_map rfl

theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.nullary_bufs_sub .., StableHlo.unary_bufs_sub .., StableHlo.ternary_bufs_sub ..⟩

theorem opsD_fresh : (opsD : List (HloOp τ sig (Elt F))).Forall fun op => op.fresh = ∅ :=
  StableHlo.forall_fresh_of_map rfl

theorem opsE_sub : (opsE : List (HloOp τ sig (Elt F))).Forall fun op => op.bufs ⊆ StableHlo.tcRefs τ sig :=
  StableHlo.nullary_bufs_sub ..

theorem opsE_fresh : (opsE : List (HloOp τ sig (Elt F))).Forall fun op => op.fresh = ∅ :=
  StableHlo.forall_fresh_of_map rfl

theorem opsE2_sub : (opsE2 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

theorem opsE2_fresh : (opsE2 : List (HloOp τ sig (Elt F))).Forall fun op => op.fresh = ∅ :=
  StableHlo.forall_fresh_of_map rfl

theorem opsG_sub : (opsG : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub ..⟩

theorem opsG_fresh : (opsG : List (HloOp τ sig (Elt F))).Forall fun op => op.fresh = ∅ :=
  StableHlo.forall_fresh_of_map rfl

theorem opsK_sub : (opsK : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub ..⟩

theorem opsK_fresh : (opsK : List (HloOp τ sig (Elt F))).Forall fun op => op.fresh = ∅ :=
  StableHlo.forall_fresh_of_map rfl

theorem opsK2_sub : (opsK2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub ..⟩

theorem opsK2_fresh : (opsK2 : List (HloOp τ sig (Elt F))).Forall fun op => op.fresh = ∅ :=
  StableHlo.forall_fresh_of_map rfl

theorem opsH_sub : (opsH : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub ..⟩

theorem opsH_fresh : (opsH : List (HloOp τ sig (Elt F))).Forall fun op => op.fresh = ∅ :=
  StableHlo.forall_fresh_of_map rfl

theorem opsI_sub : (opsI : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

theorem opsI_fresh : (opsI : List (HloOp τ sig (Elt F))).Forall fun op => op.fresh = ∅ :=
  StableHlo.forall_fresh_of_map rfl

theorem opsJ_sub : (opsJ : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

theorem opsJ_fresh : (opsJ : List (HloOp τ sig (Elt F))).Forall fun op => op.fresh = ∅ :=
  StableHlo.forall_fresh_of_map rfl

theorem opsL_sub : (opsL : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub ..⟩

theorem opsL_fresh : (opsL : List (HloOp τ sig (Elt F))).Forall fun op => op.fresh = ∅ :=
  StableHlo.forall_fresh_of_map rfl

theorem opsM_sub : (opsM : List (HloOp τ sig (Elt F))).Forall fun op => op.bufs ⊆ StableHlo.tcRefs τ sig :=
  ⟨StableHlo.unary_bufs_sub .., StableHlo.unary_bufs_sub .., StableHlo.nary_bufs_sub .., StableHlo.reshape_bufs_sub ..⟩

theorem opsM_fresh : (opsM : List (HloOp τ sig (Elt F))).Forall fun op => op.fresh = ∅ :=
  StableHlo.forall_fresh_of_map rfl

theorem ops_sub : (ops : List (HloOp τ sig (Elt F))).Forall fun op => op.bufs ⊆ StableHlo.tcRefs τ sig := by
  unfold ops
  simp only [List.forall_append]
  exact ⟨⟨opsA_sub, opsB_sub⟩, ⟨⟨⟨opsB2_sub, opsC_sub⟩, opsD_sub⟩, opsE_sub⟩, ⟨⟨opsE2_sub, opsG_sub⟩, opsK_sub⟩, ⟨⟨⟨⟨⟨opsK2_sub, opsH_sub⟩, opsI_sub⟩, opsJ_sub⟩, opsL_sub⟩, opsM_sub⟩⟩

theorem ops_fresh : (ops : List (HloOp τ sig (Elt F))).Forall fun op => op.fresh = ∅ := by
  unfold ops
  simp only [List.forall_append]
  exact ⟨⟨opsA_fresh, opsB_fresh⟩, ⟨⟨⟨opsB2_fresh, opsC_fresh⟩, opsD_fresh⟩, opsE_fresh⟩, ⟨⟨opsE2_fresh, opsG_fresh⟩, opsK_fresh⟩, ⟨⟨⟨⟨⟨opsK2_fresh, opsH_fresh⟩, opsI_fresh⟩, opsJ_fresh⟩, opsL_fresh⟩, opsM_fresh⟩⟩

/-- The reference runs to the contents its line of operations leaves. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (StableHlo.launchContents m d) (Proc.devRef .tc b) :=
  StableHlo.run_hlo defs main main_eq (by decide) (by decide) ops_sub (List.forall_iff_forall_mem.1 ops_fresh) m ρ

end Cert.ReferenceIdeal.Ref

end
-- ==== Proof.RefReads.lean ====
/- What each line of operations leaves in the arrays that later lines read. -/
module

public import proofs.«01_k».proof.Proof.RefOps
public import proofs.«01_k».proof.Proof.RefStages
public import Idealize.ShloMosaic.Lib.StableHlo.RunRead

@[expose] public section

set_option maxRecDepth 16384
set_option Elab.async false

noncomputable section

namespace Cert.ReferenceIdeal.Ref

open Cert.ReferenceIdeal Cert.ReferenceIdeal.Gen
open Idealize.ShloMosaic Idealize.ShloMosaic.TcCoe Idealize.ShloMosaic.Tactic
open Idealize.SL.Sem
open StableHlo (after)

variable (V : Valuation τ sig (Elt Ideal))

theorem read_corners : after opsA V main_v10 = corners (V main_arg4) := by
  after_reads_simp
  rfl

theorem read_image : after opsA V main_v12 = (image) := by
  after_reads_simp
  rfl

theorem read_overlap : after (opsB ++ opsB2) V main_v68 = overlap (V main_arg2) (V main_v10) := by
  after_reads_simp
  rfl

theorem read_top : after opsC V main_v69 = top (V main_v68) := by
  after_reads_simp
  rfl

theorem read_bestObject : after opsC V main_v70 = bestObject (V main_v68) := by
  after_reads_simp
  rfl

theorem read_bestPrior : after opsC V main_v71 = bestPrior (V main_v68) := by
  after_reads_simp
  rfl

theorem read_object : after opsC V main_v72 = (object) := by
  after_reads_simp
  rfl

theorem read_objects : after opsD V main_v88 = objects (V main_v70) (V main_v72) (pairs (V main_v12) (V main_v71)) := by
  after_reads_simp
  rfl

theorem read_marked : after opsD V main_v104 = marked (V main_v69) (pairs (V main_v12) (V main_v71)) := by
  after_reads_simp
  rfl

theorem read_classes : after (opsE ++ opsE2) V main_v122 = classes (V main_v104) (V main_arg3) (spots (V main_v12) (V main_v88)) := by
  after_reads_simp
  rfl

theorem read_boxes : after opsG V main_v137 = boxes (V main_arg2) (spots (V main_v12) (V main_v88)) := by
  after_reads_simp
  rfl

theorem read_locs : after (opsK ++ opsK2) V main_v168 = locs (V main_v137) (V main_arg4) := by
  after_reads_simp
  rfl

theorem read_posf : after opsH V main_v171 = posf (V main_v122) := by
  after_reads_simp
  rfl

theorem read_locSum : after opsH V main_v176 = locSum (V main_arg0) (V main_v168) (posf (V main_v122)) := by
  after_reads_simp
  rfl

theorem read_logp : after opsI V main_v177 = logp (V main_arg1) := by
  after_reads_simp
  simp only [StableHlo.TRef.ofBuf_toBuf]
  rfl

theorem read_picked : after opsJ V main_v179 = picked (V main_v177) (V main_v122) := by
  after_reads_simp
  simp only [StableHlo.TRef.ofBuf, StableHlo.TRef.toBuf, cast_eq]
  unfold picked
  rfl

theorem read_negated : after opsL V main_v181 = negated (V main_v179) := by
  after_reads_simp
  rfl

theorem read_blank : after opsL V main_v182 = (blank) := by
  after_reads_simp
  rfl

theorem read_rows : after opsM V main_v185 = rows (V main_v181) (V main_v171) (V main_v182) := by
  after_reads_simp
  rfl

theorem read_total : after opsM V main_v186 = total (V main_v176) := by
  after_reads_simp
  rfl

/-! ## The line run to its end -/

/-- The contents after 1 of the lines. -/
def st1 : Valuation τ sig (Elt Ideal) := after opsA V
/-- The contents after 2 of the lines. -/
def st2 : Valuation τ sig (Elt Ideal) := after (opsB ++ opsB2) (st1 V)
/-- The contents after 3 of the lines. -/
def st3 : Valuation τ sig (Elt Ideal) := after opsC (st2 V)
/-- The contents after 4 of the lines. -/
def st4 : Valuation τ sig (Elt Ideal) := after opsD (st3 V)
/-- The contents after 5 of the lines. -/
def st5 : Valuation τ sig (Elt Ideal) := after (opsE ++ opsE2) (st4 V)
/-- The contents after 6 of the lines. -/
def st6 : Valuation τ sig (Elt Ideal) := after opsG (st5 V)
/-- The contents after 7 of the lines. -/
def st7 : Valuation τ sig (Elt Ideal) := after (opsK ++ opsK2) (st6 V)
/-- The contents after 8 of the lines. -/
def st8 : Valuation τ sig (Elt Ideal) := after opsH (st7 V)
/-- The contents after 9 of the lines. -/
def st9 : Valuation τ sig (Elt Ideal) := after opsI (st8 V)
/-- The contents after 10 of the lines. -/
def st10 : Valuation τ sig (Elt Ideal) := after opsJ (st9 V)
/-- The contents after 11 of the lines. -/
def st11 : Valuation τ sig (Elt Ideal) := after opsL (st10 V)
/-- The contents after 12 of the lines. -/
def st12 : Valuation τ sig (Elt Ideal) := after opsM (st11 V)

theorem at1_x0 : st1 V main_arg0 = V main_arg0 := by
  have h : after opsA V main_arg0 = V main_arg0 := by after_reads_simp
  exact h

theorem at1_x1 : st1 V main_arg1 = V main_arg1 := by
  have h : after opsA V main_arg1 = V main_arg1 := by after_reads_simp
  exact h

theorem at1_x2 : st1 V main_arg2 = V main_arg2 := by
  have h : after opsA V main_arg2 = V main_arg2 := by after_reads_simp
  exact h

theorem at1_x3 : st1 V main_arg3 = V main_arg3 := by
  have h : after opsA V main_arg3 = V main_arg3 := by after_reads_simp
  exact h

theorem at1_x4 : st1 V main_arg4 = V main_arg4 := by
  have h : after opsA V main_arg4 = V main_arg4 := by after_reads_simp
  exact h

theorem at1_v10 : st1 V main_v10 = corners (V main_arg4) := by
  refine (read_corners V).trans ?_
  rfl

theorem at1_v12 : st1 V main_v12 = image := by
  refine (read_image V).trans ?_
  rfl

theorem at2_x0 : st2 V main_arg0 = V main_arg0 := by
  have h : after (opsB ++ opsB2) (st1 V) main_arg0 = (st1 V) main_arg0 := by after_reads_simp
  exact h.trans (at1_x0 V)

theorem at2_x1 : st2 V main_arg1 = V main_arg1 := by
  have h : after (opsB ++ opsB2) (st1 V) main_arg1 = (st1 V) main_arg1 := by after_reads_simp
  exact h.trans (at1_x1 V)

theorem at2_x2 : st2 V main_arg2 = V main_arg2 := by
  have h : after (opsB ++ opsB2) (st1 V) main_arg2 = (st1 V) main_arg2 := by after_reads_simp
  exact h.trans (at1_x2 V)

theorem at2_x3 : st2 V main_arg3 = V main_arg3 := by
  have h : after (opsB ++ opsB2) (st1 V) main_arg3 = (st1 V) main_arg3 := by after_reads_simp
  exact h.trans (at1_x3 V)

theorem at2_x4 : st2 V main_arg4 = V main_arg4 := by
  have h : after (opsB ++ opsB2) (st1 V) main_arg4 = (st1 V) main_arg4 := by after_reads_simp
  exact h.trans (at1_x4 V)

theorem at2_v12 : st2 V main_v12 = image := by
  have h : after (opsB ++ opsB2) (st1 V) main_v12 = (st1 V) main_v12 := by after_reads_simp
  exact h.trans (at1_v12 V)

theorem at2_v68 : st2 V main_v68 = rOverlap (V main_arg2) (V main_arg4) := by
  refine (read_overlap (st1 V)).trans ?_
  rw [at1_x2, at1_v10]
  rfl

theorem at3_x0 : st3 V main_arg0 = V main_arg0 := by
  have h : after opsC (st2 V) main_arg0 = (st2 V) main_arg0 := by after_reads_simp
  exact h.trans (at2_x0 V)

theorem at3_x1 : st3 V main_arg1 = V main_arg1 := by
  have h : after opsC (st2 V) main_arg1 = (st2 V) main_arg1 := by after_reads_simp
  exact h.trans (at2_x1 V)

theorem at3_x2 : st3 V main_arg2 = V main_arg2 := by
  have h : after opsC (st2 V) main_arg2 = (st2 V) main_arg2 := by after_reads_simp
  exact h.trans (at2_x2 V)

theorem at3_x3 : st3 V main_arg3 = V main_arg3 := by
  have h : after opsC (st2 V) main_arg3 = (st2 V) main_arg3 := by after_reads_simp
  exact h.trans (at2_x3 V)

theorem at3_x4 : st3 V main_arg4 = V main_arg4 := by
  have h : after opsC (st2 V) main_arg4 = (st2 V) main_arg4 := by after_reads_simp
  exact h.trans (at2_x4 V)

theorem at3_v12 : st3 V main_v12 = image := by
  have h : after opsC (st2 V) main_v12 = (st2 V) main_v12 := by after_reads_simp
  exact h.trans (at2_v12 V)

theorem at3_v69 : st3 V main_v69 = top (rOverlap (V main_arg2) (V main_arg4)) := by
  refine (read_top (st2 V)).trans ?_
  rw [at2_v68]

theorem at3_v70 : st3 V main_v70 = bestObject (rOverlap (V main_arg2) (V main_arg4)) := by
  refine (read_bestObject (st2 V)).trans ?_
  rw [at2_v68]

theorem at3_v71 : st3 V main_v71 = bestPrior (rOverlap (V main_arg2) (V main_arg4)) := by
  refine (read_bestPrior (st2 V)).trans ?_
  rw [at2_v68]

theorem at3_v72 : st3 V main_v72 = object := by
  refine (read_object (st2 V)).trans ?_
  rfl

theorem at4_x0 : st4 V main_arg0 = V main_arg0 := by
  have h : after opsD (st3 V) main_arg0 = (st3 V) main_arg0 := by after_reads_simp
  exact h.trans (at3_x0 V)

theorem at4_x1 : st4 V main_arg1 = V main_arg1 := by
  have h : after opsD (st3 V) main_arg1 = (st3 V) main_arg1 := by after_reads_simp
  exact h.trans (at3_x1 V)

theorem at4_x2 : st4 V main_arg2 = V main_arg2 := by
  have h : after opsD (st3 V) main_arg2 = (st3 V) main_arg2 := by after_reads_simp
  exact h.trans (at3_x2 V)

theorem at4_x3 : st4 V main_arg3 = V main_arg3 := by
  have h : after opsD (st3 V) main_arg3 = (st3 V) main_arg3 := by after_reads_simp
  exact h.trans (at3_x3 V)

theorem at4_x4 : st4 V main_arg4 = V main_arg4 := by
  have h : after opsD (st3 V) main_arg4 = (st3 V) main_arg4 := by after_reads_simp
  exact h.trans (at3_x4 V)

theorem at4_v104 : st4 V main_v104 = rMarked (V main_arg2) (V main_arg4) := by
  refine (read_marked (st3 V)).trans ?_
  rw [at3_v69, at3_v12, at3_v71]
  rfl

theorem at4_v12 : st4 V main_v12 = image := by
  have h : after opsD (st3 V) main_v12 = (st3 V) main_v12 := by after_reads_simp
  exact h.trans (at3_v12 V)

theorem at4_v88 : st4 V main_v88 = rObjects (V main_arg2) (V main_arg4) := by
  refine (read_objects (st3 V)).trans ?_
  rw [at3_v70, at3_v72, at3_v12, at3_v71]
  rfl

theorem at5_x0 : st5 V main_arg0 = V main_arg0 := by
  have h : after (opsE ++ opsE2) (st4 V) main_arg0 = (st4 V) main_arg0 := by after_reads_simp
  exact h.trans (at4_x0 V)

theorem at5_x1 : st5 V main_arg1 = V main_arg1 := by
  have h : after (opsE ++ opsE2) (st4 V) main_arg1 = (st4 V) main_arg1 := by after_reads_simp
  exact h.trans (at4_x1 V)

theorem at5_x2 : st5 V main_arg2 = V main_arg2 := by
  have h : after (opsE ++ opsE2) (st4 V) main_arg2 = (st4 V) main_arg2 := by after_reads_simp
  exact h.trans (at4_x2 V)

theorem at5_x3 : st5 V main_arg3 = V main_arg3 := by
  have h : after (opsE ++ opsE2) (st4 V) main_arg3 = (st4 V) main_arg3 := by after_reads_simp
  exact h.trans (at4_x3 V)

theorem at5_x4 : st5 V main_arg4 = V main_arg4 := by
  have h : after (opsE ++ opsE2) (st4 V) main_arg4 = (st4 V) main_arg4 := by after_reads_simp
  exact h.trans (at4_x4 V)

theorem at5_v12 : st5 V main_v12 = image := by
  have h : after (opsE ++ opsE2) (st4 V) main_v12 = (st4 V) main_v12 := by after_reads_simp
  exact h.trans (at4_v12 V)

theorem at5_v122 : st5 V main_v122 = rClasses (V main_arg2) (V main_arg3) (V main_arg4) := by
  refine (read_classes (st4 V)).trans ?_
  rw [at4_v104, at4_x3, at4_v12, at4_v88]
  rfl

theorem at5_v88 : st5 V main_v88 = rObjects (V main_arg2) (V main_arg4) := by
  have h : after (opsE ++ opsE2) (st4 V) main_v88 = (st4 V) main_v88 := by after_reads_simp
  exact h.trans (at4_v88 V)

theorem at6_x0 : st6 V main_arg0 = V main_arg0 := by
  have h : after opsG (st5 V) main_arg0 = (st5 V) main_arg0 := by after_reads_simp
  exact h.trans (at5_x0 V)

theorem at6_x1 : st6 V main_arg1 = V main_arg1 := by
  have h : after opsG (st5 V) main_arg1 = (st5 V) main_arg1 := by after_reads_simp
  exact h.trans (at5_x1 V)

theorem at6_x2 : st6 V main_arg2 = V main_arg2 := by
  have h : after opsG (st5 V) main_arg2 = (st5 V) main_arg2 := by after_reads_simp
  exact h.trans (at5_x2 V)

theorem at6_x3 : st6 V main_arg3 = V main_arg3 := by
  have h : after opsG (st5 V) main_arg3 = (st5 V) main_arg3 := by after_reads_simp
  exact h.trans (at5_x3 V)

theorem at6_x4 : st6 V main_arg4 = V main_arg4 := by
  have h : after opsG (st5 V) main_arg4 = (st5 V) main_arg4 := by after_reads_simp
  exact h.trans (at5_x4 V)

theorem at6_v122 : st6 V main_v122 = rClasses (V main_arg2) (V main_arg3) (V main_arg4) := by
  have h : after opsG (st5 V) main_v122 = (st5 V) main_v122 := by after_reads_simp
  exact h.trans (at5_v122 V)

theorem at6_v137 : st6 V main_v137 = boxes (V main_arg2) (rSpots (V main_arg2) (V main_arg4)) := by
  refine (read_boxes (st5 V)).trans ?_
  rw [at5_x2, at5_v12, at5_v88]
  rfl

theorem at7_x0 : st7 V main_arg0 = V main_arg0 := by
  have h : after (opsK ++ opsK2) (st6 V) main_arg0 = (st6 V) main_arg0 := by after_reads_simp
  exact h.trans (at6_x0 V)

theorem at7_x1 : st7 V main_arg1 = V main_arg1 := by
  have h : after (opsK ++ opsK2) (st6 V) main_arg1 = (st6 V) main_arg1 := by after_reads_simp
  exact h.trans (at6_x1 V)

theorem at7_x2 : st7 V main_arg2 = V main_arg2 := by
  have h : after (opsK ++ opsK2) (st6 V) main_arg2 = (st6 V) main_arg2 := by after_reads_simp
  exact h.trans (at6_x2 V)

theorem at7_x3 : st7 V main_arg3 = V main_arg3 := by
  have h : after (opsK ++ opsK2) (st6 V) main_arg3 = (st6 V) main_arg3 := by after_reads_simp
  exact h.trans (at6_x3 V)

theorem at7_x4 : st7 V main_arg4 = V main_arg4 := by
  have h : after (opsK ++ opsK2) (st6 V) main_arg4 = (st6 V) main_arg4 := by after_reads_simp
  exact h.trans (at6_x4 V)

theorem at7_v122 : st7 V main_v122 = rClasses (V main_arg2) (V main_arg3) (V main_arg4) := by
  have h : after (opsK ++ opsK2) (st6 V) main_v122 = (st6 V) main_v122 := by after_reads_simp
  exact h.trans (at6_v122 V)

theorem at7_v168 : st7 V main_v168 = rLocs (V main_arg2) (V main_arg4) := by
  refine (read_locs (st6 V)).trans ?_
  rw [at6_v137, at6_x4]
  rfl

theorem at8_x0 : st8 V main_arg0 = V main_arg0 := by
  have h : after opsH (st7 V) main_arg0 = (st7 V) main_arg0 := by after_reads_simp
  exact h.trans (at7_x0 V)

theorem at8_x1 : st8 V main_arg1 = V main_arg1 := by
  have h : after opsH (st7 V) main_arg1 = (st7 V) main_arg1 := by after_reads_simp
  exact h.trans (at7_x1 V)

theorem at8_x2 : st8 V main_arg2 = V main_arg2 := by
  have h : after opsH (st7 V) main_arg2 = (st7 V) main_arg2 := by after_reads_simp
  exact h.trans (at7_x2 V)

theorem at8_x3 : st8 V main_arg3 = V main_arg3 := by
  have h : after opsH (st7 V) main_arg3 = (st7 V) main_arg3 := by after_reads_simp
  exact h.trans (at7_x3 V)

theorem at8_x4 : st8 V main_arg4 = V main_arg4 := by
  have h : after opsH (st7 V) main_arg4 = (st7 V) main_arg4 := by after_reads_simp
  exact h.trans (at7_x4 V)

theorem at8_v122 : st8 V main_v122 = rClasses (V main_arg2) (V main_arg3) (V main_arg4) := by
  have h : after opsH (st7 V) main_v122 = (st7 V) main_v122 := by after_reads_simp
  exact h.trans (at7_v122 V)

theorem at8_v171 : st8 V main_v171 = posf (rClasses (V main_arg2) (V main_arg3) (V main_arg4)) := by
  refine (read_posf (st7 V)).trans ?_
  rw [at7_v122]

theorem at8_v176 : st8 V main_v176 = locSum (V main_arg0) (rLocs (V main_arg2) (V main_arg4)) (posf (rClasses (V main_arg2) (V main_arg3) (V main_arg4))) := by
  refine (read_locSum (st7 V)).trans ?_
  rw [at7_x0, at7_v168, at7_v122]

theorem at9_x0 : st9 V main_arg0 = V main_arg0 := by
  have h : after opsI (st8 V) main_arg0 = (st8 V) main_arg0 := by after_reads_simp
  exact h.trans (at8_x0 V)

theorem at9_x1 : st9 V main_arg1 = V main_arg1 := by
  have h : after opsI (st8 V) main_arg1 = (st8 V) main_arg1 := by after_reads_simp
  exact h.trans (at8_x1 V)

theorem at9_x2 : st9 V main_arg2 = V main_arg2 := by
  have h : after opsI (st8 V) main_arg2 = (st8 V) main_arg2 := by after_reads_simp
  exact h.trans (at8_x2 V)

theorem at9_x3 : st9 V main_arg3 = V main_arg3 := by
  have h : after opsI (st8 V) main_arg3 = (st8 V) main_arg3 := by after_reads_simp
  exact h.trans (at8_x3 V)

theorem at9_x4 : st9 V main_arg4 = V main_arg4 := by
  have h : after opsI (st8 V) main_arg4 = (st8 V) main_arg4 := by after_reads_simp
  exact h.trans (at8_x4 V)

theorem at9_v122 : st9 V main_v122 = rClasses (V main_arg2) (V main_arg3) (V main_arg4) := by
  have h : after opsI (st8 V) main_v122 = (st8 V) main_v122 := by after_reads_simp
  exact h.trans (at8_v122 V)

theorem at9_v171 : st9 V main_v171 = posf (rClasses (V main_arg2) (V main_arg3) (V main_arg4)) := by
  have h : after opsI (st8 V) main_v171 = (st8 V) main_v171 := by after_reads_simp
  exact h.trans (at8_v171 V)

theorem at9_v176 : st9 V main_v176 = locSum (V main_arg0) (rLocs (V main_arg2) (V main_arg4)) (posf (rClasses (V main_arg2) (V main_arg3) (V main_arg4))) := by
  have h : after opsI (st8 V) main_v176 = (st8 V) main_v176 := by after_reads_simp
  exact h.trans (at8_v176 V)

theorem at9_v177 : st9 V main_v177 = logp (V main_arg1) := by
  refine (read_logp (st8 V)).trans ?_
  rw [at8_x1]

theorem at10_x0 : st10 V main_arg0 = V main_arg0 := by
  have h : after opsJ (st9 V) main_arg0 = (st9 V) main_arg0 := by after_reads_simp
  exact h.trans (at9_x0 V)

theorem at10_x1 : st10 V main_arg1 = V main_arg1 := by
  have h : after opsJ (st9 V) main_arg1 = (st9 V) main_arg1 := by after_reads_simp
  exact h.trans (at9_x1 V)

theorem at10_x2 : st10 V main_arg2 = V main_arg2 := by
  have h : after opsJ (st9 V) main_arg2 = (st9 V) main_arg2 := by after_reads_simp
  exact h.trans (at9_x2 V)

theorem at10_x3 : st10 V main_arg3 = V main_arg3 := by
  have h : after opsJ (st9 V) main_arg3 = (st9 V) main_arg3 := by after_reads_simp
  exact h.trans (at9_x3 V)

theorem at10_x4 : st10 V main_arg4 = V main_arg4 := by
  have h : after opsJ (st9 V) main_arg4 = (st9 V) main_arg4 := by after_reads_simp
  exact h.trans (at9_x4 V)

theorem at10_v171 : st10 V main_v171 = posf (rClasses (V main_arg2) (V main_arg3) (V main_arg4)) := by
  have h : after opsJ (st9 V) main_v171 = (st9 V) main_v171 := by after_reads_simp
  exact h.trans (at9_v171 V)

theorem at10_v176 : st10 V main_v176 = locSum (V main_arg0) (rLocs (V main_arg2) (V main_arg4)) (posf (rClasses (V main_arg2) (V main_arg3) (V main_arg4))) := by
  have h : after opsJ (st9 V) main_v176 = (st9 V) main_v176 := by after_reads_simp
  exact h.trans (at9_v176 V)

theorem at10_v179 : st10 V main_v179 = picked (logp (V main_arg1)) (rClasses (V main_arg2) (V main_arg3) (V main_arg4)) := by
  refine (read_picked (st9 V)).trans ?_
  rw [at9_v177, at9_v122]

theorem at11_x0 : st11 V main_arg0 = V main_arg0 := by
  have h : after opsL (st10 V) main_arg0 = (st10 V) main_arg0 := by after_reads_simp
  exact h.trans (at10_x0 V)

theorem at11_x1 : st11 V main_arg1 = V main_arg1 := by
  have h : after opsL (st10 V) main_arg1 = (st10 V) main_arg1 := by after_reads_simp
  exact h.trans (at10_x1 V)

theorem at11_x2 : st11 V main_arg2 = V main_arg2 := by
  have h : after opsL (st10 V) main_arg2 = (st10 V) main_arg2 := by after_reads_simp
  exact h.trans (at10_x2 V)

theorem at11_x3 : st11 V main_arg3 = V main_arg3 := by
  have h : after opsL (st10 V) main_arg3 = (st10 V) main_arg3 := by after_reads_simp
  exact h.trans (at10_x3 V)

theorem at11_x4 : st11 V main_arg4 = V main_arg4 := by
  have h : after opsL (st10 V) main_arg4 = (st10 V) main_arg4 := by after_reads_simp
  exact h.trans (at10_x4 V)

theorem at11_v171 : st11 V main_v171 = posf (rClasses (V main_arg2) (V main_arg3) (V main_arg4)) := by
  have h : after opsL (st10 V) main_v171 = (st10 V) main_v171 := by after_reads_simp
  exact h.trans (at10_v171 V)

theorem at11_v176 : st11 V main_v176 = locSum (V main_arg0) (rLocs (V main_arg2) (V main_arg4)) (posf (rClasses (V main_arg2) (V main_arg3) (V main_arg4))) := by
  have h : after opsL (st10 V) main_v176 = (st10 V) main_v176 := by after_reads_simp
  exact h.trans (at10_v176 V)

theorem at11_v181 : st11 V main_v181 = negated (picked (logp (V main_arg1)) (rClasses (V main_arg2) (V main_arg3) (V main_arg4))) := by
  refine (read_negated (st10 V)).trans ?_
  rw [at10_v179]

theorem at11_v182 : st11 V main_v182 = blank := by
  refine (read_blank (st10 V)).trans ?_
  rfl

theorem at12_x0 : st12 V main_arg0 = V main_arg0 := by
  have h : after opsM (st11 V) main_arg0 = (st11 V) main_arg0 := by after_reads_simp
  exact h.trans (at11_x0 V)

theorem at12_x1 : st12 V main_arg1 = V main_arg1 := by
  have h : after opsM (st11 V) main_arg1 = (st11 V) main_arg1 := by after_reads_simp
  exact h.trans (at11_x1 V)

theorem at12_x2 : st12 V main_arg2 = V main_arg2 := by
  have h : after opsM (st11 V) main_arg2 = (st11 V) main_arg2 := by after_reads_simp
  exact h.trans (at11_x2 V)

theorem at12_x3 : st12 V main_arg3 = V main_arg3 := by
  have h : after opsM (st11 V) main_arg3 = (st11 V) main_arg3 := by after_reads_simp
  exact h.trans (at11_x3 V)

theorem at12_x4 : st12 V main_arg4 = V main_arg4 := by
  have h : after opsM (st11 V) main_arg4 = (st11 V) main_arg4 := by after_reads_simp
  exact h.trans (at11_x4 V)

theorem at12_v185 : st12 V main_v185 = rRows (V main_arg1) (V main_arg2) (V main_arg3) (V main_arg4) := by
  refine (read_rows (st11 V)).trans ?_
  rw [at11_v181, at11_v171, at11_v182]
  rfl

theorem at12_v186 : st12 V main_v186 = rTotal (V main_arg0) (V main_arg2) (V main_arg3) (V main_arg4) := by
  refine (read_total (st11 V)).trans ?_
  rw [at11_v176]
  rfl

theorem after_append (l₁ l₂ : List (HloOp τ sig (Elt Ideal))) : after (l₁ ++ l₂) V = after l₂ (after l₁ V) := by
  induction l₁ generalizing V with
  | nil => rfl
  | cons op l ih => exact ih _

theorem after_ops : after ops V = st12 V := by
  unfold ops st12 st11 st10 st9 st8 st7 st6 st5 st4 st3 st2 st1
  simp only [after_append]

end Cert.ReferenceIdeal.Ref

end
-- ==== Proof.RefRun.lean ====
module

public import proofs.«01_k».proof.Proof.Gen.ReferenceIdeal
public import proofs.«01_k».proof.Proof.Gen.Pre_labels_in_range_scores_finite
public import proofs.«01_k».proof.Proof.Gen.On_rows_written
-- ==== Proof.FinalFacts.lean ====
/- The side conditions of the second call's claim and of its condition. -/
module

public import proofs.«01_k».proof.Pre_marks_and_losses
public import proofs.«01_k».proof.Post_close_to_loss
public import Idealize.ShloMosaic.Lib.Affine
public import Idealize.ShloMosaic.Lib.Decide
public import Idealize.ShloMosaic.Lib.Exec

@[expose] public section

namespace Cert.FinalFacts

open Idealize.ShloMosaic

instance marks : Cert.Pre_marks_and_losses.Facts where
  slices_S32x8x8732_S32x1x8732_0_0_0 := by decide
  shapeCasts_S32x1x8732_S32x8732 := by decide
  slices_S32x8x8732_S32x1x8732_0_1_0 := by decide
  bcast_S_S32x8732 := by decide
  reducesTo_S32x8732_S_d0_1 := by decide
  h_S_ := by decide

instance close : Cert.Post_close_to_loss.Facts where
  slices_S32x8x8732_S32x1x8732_0_0_0 := by decide
  shapeCasts_S32x1x8732_S32x8732 := by decide
  slices_S32x8x8732_S32x1x8732_0_1_0 := by decide
  bcast_S_S32x8732 := by decide
  shapeCasts_S1x1_S_ := by decide
  reducesTo_S32x8732_S_d0_1 := by decide
  h_S_ := by decide
  reducesTo_S32x8732_S32_d1 := by decide
  bcast_S_S32 := by decide
  bcast_S8732_S1x8732_1 := by decide
  bcast_S32_S32x1_0 := by decide
  bcast_S1x8732_S32x8732_0_1 := by decide
  bcast_S32x1_S32x8732_0_1 := by decide
  reducesTo_S32_S_d0 := by decide
  bcast_S_S1x1 := by decide

end Cert.FinalFacts
-- ==== Proof.FinalPay.lean ====
/- The second call's numbers, element by element. -/
module

public import Idealize.ShloMosaic.Lib.Pointwise
public import proofs.«01_k».proof.Proof.Gen.FinalIdeal
public import proofs.«01_k».proof.Proof.Gen.FinalIdeal.Skeleton
public import proofs.«01_k».proof.Proof.Choice

@[expose] public section

set_option maxRecDepth 16384

noncomputable section

namespace Cert.FinalIdeal.Pay

open Cert.FinalIdeal Cert.FinalIdeal.Gen
open Idealize.ShloMosaic Idealize.ShloMosaic.TcCoe Idealize.SL.Sem

variable (v0 v2 : FVec Ideal S32x1x8732 .f32) (lo hi : FVec Ideal S32x1 .f32) (b : Fin 32) (p : Fin 8732)

theorem flag (P : Prop) [Decidable P] :
    (FloatOps.sitofp .f32 (BitVec.setWidth 32 (BitVec.ofBool (decide P))) : Ideal .f32) = if P then (1 : EReal) else 0 := by
  have e (w : BitVec 32) : (FloatOps.sitofp .f32 w : Ideal .f32) = ((w.toInt : ℝ) : EReal) := rfl
  rw [e]
  by_cases h : P <;> simp [h]

theorem pay7_at : k0_pay7 (F := Ideal) v0 v2 (ix2 b p) = if v2 (ix3 b 0 p) ≠ 0 then 0 else v0 (ix3 b 0 p) := by
  pointwise [k0_pay7, k0_pay2, k0_pay3]

theorem pay4_at : k0_pay4 (F := Ideal) v2 (ix2 b 0) = ∑ p : Fin 8732, v2 (ix3 b 0 p) := by
  pointwise [k0_pay4, k0_pay3]

theorem pay5_at : k0_pay5 (F := Ideal) v2 (ix2 b 0) = Ideal.ofBits .f32 0x40400000#32 * ∑ p : Fin 8732, v2 (ix3 b 0 p) := by
  rw [← pay4_at]
  pointwise [k0_pay5]

theorem pay6_at : k0_pay6 (F := Ideal) v0 v2 = ∑ b : Fin 32, ∑ p : Fin 8732, v0 (ix3 b 0 p) * v2 (ix3 b 0 p) := by
  pointwise [k0_pay6, k0_pay2, k0_pay3]

theorem pay8_at : k0_pay8 (F := Ideal) v0 v2 (ix2 b 0)
    = Finset.fold max (Ideal.ofBits .f32 0xFF800000#32) (fun p : Fin 8732 => k0_pay7 (F := Ideal) v0 v2 (ix2 b p)) Finset.univ := by
  pointwise [k0_pay8]

theorem pay9_at : k0_pay9 (F := Ideal) (ix2 b 0) = (0 : EReal) := by
  pointwise [k0_pay9]

theorem pay10_at : k0_pay10 (F := Ideal) lo hi (ix2 b 0) = (lo (ix2 b 0) + hi (ix2 b 0)) * Ideal.ofBits .f32 0x3F000000#32 := by
  pointwise [k0_pay10]

theorem pay11_at : k0_pay11 (F := Ideal) v0 v2 lo hi (ix2 b 0) = BitVec.ofBool (decide ((k0_pay5 (F := Ideal) v2 (ix2 b 0) : EReal)
    ≤ ∑ p : Fin 8732, if (k0_pay10 (F := Ideal) lo hi (ix2 b 0) : EReal) < k0_pay7 (F := Ideal) v0 v2 (ix2 b p) then (1 : EReal) else 0)) := by
  pointwise [k0_pay11]
  simp only [flag]

theorem pay12_at : k0_pay12 (F := Ideal) v0 v2 lo hi (ix2 b 0)
    = Scalar.select (k0_pay11 (F := Ideal) v0 v2 lo hi (ix2 b 0)) (k0_pay10 (F := Ideal) lo hi (ix2 b 0)) (lo (ix2 b 0)) := rfl

theorem pay13_at : k0_pay13 (F := Ideal) v0 v2 lo hi (ix2 b 0)
    = Scalar.select (k0_pay11 (F := Ideal) v0 v2 lo hi (ix2 b 0)) (hi (ix2 b 0)) (k0_pay10 (F := Ideal) lo hi (ix2 b 0)) := rfl

theorem pay14_at : k0_pay14 (F := Ideal) v0 v2 lo = ∑ b : Fin 32,
    ((∑ p : Fin 8732, k0_pay7 (F := Ideal) v0 v2 (ix2 b p) * if (lo (ix2 b 0) : EReal) < k0_pay7 (F := Ideal) v0 v2 (ix2 b p) then (1 : EReal) else 0)
      + (k0_pay5 (F := Ideal) v2 (ix2 b 0) - ∑ p : Fin 8732, if (lo (ix2 b 0) : EReal) < k0_pay7 (F := Ideal) v0 v2 (ix2 b p) then (1 : EReal) else 0)
        * lo (ix2 b 0)) := by
  pointwise [k0_pay14]
  simp only [flag, Finset.univ_unique, Finset.sum_singleton]

theorem pay15_at (i : S1.Idx) : k0_pay15 (F := Ideal) v2 i = ∑ b : Fin 32, ∑ p : Fin 8732, v2 (ix3 b 0 p) := by
  simp only [← pay4_at]
  pointwise [k0_pay15]
  simp only [Finset.univ_unique, Finset.sum_singleton]

theorem pay1_at (u w : Ideal .f32) (z : FVec Ideal S1 .f32) (s : FVec Ideal S1x1 .f32) : k0_pay1 (F := Ideal) u w z s (ix2 0 0)
    = Ideal.div ((w : EReal) + u) (z (ix1 0)) + Ideal.div (s (ix2 0 0)) (Ideal.ofBits .f32 0x40800000#32 * z (ix1 0)) := by
  pointwise [k0_pay1]

end Cert.FinalIdeal.Pay

end
-- ==== Proof.FinalRun.lean ====
/- What the second call leaves in its result. -/
module

public import proofs.«01_k».proof.Proof.Gen.FinalIdeal.Frame
public import proofs.«01_k».proof.Proof.FinalPay
public import Idealize.ShloMosaic.Lib.Claim
public import Idealize.ShloMosaic.Lib.Pipeline.ArrRel
public import Idealize.ShloMosaic.Lib.Pipeline.DatRel
public import Idealize.ShloMosaic.Lib.Pipeline.ValueKit
public import Idealize.ShloMosaic.Lib.VecWindow
public import Idealize.ShloMosaic.Lib.WholeRead
public import Idealize.ShloMosaic.Lib.WritesUnit

@[expose] public section

set_option maxRecDepth 16384

noncomputable section

namespace Cert.FinalIdeal.Run

open Cert.FinalIdeal Cert.FinalIdeal.Gen
open Idealize.ShloMosaic Idealize.ShloMosaic.TcCoe Idealize.SL.Sem

/-- A row of each of the 32 images. -/
def row (q : Fin 8) (x0 : Vec Ideal S32x8x8732 .f32) : Vec Ideal S32x1x8732 .f32 := fun j => x0 (ix3 (j 0) q (j 2))

theorem row_at (q : Fin 8) (x0 : Vec Ideal S32x8x8732 .f32) (b : Fin 32) (p : Fin 8732) : row q x0 (ix3 b 0 p) = x0 (ix3 b q p) := rfl

theorem ld_row (x0 : Vec Ideal S32x8x8732 .f32) (q : Fin 8)
    (inb : ∀ a, (![0, q.val, 0] : Fin 3 → ℕ) a + (![32, 1, 8732] : Fin 3 → ℕ) a ≤ S32x8x8732.size a) :
    View.ld x0 (Rect.unit (s := S32x8x8732) ![0, q.val, 0] ![32, 1, 8732] inb) = row q x0 := by
  funext j
  show x0 _ = x0 _
  congr 1
  funext a
  match a with
  | ⟨0, _⟩ => apply Fin.ext; simp [Rect.emb, Rect.unit]
  | ⟨1, _⟩ => apply Fin.ext; have : (j 1).val < 1 := (j 1).isLt; simp [Rect.emb, Rect.unit]
  | ⟨2, _⟩ => apply Fin.ext; simp [Rect.emb, Rect.unit]

theorem ld_row0 (x0 : Vec Ideal S32x8x8732 .f32) (inb) : View.ld x0 (Rect.unit (s := S32x8x8732) ![0, 0, 0] ![32, 1, 8732] inb) = row 0 x0 := ld_row x0 0 inb
theorem ld_row1 (x0 : Vec Ideal S32x8x8732 .f32) (inb) : View.ld x0 (Rect.unit (s := S32x8x8732) ![0, 1, 0] ![32, 1, 8732] inb) = row 1 x0 := ld_row x0 1 inb

/-- One trip of the loop. -/
def trip (v0 v2 : Vec Ideal S32x1x8732 .f32) (s : FVec Ideal S32x1 .f32 × FVec Ideal S32x1 .f32) : FVec Ideal S32x1 .f32 × FVec Ideal S32x1 .f32 :=
  (k0_pay12 v0 v2 s.1 s.2, k0_pay13 v0 v2 s.1 s.2)

theorem fold_const {σ : Type} (n : ℕ) (f : σ → σ) (init : σ) : Scf.fold (n := n) (fun _ s => f s) init = f^[n] init := by
  rw [Scf.fold_eq]
  have e (l : List (Fin n)) : ∀ s : σ, l.foldl (fun acc _ => f acc) s = f^[l.length] s := by
    induction l with
    | nil => intro s; rfl
    | cons a l ih => intro s; rw [List.foldl_cons, ih, List.length_cons, Function.iterate_succ_apply]
  rw [e, List.length_finRange]

/-- The interval's ends after all trips. -/
def ends (v0 v2 : Vec Ideal S32x1x8732 .f32) : FVec Ideal S32x1 .f32 × FVec Ideal S32x1 .f32 := (trip v0 v2)^[46] (k0_pay9, k0_pay8 v0 v2)

/-- What the call leaves, from its two arguments. -/
def result (x0 : Vec Ideal S32x8x8732 .f32) (x1 : Vec Ideal S1x1 .f32) : FVec Ideal S1x1 .f32 :=
  k0_pay1 (k0_pay6 (row 0 x0) (row 1 x0)) (k0_pay14 (row 0 x0) (row 1 x0) (ends (row 0 x0) (row 1 x0)).1) (k0_pay15 (row 1 x0)) x1

variable (c : Dev nD) (arg0 : Memref sig .tc .vmem S32x8x8732 .f32) (harg0 : arg0.IsWhole) (arg1 : Memref sig .tc .vmem S1x1 .f32) (harg1 : arg1.IsWhole)
  (arg2 : Memref sig .tc .vmem S1x1 .f32) (harg2 : arg2.IsWhole) (x0 : Vec Ideal S32x8x8732 .f32) (x1 : Vec Ideal S1x1 .f32)

theorem trips_eq : k0_t1_loop.trips = 46 := by decide +kernel

theorem fold_ends (v0 v2 : Vec Ideal S32x1x8732 .f32) (n : ℕ) (hn : n = 46) :
    Scf.fold (n := n) (fun _ s => (k0_pay12 v0 v2 s.1 s.2, k0_pay13 v0 v2 s.1 s.2)) (k0_pay9, k0_pay8 v0 v2) = ends v0 v2 := by
  subst hn
  exact fold_const 46 (trip v0 v2) _

theorem loop_eq : kernelRun0_A.sl.r (F := Ideal) c arg0 harg0 x0 = ends (row 0 x0) (row 1 x0) := by
  delta kernelRun0_A.sl.r
  dsimp only
  rw [View.readAt_eq_ld, View.readAt_eq_ld, Memref.IsWhole.read_unread, ld_row0, ld_row1]
  exact fold_ends _ _ _ trips_eq

theorem out_eq : out0_A_2 (F := Ideal) c arg0 harg0 arg1 harg1 arg2 harg2 x0 x1 = result x0 x1 := by
  unfold out0_A_2 kernelRun0_A
  dsimp only
  refine (View.read_writes_full _ _ _ _ _).trans ?_
  delta kernelRun0_A.sl.r_1 kernelRun0_A.sl.r_2 kernelRun0_A.sl.r_3
  dsimp only
  rw [loop_eq, View.readAt_eq_ld, View.readAt_eq_ld, Memref.IsWhole.read_unread, ld_row0, ld_row1]
  unfold result
  congr 1
  refine (View.readAt_full _ _ _).trans ?_
  exact Memref.IsWhole.read_unread _ _

/-! ## The launch -/

variable (m : (ℓ : Loc nD τ sig) → Buf (Elt Ideal) ℓ)

/-- The arguments. -/
abbrev a0 (c : Dev nD) : Vec Ideal S32x8x8732 .f32 := m ((c.tc : Thread nD τ).loc main_arg0)
abbrev a1 (c : Dev nD) : Vec Ideal S1x1 .f32 := m ((c.tc : Thread nD τ).loc main_arg1)

abbrev tLast : Fin cfg0.N := ⟨0, Nat.lt_of_lt_of_eq (by decide) N_0.symm⟩

theorem index0 : ∀ t : Fin grid0.N, win0_0.index t = ![0, 0, 0] := by decide +kernel
theorem index1 : ∀ t : Fin grid0.N, win0_1.index t = ![0, 0] := by decide +kernel

theorem iblk0 (t : Fin cfg0.N) : iblk m c 0 t = a0 m c := by
  funext j
  unfold iblk
  show m ((c : Thread nD τ).loc main_arg0) _ = m ((c : Thread nD τ).loc main_arg0) _
  congr 1
  funext a
  match a with
  | ⟨0, _⟩ => apply Fin.ext; blk_simp; rw [index0]; simp
  | ⟨1, _⟩ => apply Fin.ext; blk_simp; rw [index0]; simp
  | ⟨2, _⟩ => apply Fin.ext; blk_simp; rw [index0]; simp

theorem iblk1 (t : Fin cfg0.N) : iblk m c 1 t = a1 m c := by
  funext j
  unfold iblk
  show m ((c : Thread nD τ).loc main_arg1) _ = m ((c : Thread nD τ).loc main_arg1) _
  congr 1
  funext a
  match a with
  | ⟨0, _⟩ => apply Fin.ext; blk_simp; rw [index1]; simp
  | ⟨1, _⟩ => apply Fin.ext; blk_simp; rw [index1]; simp

theorem result_of {r} (h : Pipeline.FramePost cfgs (dats m) 0 (V m) r) (c : Dev nD) :
    r.2.mem ((c.tc : Thread nD τ).loc main_v0) = result (a0 m c) (a1 m c) := by
  refine ((h c).1 2).trans ?_
  refine Pipeline.Dat.arrAt_eq_of_after_last _ 2 tLast (by decide +kernel) _ fun j => ?_
  blk_simp
  rw [after0_2]
  unfold outsAt0
  rw [out_eq, iblk0, iblk1]

/-- The second call's run. -/
theorem run_result (g : Dev nD → PrngReg) :
    θ_run (defs (F := Ideal)) (onTc (τ := τ) (main (F := Ideal))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v0) = result (a0 m c) (a1 m c) :=
  (θ_run (defs (F := Ideal)) _ _).mono (fun r h c => ⟨(h.1 c).1, (h.1 c).2, result_of m h.2 c⟩) (θ_run_and (unchanged m g) (run_main m g))

end Cert.FinalIdeal.Run

end
-- ==== Proof.FinalPost.lean ====
/- What the second call's claim says, number by number. -/
module

public import proofs.«01_k».proof.Proof.FinalFacts
public import proofs.«01_k».proof.Proof.Choice
public import Idealize.ShloMosaic.Lib.SortFacts

@[expose] public section

set_option maxRecDepth 16384

noncomputable section

namespace Cert.FinalPost

open Cert.Post_close_to_loss Cert.Post_close_to_loss.Facts
open Idealize.ShloMosaic Idealize.ShloMosaic.TcCoe Idealize.SL.Sem

variable (x : FVec Ideal S32x8x8732 .f32) (s : FVec Ideal S1x1 .f32) (out : FVec Ideal S1x1 .f32) (b : Fin 32) (p : Fin 8732)

/-- The losses of the priors without a mark. -/
def rest : FVec Ideal S32x8732 .f32 :=
  have main_v0 : FVec Ideal S32x1x8732 .f32 := (extractStridedSlice S32x1x8732 ![0, 0, 0] · slices_S32x8x8732_S32x1x8732_0_0_0) x
  have main_v1 : FVec Ideal S32x8732 .f32 := shapeCast S32x8732 main_v0 shapeCasts_S32x1x8732_S32x8732
  have main_v2 : FVec Ideal S32x1x8732 .f32 := (extractStridedSlice S32x1x8732 ![0, 1, 0] · slices_S32x8x8732_S32x1x8732_0_1_0) x
  have main_v3 : FVec Ideal S32x8732 .f32 := shapeCast S32x8732 main_v2 shapeCasts_S32x1x8732_S32x8732
  have main_cst : FVec Ideal S_ .f32 := constant S_ .f32 0x00000000#32
  have main_v4 : FVec Ideal S32x8732 .f32 := broadcastInDim S32x8732 ![] bcast_S_S32x8732 main_cst
  have main_v5 : IVec S32x8732 1 := cmpf .une main_v3 main_v4
  have main_cst_5 : FVec Ideal S_ .f32 := constant S_ .f32 0x00000000#32
  fn_where (F := Ideal) main_v5 main_cst_5 main_v1

theorem rest_eq : rest x = fn_where (F := Ideal)
    (cmpf .une (shapeCast S32x8732 (extractStridedSlice S32x1x8732 ![0, 1, 0] x slices_S32x8x8732_S32x1x8732_0_1_0) shapeCasts_S32x1x8732_S32x8732)
      (broadcastInDim S32x8732 ![] bcast_S_S32x8732 (constant (F := Ideal) S_ .f32 0x00000000#32)))
    (constant S_ .f32 0x00000000#32)
    (shapeCast S32x8732 (extractStridedSlice S32x1x8732 ![0, 0, 0] x slices_S32x8x8732_S32x1x8732_0_0_0) shapeCasts_S32x1x8732_S32x8732) := by
  delta rest
  dsimp only

theorem rest_at : rest x (ix2 b p) = if x (ix3 b 1 p) ≠ 0 then 0 else x (ix3 b 0 p) := by
  rw [rest_eq]
  delta fn_where
  dsimp only [id]
  pointwise

/-! ## The sort -/

theorem cmp_at (l r : Ideal .f32) : comparator_f32_d1 (F := Ideal) l r = BitVec.ofBool (decide ((l : EReal) < r)) := by
  unfold comparator_f32_d1
  dsimp only
  pointwise
  rw [Ideal.cmpfTotal_def]
  have e (a : EReal) : (if a ≠ a then Ideal.ofBits FTy.f32 2143289344#32 else if a = 0 then 0 else a) = a := by
    rw [if_neg (by simp)]
    split
    · rename_i h; exact h.symm
    · rfl
  rw [e l, e r]
  rfl

/-- Where each number of a sorted row comes from. -/
def order (y : FVec Ideal S32x8732 .f32) (b : Fin 32) : Fin 8732 → Fin 8732 :=
  sortedFrom fun k k' => decide ((y (ix2 b k) : EReal) < y (ix2 b k'))

theorem order_bijective (y : FVec Ideal S32x8732 .f32) : Function.Bijective (order y b) :=
  ⟨sortedFrom_injective _, sortedFrom_surjective _⟩

theorem order_le (y : FVec Ideal S32x8732 .f32) (i j : Fin 8732) (h : i < j) :
    (y (ix2 b (order y b i)) : EReal) ≤ y (ix2 b (order y b j)) := by
  have e := sortedFrom_noInversion (fun k k' => decide ((y (ix2 b k) : EReal) < y (ix2 b k'))) (fun k k' => decide ((y (ix2 b k) : EReal) < y (ix2 b k')))
    (fun k k' h => by simp only [decide_eq_true_eq, decide_eq_false_iff_not, not_lt] at h ⊢; exact h.le)
    (fun _ _ h => h)
    (fun k k' k'' h h' => by simp only [decide_eq_false_iff_not, not_lt] at h h' ⊢; exact h'.trans h) i j h
  simpa [order] using e

theorem along_at (i : Fin 8732) (k : Fin 8732) : (ix2 b i : S32x8732.Idx).along 1 k = ix2 b k := by
  funext a
  match a with
  | ⟨0, _⟩ => rfl
  | ⟨1, _⟩ => rfl

theorem sort_at (y : FVec Ideal S32x8732 .f32) : fn_sort y (ix2 b p) = y (ix2 b (order y b p)) := by
  obtain ⟨al, h, e⟩ : ∃ al : Fin 8732 → S32x8732.Idx, (al = fun k => ix2 b k) ∧ fn_sort y (ix2 b p)
      = y (al (sortedFrom (fun k k' : Fin 8732 => comparator_f32_d1 (F := Ideal) (y (al k)) (y (al k')) == 1#1) p)) :=
    ⟨fun k => (ix2 b p : S32x8732.Idx).along 1 k, funext fun k => along_at b p k, rfl⟩
  have c (P : Prop) [Decidable P] : (BitVec.ofBool (decide P) == 1#1) = decide P := by
    by_cases h : P <;> simp [h]
  rw [e, h]
  simp only [cmp_at, c]
  rfl

/-! ## The claim -/

theorem flag (P : Prop) [Decidable P] : (FloatOps.uitofp .f32 (BitVec.ofBool (decide P)) : Ideal .f32) = if P then (1 : EReal) else 0 := by
  have e (w : BitVec 1) : (FloatOps.uitofp .f32 w : Ideal .f32) = ((w.toNat : ℝ) : EReal) := rfl
  rw [e]
  by_cases h : P <;> simp [h]

theorem rank : (FloatOps.sitofp .f32 (BitVec.ofNat 32 p.val) : Ideal .f32) = ((p.val : ℝ) : EReal) := by
  have e (w : BitVec 32) : (FloatOps.sitofp .f32 w : Ideal .f32) = ((w.toInt : ℝ) : EReal) := rfl
  rw [e, Spec.toInt_ofNat_small p.val (by omega)]
  simp

/-- The marks of one image, and of all. -/
def marks (b : Fin 32) : EReal := ∑ p : Fin 8732, x (ix3 b 1 p)
def allMarks : EReal := ∑ b : Fin 32, marks x b

/-- The losses of the marked priors. -/
def marked : EReal := ∑ b : Fin 32, ∑ p : Fin 8732, x (ix3 b 0 p) * x (ix3 b 1 p)

/-- One image's losses in falling order, the first of them added: three for each mark. -/
def hard (b : Fin 32) : EReal :=
  ∑ p : Fin 8732, -(fn_sort (Host.negf (rest x)) (ix2 b p)) * if ((p.val : ℝ) : EReal) < Ideal.ofBits .f32 0x40400000#32 * marks x b then 1 else 0

/-- The whole loss from one number for the unmarked priors. -/
def lossOf (h : EReal) : EReal :=
  Ideal.div (h + marked x) (allMarks x) + Ideal.div (s (ix2 0 0)) (Ideal.ofBits .f32 0x40800000#32 * allMarks x)

/-- The largest loss of an unmarked prior. -/
def largest : EReal := Finset.fold max (Ideal.ofBits .f32 0xFF800000#32) (fun k : Fin 32 × Fin 8732 => rest x (ix2 k.1 k.2)) Finset.univ

/-- The loss, as the claim's text computes it. -/
def lossV : FVec Ideal S_ .f32 :=
  have main_v0 : FVec Ideal S32x1x8732 .f32 := (extractStridedSlice S32x1x8732 ![0, 0, 0] · slices_S32x8x8732_S32x1x8732_0_0_0) x
  have main_v1 : FVec Ideal S32x8732 .f32 := shapeCast S32x8732 main_v0 shapeCasts_S32x1x8732_S32x8732
  have main_v2 : FVec Ideal S32x1x8732 .f32 := (extractStridedSlice S32x1x8732 ![0, 1, 0] · slices_S32x8x8732_S32x1x8732_0_1_0) x
  have main_v3 : FVec Ideal S32x8732 .f32 := shapeCast S32x8732 main_v2 shapeCasts_S32x1x8732_S32x8732
  have main_cst : FVec Ideal S_ .f32 := constant S_ .f32 0x00000000#32
  have main_v4 : FVec Ideal S32x8732 .f32 := broadcastInDim S32x8732 ![] bcast_S_S32x8732 main_cst
  have main_v5 : IVec S32x8732 1 := cmpf .une main_v3 main_v4
  have main_v6 : FVec Ideal S_ .f32 := shapeCast S_ s shapeCasts_S1x1_S_
  have main_cst_0 : FVec Ideal S_ .f32 := constant S_ .f32 0x00000000#32
  have main_v7 : FVec Ideal S_ .f32 := (fun x v => Host.reduceAdd x v reducesTo_S32x8732_S_d0_1 h_S_) main_v3 main_cst_0
  have main_cst_1 : FVec Ideal S_ .f32 := constant S_ .f32 0x40800000#32
  have main_v8 : FVec Ideal S_ .f32 := mulf main_cst_1 main_v7
  have main_v9 : FVec Ideal S_ .f32 := Host.divf main_v6 main_v8
  have main_cst_2 : FVec Ideal S_ .f32 := constant S_ .f32 0x00000000#32
  have main_v10 : FVec Ideal S32 .f32 := (fun x v => Host.reduceAdd x v reducesTo_S32x8732_S32_d1 h_S_) main_v3 main_cst_2
  have main_cst_3 : FVec Ideal S_ .f32 := constant S_ .f32 0x40400000#32
  have main_v11 : FVec Ideal S32 .f32 := broadcastInDim S32 ![] bcast_S_S32 main_cst_3
  have main_v12 : FVec Ideal S32 .f32 := mulf main_v11 main_v10
  have main_v13 : FVec Ideal S32x8732 .f32 := mulf main_v1 main_v3
  have main_cst_4 : FVec Ideal S_ .f32 := constant S_ .f32 0x00000000#32
  have main_v14 : FVec Ideal S_ .f32 := (fun x v => Host.reduceAdd x v reducesTo_S32x8732_S_d0_1 h_S_) main_v13 main_cst_4
  have main_cst_5 : FVec Ideal S_ .f32 := constant S_ .f32 0x00000000#32
  have main_v15 : FVec Ideal S32x8732 .f32 := fn_where (F := Ideal) main_v5 main_cst_5 main_v1
  have main_v16 : FVec Ideal S32x8732 .f32 := Host.negf main_v15
  have main_v17 : FVec Ideal S32x8732 .f32 := fn_sort (F := Ideal) main_v16
  have main_v18 : FVec Ideal S32x8732 .f32 := Host.negf main_v17
  have main_v19 : FVec Ideal S8732 .f32 := sitofp .f32 (iotaInDim S8732 32 0)
  have main_v20 : FVec Ideal S1x8732 .f32 := broadcastInDim S1x8732 ![1] bcast_S8732_S1x8732_1 main_v19
  have main_v21 : FVec Ideal S32x1 .f32 := broadcastInDim S32x1 ![0] bcast_S32_S32x1_0 main_v12
  have main_v22 : FVec Ideal S32x8732 .f32 := broadcastInDim S32x8732 ![0, 1] bcast_S1x8732_S32x8732_0_1 main_v20
  have main_v23 : FVec Ideal S32x8732 .f32 := broadcastInDim S32x8732 ![0, 1] bcast_S32x1_S32x8732_0_1 main_v21
  have main_v24 : IVec S32x8732 1 := cmpf .olt main_v22 main_v23
  have main_v25 : FVec Ideal S32x8732 .f32 := uitofp .f32 main_v24
  have main_v26 : FVec Ideal S32x8732 .f32 := mulf main_v18 main_v25
  have main_cst_6 : FVec Ideal S_ .f32 := constant S_ .f32 0x00000000#32
  have main_v27 : FVec Ideal S_ .f32 := (fun x v => Host.reduceAdd x v reducesTo_S32x8732_S_d0_1 h_S_) main_v26 main_cst_6
  have main_v28 : FVec Ideal S_ .f32 := addf main_v27 main_v14
  have main_cst_7 : FVec Ideal S_ .f32 := constant S_ .f32 0x00000000#32
  have main_v29 : FVec Ideal S_ .f32 := (fun x v => Host.reduceAdd x v reducesTo_S32_S_d0 h_S_) main_v10 main_cst_7
  have main_v30 : FVec Ideal S_ .f32 := Host.divf main_v28 main_v29
  addf main_v30 main_v9

theorem fn_eq : fn (F := Ideal) x s out = (cmpf .ole (broadcastInDim S1x1 ![] bcast_S_S1x1 (lossV x s)) out,
    cmpf .ole out (broadcastInDim S1x1 ![] bcast_S_S1x1 (addf (lossV x s) (mulf (Host.reduce FloatOps.maximumf (rest x) (constant (F := Ideal) S_ .f32 0xFF800000#32) reducesTo_S32x8732_S_d0_1 h_S_) (constant (F := Ideal) S_ .f32 0x32000000#32))))) := by
  rw [rest_eq]
  delta fn fn_part1 fn_part2 lossV
  dsimp only

theorem lossV_at : lossV x s ix0 = lossOf x s (∑ b, hard x b) := by
  simp only [lossOf, hard, marks, allMarks, marked, rest_eq]
  pointwise [lossV]
  simp only [flag, rank]
  rfl

theorem slack_at : Host.reduce FloatOps.maximumf (rest x) (constant (F := Ideal) S_ .f32 0xFF800000#32) reducesTo_S32x8732_S_d0_1 h_S_ ix0 = largest x := by
  unfold largest
  pointwise

theorem le_at (u w : FVec Ideal S1x1 .f32) (h : ∀ i, (u i : EReal) ≤ w i) : cmpf .ole u w = fun _ => 1#1 := by
  funext i
  show (FloatOps.cmpf .ole (u i) (w i) : BitVec 1) = 1#1
  rw [Ideal.cmpf_def]
  simp [Ideal.cmp, h i]

/-- What is to be shown of the result. -/
theorem close (h1 : lossOf x s (∑ b, hard x b) ≤ out (ix2 0 0))
    (h2 : out (ix2 0 0) ≤ lossOf x s (∑ b, hard x b) + largest x * Ideal.ofBits .f32 0x32000000#32) :
    (fn (F := Ideal) x s out).1 = (fun _ => 1#1) ∧ (fn (F := Ideal) x s out).2 = fun _ => 1#1 := by
  rw [fn_eq]
  have one (i : S1x1.Idx) : i = ix2 0 0 := by
    obtain ⟨a, c, rfl⟩ : ∃ (a : Fin 1) (c : Fin 1), i = ix2 a c := ⟨i 0, i 1, eq_ix2 i⟩
    rw [Subsingleton.elim a 0, Subsingleton.elim c 0]
  have e0 (v : FVec Ideal S_ .f32) (i : S1x1.Idx) : broadcastInDim S1x1 ![] bcast_S_S1x1 v i = v ix0 := by
    rw [one i]
    pointwise
  refine ⟨le_at _ _ fun i => ?_, le_at _ _ fun i => ?_⟩
  · rw [e0, lossV_at, one i]; exact h1
  · have e1 (u w z : FVec Ideal S_ .f32) : addf u (mulf w z) ix0 = (u ix0 + w ix0 * z ix0 : EReal) := rfl
    rw [e0, e1, lossV_at, slack_at, one i]; exact h2

end Cert.FinalPost

end
-- ==== Proof.FinalDomain.lean ====
/- What the condition on the second call's arguments says of each number. -/
module

public import proofs.«01_k».proof.Proof.FinalFacts
public import proofs.«01_k».proof.Proof.Choice

@[expose] public section

set_option maxRecDepth 16384

noncomputable section

namespace Cert.FinalDomain

open Cert.Pre_marks_and_losses Cert.Pre_marks_and_losses.Facts
open Idealize.ShloMosaic Idealize.ShloMosaic.TcCoe Idealize.SL.Sem

variable (x : FVec Ideal S32x8x8732 .f32) (s : FVec Ideal S1x1 .f32) (b : Fin 32) (p : Fin 8732)

theorem bit (P : Prop) [Decidable P] : BitVec.ofBool (decide P) = 1#1 ↔ P := by
  by_cases h : P <;> simp [h]

theorem ori_iff (a b : BitVec 1) : IntOp.ori a b = 1#1 ↔ a = 1#1 ∨ b = 1#1 := by
  have : ∀ a b : BitVec 1, IntOp.ori a b = 1#1 ↔ a = 1#1 ∨ b = 1#1 := by decide
  exact this a b

/-- Every mark is 0 or 1. -/
theorem mark (h : (fn (F := Ideal) x s).1 = fun _ => 1#1) : x (ix3 b 1 p) = (0 : EReal) ∨ x (ix3 b 1 p) = (1 : EReal) := by
  have c : (fn (F := Ideal) x s).1 (ix2 b p)
      = IntOp.ori (BitVec.ofBool (decide (x (ix3 b 1 p) = (0 : EReal)))) (BitVec.ofBool (decide (x (ix3 b 1 p) = (1 : EReal)))) := by
    pointwise [fn]
  have e := c.symm.trans (congrFun h (ix2 b p))
  rwa [ori_iff, bit, bit] at e

/-- The loss of a prior without a mark is not negative. -/
theorem loss (h : (fn (F := Ideal) x s).2.1 = fun _ => 1#1) : x (ix3 b 1 p) ≠ (0 : EReal) ∨ 0 ≤ (x (ix3 b 0 p) : EReal) := by
  have c : (fn (F := Ideal) x s).2.1 (ix2 b p)
      = IntOp.ori (BitVec.ofBool (decide (x (ix3 b 1 p) ≠ (0 : EReal)))) (BitVec.ofBool (decide (0 ≤ (x (ix3 b 0 p) : EReal)))) := by
    pointwise [fn]
  have e := c.symm.trans (congrFun h (ix2 b p))
  rwa [ori_iff, bit, bit] at e

/-- There is a mark. -/
theorem some_mark (h : (fn (F := Ideal) x s).2.2 = fun _ => 1#1) : (0 : EReal) < ∑ b : Fin 32, ∑ p : Fin 8732, x (ix3 b 1 p) := by
  have c : (fn (F := Ideal) x s).2.2 ix0 = BitVec.ofBool (decide ((0 : EReal) < ∑ b : Fin 32, ∑ p : Fin 8732, x (ix3 b 1 p))) := by
    pointwise [fn]
  have e := c.symm.trans (congrFun h ix0)
  rwa [bit] at e

end Cert.FinalDomain

end
-- ==== Proof.Halving.lean ====
/- The sum of the `k` largest of a row of numbers, and the sum which a threshold found by halving gives: the second is never below the
   first, and above it by no more than the row's length times the last interval's length. -/
module

public import Idealize.ShloMosaic.Lib.Pointwise

@[expose] public section

noncomputable section

namespace Cert.Halving

variable {n : ℕ} (v : Fin n → ℝ) (k : ℝ)

/-- How many numbers lie above `t`. -/
def above (t : ℝ) : ℝ := ∑ p, if t < v p then 1 else 0

/-- One halving: the lower end moves up to the middle where at least `k` numbers lie above it, else the upper end moves down. -/
def step (s : ℝ × ℝ) : ℝ × ℝ :=
  if k ≤ above v ((s.1 + s.2) * (1 / 2)) then ((s.1 + s.2) * (1 / 2), s.2) else (s.1, (s.1 + s.2) * (1 / 2))

/-- The numbers above `t`, and `t` for each that is missing of `k`. -/
def sumAt (t : ℝ) : ℝ := (∑ p, v p * if t < v p then 1 else 0) + (k - above v t) * t

/-- The first `k` numbers of a row. -/
def firstSum (w : Fin n → ℝ) : ℝ := ∑ j, w j * if (j.val : ℝ) < k then 1 else 0

/-- What holds of the interval after every halving. -/
structure Ends (len : ℝ) (s : ℝ × ℝ) : Prop where
  len_eq : s.2 - s.1 = len
  len_nonneg : 0 ≤ len
  low : s.1 = 0 ∨ k ≤ above v s.1
  high : (∀ p, v p ≤ s.2) ∨ above v s.2 < k

theorem Ends.next {len : ℝ} {s : ℝ × ℝ} (h : Ends v k len s) : Ends v k (len / 2) (step v k s) := by
  have e := h.len_eq
  have z := h.len_nonneg
  unfold step
  split
  · rename_i hk
    exact ⟨by simp only; linarith, by linarith, Or.inr hk, h.high⟩
  · rename_i hk
    exact ⟨by simp only; linarith, by linarith, h.low, Or.inr (not_le.1 hk)⟩

theorem Ends.iterate {len : ℝ} {s : ℝ × ℝ} (h : Ends v k len s) (j : ℕ) : Ends v k (len / 2 ^ j) ((step v k)^[j] s) := by
  induction j with
  | zero => simpa using h
  | succ j ih =>
    rw [Function.iterate_succ_apply', pow_succ, ← div_div]
    exact ih.next

theorem count_lt (j : Fin n) : (∑ i : Fin n, if i < j then (1 : ℝ) else 0) = j.val := by
  rw [Finset.sum_boole, show (Finset.univ.filter fun i : Fin n => i < j) = Finset.Iio j by ext i; simp, Fin.card_Iio]

theorem count_le (j : Fin n) : (∑ i : Fin n, if i ≤ j then (1 : ℝ) else 0) = j.val + 1 := by
  rw [Finset.sum_boole, show (Finset.univ.filter fun i : Fin n => i ≤ j) = Finset.Iic j by ext i; simp, Fin.card_Iic]
  push_cast; rfl

theorem count_first (K : ℕ) (hK : K ≤ n) : (∑ j : Fin n, if (j.val : ℝ) < (K : ℝ) then (1 : ℝ) else 0) = K := by
  rw [Fin.sum_univ_eq_sum_range (fun i => if (i : ℝ) < (K : ℝ) then (1 : ℝ) else 0) n, Finset.sum_boole,
    show ((Finset.range n).filter fun i : ℕ => (i : ℝ) < (K : ℝ)) = Finset.range K by
      ext i; simp only [Finset.mem_filter, Finset.mem_range, Nat.cast_lt]; omega, Finset.card_range]

variable {v k} {σ : Fin n → Fin n} (hσ : Function.Bijective σ) (hs : ∀ i j, i < j → v (σ j) ≤ v (σ i))

include hσ in
theorem above_eq (t : ℝ) : above v t = ∑ j, if t < v (σ j) then 1 else 0 :=
  ((Equiv.ofBijective σ hσ).sum_comp fun p => if t < v p then (1 : ℝ) else 0).symm

include hs in
theorem anti {i j : Fin n} (h : i ≤ j) : v (σ j) ≤ v (σ i) := by
  rcases h.lt_or_eq with h | rfl
  · exact hs i j h
  · exact le_rfl

include hσ hs in
/-- The first `k` are not below the lower end. -/
theorem first_ge {len : ℝ} {s : ℝ × ℝ} (h : Ends v k len s) (hv : ∀ p, 0 ≤ v p) {j : Fin n} (hj : (j.val : ℝ) < k) : s.1 ≤ v (σ j) := by
  rcases h.low with h0 | h1
  · rw [h0]; exact hv _
  · by_contra hn
    have : above v s.1 ≤ j.val := by
      rw [above_eq hσ, ← count_lt j]
      refine Finset.sum_le_sum fun i _ => ?_
      by_cases hi : i < j
      · rw [if_pos hi]; split <;> norm_num
      · rw [if_neg hi, if_neg]
        exact not_lt.2 ((anti hs (not_lt.1 hi)).trans (not_le.1 hn).le)
    linarith

include hσ hs in
/-- The others are not above the upper end. -/
theorem rest_le {len : ℝ} {s : ℝ × ℝ} (h : Ends v k len s) {j : Fin n} (hj : ¬ (j.val : ℝ) < k) : v (σ j) ≤ s.2 := by
  rcases h.high with h0 | h1
  · exact h0 _
  · by_contra hn
    have : (j.val : ℝ) + 1 ≤ above v s.2 := by
      rw [above_eq hσ, ← count_le j]
      refine Finset.sum_le_sum fun i _ => ?_
      by_cases hi : i ≤ j
      · rw [if_pos hi, if_pos]
        exact (not_le.1 hn).trans_le (anti hs hi)
      · rw [if_neg hi]; split <;> norm_num
    linarith [not_lt.1 hj]

include hσ in
theorem above_le (t : ℝ) : above v t ≤ n := by
  have : above v t ≤ ∑ _p : Fin n, (1 : ℝ) := Finset.sum_le_sum fun i _ => by split <;> norm_num
  simpa using this

include hσ hs in
/-- The difference of the two sums, number by number. -/
theorem diff_eq {len : ℝ} {s : ℝ × ℝ} (h : Ends v k len s) {K : ℕ} (hK : k = K) :
    sumAt v k s.1 - firstSum k (fun j => v (σ j))
      = ∑ j, ((v (σ j) - s.1) * (if s.1 < v (σ j) then 1 else 0) - (v (σ j) - s.1) * (if (j.val : ℝ) < k then 1 else 0)) := by
  have kt : k * s.1 = ∑ j : Fin n, s.1 * (if (j.val : ℝ) < k then 1 else 0) := by
    rcases h.low with h0 | h1
    · rw [h0]; simp
    · have hn : K ≤ n := by
        have : (K : ℝ) ≤ n := hK ▸ h1.trans (above_le hσ s.1)
        exact_mod_cast this
      rw [← Finset.mul_sum, hK, count_first K hn, mul_comm]
  have e1 : (∑ p, v p * if s.1 < v p then 1 else 0) = ∑ j, v (σ j) * if s.1 < v (σ j) then 1 else 0 :=
    ((Equiv.ofBijective σ hσ).sum_comp fun p => v p * if s.1 < v p then (1 : ℝ) else 0).symm
  unfold sumAt firstSum
  rw [e1, sub_mul, kt, above_eq hσ, Finset.sum_mul]
  simp only [sub_mul, Finset.sum_sub_distrib, mul_comm s.1]
  ring

include hσ hs in
theorem term_bounds {len : ℝ} {s : ℝ × ℝ} (h : Ends v k len s) (hv : ∀ p, 0 ≤ v p) (j : Fin n) :
    0 ≤ (v (σ j) - s.1) * (if s.1 < v (σ j) then 1 else 0) - (v (σ j) - s.1) * (if (j.val : ℝ) < k then 1 else 0)
      ∧ (v (σ j) - s.1) * (if s.1 < v (σ j) then 1 else 0) - (v (σ j) - s.1) * (if (j.val : ℝ) < k then 1 else 0) ≤ len := by
  have e := h.len_eq
  have z := h.len_nonneg
  by_cases hj : (j.val : ℝ) < k
  · have := first_ge hσ hs h hv hj
    rw [if_pos hj]
    split
    · constructor <;> linarith
    · constructor <;> linarith
  · have := rest_le hσ hs h hj
    rw [if_neg hj]
    split
    · constructor <;> linarith
    · constructor <;> linarith

include hσ hs in
theorem sum_bounds {len : ℝ} {s : ℝ × ℝ} (h : Ends v k len s) {K : ℕ} (hK : k = K) (hv : ∀ p, 0 ≤ v p) :
    firstSum k (fun j => v (σ j)) ≤ sumAt v k s.1 ∧ sumAt v k s.1 ≤ firstSum k (fun j => v (σ j)) + n * len := by
  have d := diff_eq hσ hs h hK
  have lo := Finset.sum_nonneg fun j (_ : j ∈ Finset.univ) => (term_bounds hσ hs h hv j).1
  have hi := Finset.sum_le_sum fun j (_ : j ∈ Finset.univ) => (term_bounds hσ hs h hv j).2
  simp only [Finset.sum_const, Finset.card_univ, Fintype.card_fin, nsmul_eq_mul] at hi
  constructor <;> linarith

end Cert.Halving

end
-- ==== Proof.FinalMath.lean ====
/- The second call's result against the loss by sorting: not below it, and above it by little. -/
module

public import proofs.«01_k».proof.Proof.FinalRun
public import proofs.«01_k».proof.Proof.FinalPost
public import proofs.«01_k».proof.Proof.FinalDomain
public import proofs.«01_k».proof.Proof.Halving

@[expose] public section

set_option maxRecDepth 16384

noncomputable section

namespace Cert.FinalMath

open Cert.FinalIdeal Cert.FinalIdeal.Gen Cert.FinalIdeal.Pay Cert.FinalIdeal.Run
open Cert.FinalPost (rest marks allMarks marked hard lossOf largest order)
open Idealize.ShloMosaic Idealize.ShloMosaic.TcCoe Idealize.SL.Sem

theorem half_eq : Ideal.ofBits .f32 0x3F000000#32 = ((1 / 2 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

theorem small_eq : Ideal.ofBits .f32 0x32000000#32 = ((1 / 2 ^ 27 : ℝ) : EReal) := by
  simp [Ideal.ofBits, Ideal.ieee, -EReal.coe_mul]; norm_num

theorem coe_sum {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

theorem select_if (P : Prop) [Decidable P] {α : Type} (a b : α) : Scalar.select (BitVec.ofBool (decide P)) a b = if P then a else b := by
  by_cases h : P <;> simp [h, Scalar.select]

/-- What the condition says of the first argument. -/
structure Good (x : FVec Ideal S32x8x8732 .f32) : Prop where
  mark : ∀ (b : Fin 32) (p : Fin 8732), x (ix3 b 1 p) = (0 : EReal) ∨ x (ix3 b 1 p) = (1 : EReal)
  loss : ∀ (b : Fin 32) (p : Fin 8732), x (ix3 b 1 p) ≠ (0 : EReal) ∨ 0 ≤ (x (ix3 b 0 p) : EReal)
  some_mark : (0 : EReal) < allMarks x

variable {x : FVec Ideal S32x8x8732 .f32} (h : Good x) (s : FVec Ideal S1x1 .f32) (b : Fin 32) (p : Fin 8732)

variable (x) in
/-- The loss of a prior without a mark as a real number, and 0 at a mark. -/
def val (b : Fin 32) (p : Fin 8732) : ℝ := (rest x (ix2 b p) : EReal).toReal

include h in
theorem rest_nonneg : 0 ≤ (rest x (ix2 b p) : EReal) := by
  rw [FinalPost.rest_at]
  rcases h.loss b p with e | e
  · rw [if_pos e]
  · split
    · exact le_rfl
    · exact e

variable (x) in
/-- The losses of one image are numbers, and not negative. -/
def Row (b : Fin 32) : Prop := ∀ p : Fin 8732, 0 ≤ (rest x (ix2 b p) : EReal) ∧ (rest x (ix2 b p) : EReal) < ⊤

variable {b} (hr : Row x b)

include hr in
theorem rest_eq : (rest x (ix2 b p) : EReal) = ((val x b p : ℝ) : EReal) :=
  (EReal.coe_toReal (hr p).2.ne (ne_of_gt (lt_of_lt_of_le EReal.bot_lt_zero (hr p).1))).symm

include hr in
theorem val_nonneg : 0 ≤ val x b p := by
  have e := (hr p).1
  rw [rest_eq p hr] at e
  exact_mod_cast e

theorem pay7_rest : (k0_pay7 (F := Ideal) (row 0 x) (row 1 x) (ix2 b p) : EReal) = rest x (ix2 b p) := by
  rw [FinalPost.rest_at, pay7_at, row_at, row_at]

include hr in
theorem pay7_eq : (k0_pay7 (F := Ideal) (row 0 x) (row 1 x) (ix2 b p) : EReal) = ((val x b p : ℝ) : EReal) :=
  (pay7_rest p).trans (rest_eq p hr)

/-! ## The marks -/

variable (b)

variable (x) in
/-- How many marks an image has. -/
def count (b : Fin 32) : ℕ := by
  classical
  exact ∑ p : Fin 8732, if (x (ix3 b 1 p) : EReal) = 0 then 0 else 1

variable (x) in
/-- Three for each mark. -/
def want (b : Fin 32) : ℝ := ((3 * count x b : ℕ) : ℝ)

include h in
theorem marks_eq : marks x b = (((count x b : ℕ) : ℝ) : EReal) := by
  classical
  unfold marks count
  rw [Nat.cast_sum, ← coe_sum]
  refine Finset.sum_congr rfl fun p _ => ?_
  rcases h.mark b p with e | e
  · rw [e]; simp
  · rw [e]; simp

include h in
theorem want_eq : Ideal.ofBits .f32 0x40400000#32 * marks x b = ((want x b : ℝ) : EReal) := by
  rw [three_eq, marks_eq h, ← EReal.coe_mul]
  unfold want
  push_cast
  rfl

include h in
theorem all_eq : allMarks x = (((∑ b, count x b : ℕ) : ℝ) : EReal) := by
  unfold allMarks
  rw [Nat.cast_sum, ← coe_sum]
  exact Finset.sum_congr rfl fun b _ => marks_eq h b

include h in
theorem one_le : (1 : ℝ) ≤ ((∑ b, count x b : ℕ) : ℝ) := by
  have e := h.some_mark
  rw [all_eq h] at e
  have e' : (0 : ℝ) < ((∑ b, count x b : ℕ) : ℝ) := by exact_mod_cast e
  have e'' : 0 < ∑ b, count x b := by exact_mod_cast e'
  exact_mod_cast e''

include h in
theorem pay5_eq : (k0_pay5 (F := Ideal) (row 1 x) (ix2 b 0) : EReal) = ((want x b : ℝ) : EReal) := by
  rw [← want_eq h, pay5_at]
  rfl

/-! ## The loop -/

variable {b}

theorem above_eq (t : ℝ) (f : Fin 8732 → EReal) (hf : ∀ p, f p = ((val x b p : ℝ) : EReal)) :
    (∑ p : Fin 8732, if ((t : ℝ) : EReal) < f p then (1 : EReal) else 0) = ((Halving.above (val x b) t : ℝ) : EReal) := by
  unfold Halving.above
  rw [← coe_sum]
  refine Finset.sum_congr rfl fun p _ => ?_
  rw [hf p]
  by_cases e : t < val x b p
  · rw [if_pos e, if_pos (EReal.coe_lt_coe_iff.2 e)]; rfl
  · rw [if_neg e, if_neg (fun e' => e (EReal.coe_lt_coe_iff.1 e'))]; rfl

/-- A pair of ends holds one image's interval. -/
def Has (st : FVec Ideal S32x1 .f32 × FVec Ideal S32x1 .f32) (b : Fin 32) (t : ℝ × ℝ) : Prop :=
  (st.1 (ix2 b 0) : EReal) = ((t.1 : ℝ) : EReal) ∧ (st.2 (ix2 b 0) : EReal) = ((t.2 : ℝ) : EReal)

include h hr in
theorem trip_has {st : FVec Ideal S32x1 .f32 × FVec Ideal S32x1 .f32} {t : ℝ × ℝ} (e : Has st b t) :
    Has (trip (row 0 x) (row 1 x) st) b (Halving.step (val x b) (want x b) t) := by
  obtain ⟨e1, e2⟩ := e
  have mid : (k0_pay10 (F := Ideal) st.1 st.2 (ix2 b 0) : EReal) = (((t.1 + t.2) * (1 / 2) : ℝ) : EReal) := by
    rw [pay10_at, e1, e2, half_eq, EReal.coe_mul, EReal.coe_add]
  unfold trip Has
  simp only [pay12_at, pay13_at]
  rw [pay11_at, mid, pay5_eq h, above_eq _ _ fun p => pay7_eq p hr, select_if, select_if, e1, e2]
  unfold Halving.step
  by_cases k : want x b ≤ Halving.above (val x b) ((t.1 + t.2) * (1 / 2))
  · rw [if_pos k, if_pos (EReal.coe_le_coe_iff.2 k), if_pos (EReal.coe_le_coe_iff.2 k)]; exact ⟨rfl, rfl⟩
  · rw [if_neg k, if_neg (fun k' => k (EReal.coe_le_coe_iff.1 k')), if_neg (fun k' => k (EReal.coe_le_coe_iff.1 k'))]; exact ⟨rfl, rfl⟩

variable (x) in
/-- The largest number of one image. -/
def top (b : Fin 32) : ℝ := val x b (Spec.first fun p : Fin 8732 => (rest x (ix2 b p) : EReal))

include hr in
theorem val_le_top : val x b p ≤ top x b := by
  have e := (Spec.first_spec fun p : Fin 8732 => (rest x (ix2 b p) : EReal)).1 p
  beta_reduce at e
  rw [rest_eq _ hr, rest_eq _ hr] at e
  exact_mod_cast e

include hr in
theorem start_has : Has (k0_pay9 (F := Ideal), k0_pay8 (F := Ideal) (row 0 x) (row 1 x)) b (0, top x b) := by
  have e : (fun p : Fin 8732 => (k0_pay7 (F := Ideal) (row 0 x) (row 1 x) (ix2 b p) : EReal)) = fun p => rest x (ix2 b p) :=
    funext fun p => pay7_rest p
  have f : (k0_pay8 (F := Ideal) (row 0 x) (row 1 x) (ix2 b 0) : EReal) = ((top x b : ℝ) : EReal) := by
    rw [pay8_at, e, Spec.fold_max_eq]
    exact rest_eq _ hr
  unfold Has
  dsimp only
  rw [f, pay9_at, EReal.coe_zero]
  exact ⟨rfl, rfl⟩

variable (x) in
/-- One image's interval after all trips. -/
def last (b : Fin 32) : ℝ × ℝ := (Halving.step (val x b) (want x b))^[46] (0, top x b)

include h hr in
theorem ends_has : Has (ends (row 0 x) (row 1 x)) b (last x b) := by
  have e : ∀ j : ℕ, Has ((trip (row 0 x) (row 1 x))^[j] (k0_pay9 (F := Ideal), k0_pay8 (F := Ideal) (row 0 x) (row 1 x))) b
      ((Halving.step (val x b) (want x b))^[j] (0, top x b)) := by
    intro j
    induction j with
    | zero => exact start_has hr
    | succ j ih => rw [Function.iterate_succ_apply', Function.iterate_succ_apply']; exact trip_has h hr ih
  exact e 46

include hr in
theorem last_ends : Halving.Ends (val x b) (want x b) (top x b / 2 ^ 46) (last x b) := by
  have e : Halving.Ends (val x b) (want x b) (top x b) (0, top x b) :=
    ⟨by simp, val_nonneg _ hr, Or.inl rfl, Or.inl fun p => val_le_top p hr⟩
  exact Halving.Ends.iterate _ _ e 46

/-! ## The two sums of hard losses -/

variable (x) in
/-- What the kernel adds for one image. -/
def kern (b : Fin 32) : EReal :=
  (∑ p : Fin 8732, k0_pay7 (F := Ideal) (row 0 x) (row 1 x) (ix2 b p)
      * if ((ends (row 0 x) (row 1 x)).1 (ix2 b 0) : EReal) < k0_pay7 (F := Ideal) (row 0 x) (row 1 x) (ix2 b p) then (1 : EReal) else 0)
    + (k0_pay5 (F := Ideal) (row 1 x) (ix2 b 0)
      - ∑ p : Fin 8732, if ((ends (row 0 x) (row 1 x)).1 (ix2 b 0) : EReal) < k0_pay7 (F := Ideal) (row 0 x) (row 1 x) (ix2 b p) then (1 : EReal) else 0)
        * (ends (row 0 x) (row 1 x)).1 (ix2 b 0)

include h hr in
theorem kern_eq : kern x b = ((Halving.sumAt (val x b) (want x b) (last x b).1 : ℝ) : EReal) := by
  unfold kern
  rw [(ends_has h hr).1, above_eq _ _ fun p => pay7_eq p hr, pay5_eq h, ← EReal.coe_sub, ← EReal.coe_mul]
  unfold Halving.sumAt
  rw [EReal.coe_add, ← coe_sum]
  refine congrArg (· + _) (Finset.sum_congr rfl fun p _ => ?_)
  rw [pay7_eq p hr]
  by_cases e : (last x b).1 < val x b p
  · rw [if_pos e, if_pos (EReal.coe_lt_coe_iff.2 e), EReal.coe_mul]; rfl
  · rw [if_neg e, if_neg (fun e' => e (EReal.coe_lt_coe_iff.1 e')), EReal.coe_mul]; rfl

variable (x) in
/-- The order of one image's losses, the largest first. -/
def falling (b : Fin 32) : Fin 8732 → Fin 8732 := order (Host.negf (F := Ideal) (rest x)) b

theorem neg_at (y : FVec Ideal S32x8732 .f32) (b : Fin 32) (p : Fin 8732) : (Host.negf (F := Ideal) y (ix2 b p) : EReal) = -(y (ix2 b p) : EReal) := by
  pointwise

include hr in
theorem falling_le (i j : Fin 8732) (e : i < j) : val x b (falling x b j) ≤ val x b (falling x b i) := by
  have l := FinalPost.order_le b (Host.negf (F := Ideal) (rest x)) i j e
  rw [neg_at, neg_at, EReal.neg_le_neg_iff, rest_eq _ hr, rest_eq _ hr] at l
  exact_mod_cast l

include h hr in
theorem hard_eq : hard x b = ((Halving.firstSum (want x b) (fun j => val x b (falling x b j)) : ℝ) : EReal) := by
  unfold hard Halving.firstSum
  rw [← coe_sum]
  refine Finset.sum_congr rfl fun p _ => ?_
  rw [FinalPost.sort_at, neg_at, neg_neg, want_eq h, rest_eq _ hr, EReal.coe_mul]
  congr 1
  by_cases e : (p.val : ℝ) < want x b
  · rw [if_pos e, if_pos (EReal.coe_lt_coe_iff.2 e)]; rfl
  · rw [if_neg e, if_neg (fun e' => e (EReal.coe_lt_coe_iff.1 e'))]; rfl

include hr in
theorem image_bounds : Halving.firstSum (want x b) (fun j => val x b (falling x b j)) ≤ Halving.sumAt (val x b) (want x b) (last x b).1
    ∧ Halving.sumAt (val x b) (want x b) (last x b).1 ≤ Halving.firstSum (want x b) (fun j => val x b (falling x b j)) + (8732 : ℕ) * (top x b / 2 ^ 46) :=
  Halving.sum_bounds (FinalPost.order_bijective b _) (falling_le hr) (last_ends hr) (K := 3 * count x b) rfl fun p => val_nonneg p hr

/-! ## An image with an infinite loss -/

/-- The upper end is infinite; the lower one has not moved, or is infinite too and nothing is wanted. -/
def Wide (st : FVec Ideal S32x1 .f32 × FVec Ideal S32x1 .f32) (b : Fin 32) (k : ℝ) : Prop :=
  (st.2 (ix2 b 0) : EReal) = ⊤ ∧ ((st.1 (ix2 b 0) : EReal) = 0 ∨ (st.1 (ix2 b 0) : EReal) = ⊤ ∧ k = 0)

theorem none_above (f : Fin 8732 → EReal) : (∑ p : Fin 8732, if (⊤ : EReal) < f p then (1 : EReal) else 0) = 0 :=
  Finset.sum_eq_zero fun p _ => if_neg not_top_lt

include h in
theorem trip_wide {st : FVec Ideal S32x1 .f32 × FVec Ideal S32x1 .f32} (e : Wide st b (want x b)) :
    Wide (trip (row 0 x) (row 1 x) st) b (want x b) := by
  obtain ⟨e2, e1⟩ := e
  have k0 : 0 ≤ want x b := Nat.cast_nonneg _
  have mid : (k0_pay10 (F := Ideal) st.1 st.2 (ix2 b 0) : EReal) = ⊤ := by
    rw [pay10_at, e2, half_eq]
    have half : (0 : ℝ) < 1 / 2 := by norm_num
    rcases e1 with e | ⟨e, _⟩
    · rw [e, zero_add, EReal.top_mul_coe_of_pos half]
    · rw [e, EReal.top_add_top, EReal.top_mul_coe_of_pos half]
  unfold trip Wide
  simp only [pay12_at, pay13_at]
  rw [pay11_at, mid, pay5_eq h, none_above, select_if, select_if, e2]
  by_cases k : want x b = 0
  · rw [k, EReal.coe_zero, if_pos le_rfl, if_pos le_rfl]; exact ⟨rfl, Or.inr ⟨rfl, rfl⟩⟩
  · have n : ¬ ((want x b : ℝ) : EReal) ≤ 0 := fun l => k (le_antisymm (by exact_mod_cast l) k0)
    rw [if_neg n, if_neg n]
    exact ⟨rfl, e1.imp id fun w => absurd w.2 k⟩

include h in
theorem ends_wide {q : Fin 8732} (hq : (rest x (ix2 b q) : EReal) = ⊤) : Wide (ends (row 0 x) (row 1 x)) b (want x b) := by
  have e : ∀ j : ℕ, Wide ((trip (row 0 x) (row 1 x))^[j] (k0_pay9 (F := Ideal), k0_pay8 (F := Ideal) (row 0 x) (row 1 x))) b (want x b) := by
    intro j
    induction j with
    | zero =>
      have f : (k0_pay8 (F := Ideal) (row 0 x) (row 1 x) (ix2 b 0) : EReal) = ⊤ := by
        rw [pay8_at, ← top_le_iff, Finset.le_fold_max]
        exact Or.inr ⟨q, Finset.mem_univ _, ((pay7_rest q).trans hq).ge⟩
      rw [Function.iterate_zero_apply]
      unfold Wide
      dsimp only
      rw [f, pay9_at]
      exact ⟨rfl, Or.inl rfl⟩
    | succ j ih => rw [Function.iterate_succ_apply']; exact trip_wide h ih
  exact e 46

include h in
theorem hard_nonneg : 0 ≤ hard x b := by
  unfold hard
  refine Finset.sum_nonneg fun p _ => ?_
  rw [FinalPost.sort_at, neg_at, neg_neg]
  refine mul_nonneg (rest_nonneg h b _) ?_
  split
  · exact zero_le_one
  · exact le_rfl

include h in
theorem hard_zero (k : want x b = 0) : hard x b = 0 := by
  unfold hard
  refine Finset.sum_eq_zero fun p _ => ?_
  have n : ¬ ((p.val : ℝ) : EReal) < Ideal.ofBits .f32 0x40400000#32 * marks x b := by
    rw [want_eq h, k, EReal.coe_lt_coe_iff, not_lt]
    exact Nat.cast_nonneg _
  rw [if_neg n, mul_zero]

include h in
theorem wide_le {q : Fin 8732} (hq : (rest x (ix2 b q) : EReal) = ⊤) : hard x b ≤ kern x b := by
  unfold kern
  rcases (ends_wide h hq).2 with e | ⟨e, k⟩
  · rw [e, mul_zero, add_zero]
    refine le_top.trans ?_
    have l := Finset.single_le_sum (f := fun p : Fin 8732 => (k0_pay7 (F := Ideal) (row 0 x) (row 1 x) (ix2 b p) : EReal)
      * if (0 : EReal) < k0_pay7 (F := Ideal) (row 0 x) (row 1 x) (ix2 b p) then (1 : EReal) else 0) (s := Finset.univ) (fun p _ => by
        refine mul_nonneg (by rw [pay7_rest]; exact rest_nonneg h b p) ?_
        split
        · exact zero_le_one
        · exact le_rfl) (Finset.mem_univ q)
    beta_reduce at l
    rw [pay7_rest, hq, if_pos EReal.zero_lt_top, mul_one] at l
    exact l
  · rw [e, hard_zero h k, none_above, pay5_eq h, k, EReal.coe_zero, sub_zero, zero_mul, add_zero]
    refine Finset.sum_nonneg fun p _ => ?_
    rw [if_neg not_top_lt, mul_zero]

include h in
theorem row_or : Row x b ∨ ∃ q, (rest x (ix2 b q) : EReal) = ⊤ := by
  by_cases e : ∃ q, (rest x (ix2 b q) : EReal) = ⊤
  · exact Or.inr e
  · exact Or.inl fun p => ⟨rest_nonneg h b p, lt_top_iff_ne_top.2 fun t => e ⟨p, t⟩⟩

include h in
theorem hard_le : hard x b ≤ kern x b := by
  rcases row_or h (b := b) with hr | ⟨q, hq⟩
  · rw [hard_eq h hr, kern_eq h hr, EReal.coe_le_coe_iff]; exact (image_bounds hr).1
  · exact wide_le h hq

/-! ## The largest loss -/

theorem le_largest (b : Fin 32) (p : Fin 8732) : (rest x (ix2 b p) : EReal) ≤ largest x := by
  unfold largest
  rw [Finset.le_fold_max]
  exact Or.inr ⟨(b, p), Finset.mem_univ _, le_rfl⟩

theorem largest_eq (hr : ∀ b, Row x b) : ∃ M : ℝ, largest x = ((M : ℝ) : EReal) ∧ 0 ≤ M ∧ ∀ b, top x b ≤ M := by
  have lt : largest x < ⊤ := by
    unfold largest
    rw [Finset.fold_max_lt]
    exact ⟨by rw [Spec.negInf]; exact bot_lt_top, fun k _ => (hr k.1 k.2).2⟩
  have z : 0 ≤ largest x := (hr 0 0).1.trans (le_largest 0 0)
  have e : largest x = (((largest x).toReal : ℝ) : EReal) := (EReal.coe_toReal lt.ne (ne_of_gt (lt_of_lt_of_le EReal.bot_lt_zero z))).symm
  refine ⟨(largest x).toReal, e, EReal.toReal_nonneg z, fun b => ?_⟩
  have g := le_largest (x := x) b (Spec.first fun p : Fin 8732 => (rest x (ix2 b p) : EReal))
  rw [rest_eq _ (hr b), e] at g
  exact_mod_cast g

/-! ## The loss -/

/-- The loss grows with the hard losses. -/
theorem loss_le (A C K S : EReal) (N : ℝ) (hN : 1 ≤ N) (hAC : A ≤ C) :
    Ideal.div (A + K) (N : EReal) + S ≤ Ideal.div (C + K) (N : EReal) + S := by
  have n0 : N ≠ 0 := by linarith
  have r0 : (0 : EReal) ≤ ((1 / N : ℝ) : EReal) := by
    have : 0 ≤ 1 / N := by positivity
    exact_mod_cast this
  rw [Ideal.div_coe n0, Ideal.div_coe n0]
  exact add_le_add (mul_le_mul_of_nonneg_right (add_le_add hAC le_rfl) r0) le_rfl

/-- Below an infinite bound, both losses are minus infinity or the bound says nothing. -/
theorem loss_le_top (A C K S : EReal) (N : ℝ) (hN : 1 ≤ N) (hA : 0 ≤ A) :
    Ideal.div (C + K) (N : EReal) + S ≤ Ideal.div (A + K) (N : EReal) + S + ⊤ := by
  have n0 : N ≠ 0 := by linarith
  have r0 : 0 < 1 / N := by positivity
  rw [Ideal.div_coe n0, Ideal.div_coe n0]
  by_cases hK : K = ⊥
  · rw [hK, EReal.add_bot, EReal.bot_mul_coe_of_pos r0, EReal.bot_add]; exact bot_le
  by_cases hS : S = ⊥
  · rw [hS, EReal.add_bot]; exact bot_le
  have a : (A + K) ≠ ⊥ := by
    intro e
    rcases EReal.add_eq_bot_iff.1 e with e | e
    · rw [e] at hA; exact absurd hA (not_le.2 EReal.bot_lt_zero)
    · exact hK e
  have m : (A + K) * ((1 / N : ℝ) : EReal) ≠ ⊥ := by
    generalize A + K = u at a
    induction u using EReal.rec with
    | bot => exact absurd rfl a
    | top => rw [EReal.top_mul_coe_of_pos r0]; exact top_ne_bot
    | coe u => rw [← EReal.coe_mul]; exact EReal.coe_ne_bot _
  have t : (A + K) * ((1 / N : ℝ) : EReal) + S ≠ ⊥ := fun e => (EReal.add_eq_bot_iff.1 e).elim m hS
  rw [EReal.add_top_of_ne_bot t]
  exact le_top

/-- The loss grows by no more than the hard losses. -/
theorem loss_add (A N c d : ℝ) (K S : EReal) (hN : 1 ≤ N) (h1 : A ≤ c) (h2 : c ≤ A + d) (hd : 0 ≤ d) :
    Ideal.div ((c : EReal) + K) (N : EReal) + S ≤ Ideal.div ((A : EReal) + K) (N : EReal) + S + (d : EReal) := by
  have n0 : N ≠ 0 := by linarith
  have r0 : 0 < 1 / N := by positivity
  have r1 : 1 / N ≤ 1 := by rw [div_le_one (by linarith)]; exact hN
  have d0 : (0 : EReal) ≤ (d : EReal) := by exact_mod_cast hd
  rw [Ideal.div_coe n0, Ideal.div_coe n0]
  induction K using EReal.rec with
  | bot => rw [EReal.add_bot, EReal.add_bot]; exact le_add_of_nonneg_right d0
  | top => rw [EReal.coe_add_top, EReal.coe_add_top]; exact le_add_of_nonneg_right d0
  | coe K =>
    rw [← EReal.coe_add, ← EReal.coe_add, ← EReal.coe_mul, ← EReal.coe_mul, add_right_comm, ← EReal.coe_add]
    refine add_le_add ?_ le_rfl
    rw [EReal.coe_le_coe_iff]
    nlinarith

theorem result_eq : (result x s (ix2 0 0) : EReal) = lossOf x s (∑ b, kern x b) := by
  unfold result lossOf kern
  rw [pay1_at, pay14_at, pay15_at, pay6_at]
  rfl

include h in
theorem upper_finite (hr : ∀ b, Row x b) :
    lossOf x s (∑ b, kern x b) ≤ lossOf x s (∑ b, hard x b) + largest x * Ideal.ofBits .f32 0x32000000#32 := by
  obtain ⟨M, hM, m0, hb⟩ := largest_eq hr
  have eh : (∑ b, hard x b) = ((∑ b, Halving.firstSum (want x b) (fun j => val x b (falling x b j)) : ℝ) : EReal) := by
    rw [← coe_sum]; exact Finset.sum_congr rfl fun b _ => hard_eq h (hr b)
  have ek : (∑ b, kern x b) = ((∑ b, Halving.sumAt (val x b) (want x b) (last x b).1 : ℝ) : EReal) := by
    rw [← coe_sum]; exact Finset.sum_congr rfl fun b _ => kern_eq h (hr b)
  have lo : (∑ b, Halving.firstSum (want x b) (fun j => val x b (falling x b j))) ≤ ∑ b, Halving.sumAt (val x b) (want x b) (last x b).1 :=
    Finset.sum_le_sum fun b _ => (image_bounds (hr b)).1
  have hi : (∑ b, Halving.sumAt (val x b) (want x b) (last x b).1)
      ≤ (∑ b, Halving.firstSum (want x b) (fun j => val x b (falling x b j))) + M * (1 / 2 ^ 27) := by
    have each (b : Fin 32) : Halving.sumAt (val x b) (want x b) (last x b).1
        ≤ Halving.firstSum (want x b) (fun j => val x b (falling x b j)) + 8732 * (M / 2 ^ 46) := by
      have a := (image_bounds (hr b)).2
      have c := hb b
      push_cast at a
      linarith
    have e := Finset.sum_le_sum fun b (_ : b ∈ (Finset.univ : Finset (Fin 32))) => each b
    rw [Finset.sum_add_distrib, Finset.sum_const, Finset.card_univ, Fintype.card_fin, nsmul_eq_mul] at e
    push_cast at e
    linarith
  rw [ek, eh, hM, small_eq, ← EReal.coe_mul]
  unfold lossOf
  rw [all_eq h]
  exact loss_add _ _ _ _ _ _ (one_le h) lo hi (by positivity)

include h in
theorem upper_infinite {b : Fin 32} {q : Fin 8732} (hq : (rest x (ix2 b q) : EReal) = ⊤) :
    lossOf x s (∑ b, kern x b) ≤ lossOf x s (∑ b, hard x b) + largest x * Ideal.ofBits .f32 0x32000000#32 := by
  have e : largest x = ⊤ := top_le_iff.1 (hq ▸ le_largest b q)
  rw [e, small_eq, EReal.top_mul_coe_of_pos (by positivity)]
  unfold lossOf
  rw [all_eq h]
  exact loss_le_top _ _ _ _ _ (one_le h) (Finset.sum_nonneg fun b _ => hard_nonneg h)

include h in
/-- The result is not below the loss by sorting, and above it by at most the largest unmarked loss over 2^27. -/
theorem close : lossOf x s (∑ b, hard x b) ≤ result x s (ix2 0 0)
    ∧ result x s (ix2 0 0) ≤ lossOf x s (∑ b, hard x b) + largest x * Ideal.ofBits .f32 0x32000000#32 := by
  rw [result_eq]
  constructor
  · unfold lossOf
    rw [all_eq h]
    exact loss_le _ _ _ _ _ (one_le h) (Finset.sum_le_sum fun b _ => hard_le h)
  · by_cases e : ∃ b q, (rest x (ix2 b q) : EReal) = ⊤
    · obtain ⟨b, q, hq⟩ := e
      exact upper_infinite h s hq
    · exact upper_finite h s fun b => (row_or h).resolve_right fun ⟨q, hq⟩ => e ⟨b, q, hq⟩

end Cert.FinalMath

end
-- ==== Proof.lean ====
/- The two calls of the kernel run to the end, leave their arguments as they were, and end with every counter at zero, as
   printed and at exact arithmetic; the main call's results are the reference's at exact arithmetic; and the second call's
   result there is the loss by sorting up to a small bound. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Final
public import proofs.«01_k».proof.Proof.Gen.Final.Skeleton
public import proofs.«01_k».proof.Proof.Gen.Final.Loops
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Loops
public import proofs.«01_k».proof.Proof.Gen.FinalIdeal.Launch
public import proofs.«01_k».proof.Proof.Gen.FinalIdeal.Points
public import proofs.«01_k».proof.Proof.Gen.FinalIdeal.Frame
public import proofs.«01_k».proof.Proof.KernelFrame
public import proofs.«01_k».proof.Proof.Results
public import proofs.«01_k».proof.Proof.Domain
public import proofs.«01_k».proof.Proof.RefReads
public import proofs.«01_k».proof.Proof.RefRun
public import proofs.«01_k».proof.Proof.FinalFacts
public import proofs.«01_k».proof.Proof.FinalRun
public import proofs.«01_k».proof.Proof.FinalMath
public import Idealize.ShloMosaic.Adequacy
public import Idealize.ShloMosaic.Init

@[expose] public section

set_option maxRecDepth 16384

noncomputable section

namespace Cert.Proof

open Idealize.ShloMosaic Idealize.ShloMosaic.TcCoe Idealize.SL.Sem

section Reference

open Cert.ReferenceIdeal Cert.ReferenceIdeal.Gen

variable (m : (ℓ : Loc nD τ sig) → Buf (Elt Ideal) ℓ)

/-- The reference's run: its arguments stay, its two results are the rows and the sum, every counter ends at zero. -/
theorem reference_run (g : Dev nD → PrngReg) :
    θ_run (defs (F := Ideal)) (onTc (τ := τ) (main (F := Ideal))) ⟨m, fun _ => 0, g⟩ fun r =>
      (∀ c : Dev nD, (r.2.mem ((c.tc : Thread nD τ).loc main_v185) = Ref.rRows (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v186) = Ref.rTotal (m ((c.tc : Thread nD τ).loc main_arg0)) (m ((c.tc : Thread nD τ).loc main_arg2)) (m ((c.tc : Thread nD τ).loc main_arg3)) (m ((c.tc : Thread nD τ).loc main_arg4)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 := by
  refine (θ_run (defs (F := Ideal)) _ _).mono (fun r h => ⟨fun c => ?_, sem_eq_zero_of_no_sems (by decide) r.2⟩) (Ref.run m g)
  have e (b : Ref sig .tc) : r.2.mem ((c.tc : Thread nD τ).loc b) = Ref.st12 (StableHlo.launchContents m c) (Proc.devRef .tc b) :=
    (h c b).trans (congrFun (Ref.after_ops _) _)
  exact ⟨⟨(e main_v185).trans (Ref.at12_v185 _), (e main_v186).trans (Ref.at12_v186 _)⟩, (e main_arg0).trans (Ref.at12_x0 _),
    (e main_arg1).trans (Ref.at12_x1 _), (e main_arg2).trans (Ref.at12_x2 _), (e main_arg3).trans (Ref.at12_x3 _), (e main_arg4).trans (Ref.at12_x4 _)⟩

theorem reference_frame : Cert.quiescent_ReferenceIdeal := fun m g _ =>
  (θ_run (defs (F := Ideal)) _ _).mono (fun _ h => ⟨fun c => (h.1 c).2, h.2⟩) (reference_run m g)

theorem reference_frame_pre : Cert.quiescent_ReferenceIdeal_pre_labels_in_range_scores_finite := fun m g _ =>
  reference_frame m g trivial

end Reference

section Kernel

open Cert.KernelIdeal Cert.KernelIdeal.Gen Cert.KernelIdeal.Launch Cert.KernelIdeal.Results

variable (m : (ℓ : Loc nD τ sig) → Buf (Elt Ideal) ℓ)

theorem kernel_frame : Cert.quiescent_KernelIdeal := fun m g _ =>
  (θ_run (defs (F := Ideal)) _ _).mono (fun _ h => ⟨args_of m h.1, h.2⟩) (run_main m g)

/-- The kernel's run under the condition: rows 0 and 1 of the first result and the whole second result are the reference's. -/
theorem kernel_run (g : Dev nD → PrngReg) (hpre : Cert.Pre_KernelIdeal_labels_in_range_scores_finite m) :
    θ_run (defs (F := Ideal)) (onTc (τ := τ) (main (F := Ideal))) ⟨m, fun _ => 0, g⟩ fun r => ∀ c : Dev nD,
      (∀ i : (⟨3, ![32, 8, 8732]⟩ : Shape).Idx, (Cert.On_rows_written.fn (F := Ideal) (a0 m c) (a1 m c) (a2 m c) (a3 m c) (a4 m c)).1 i = 1#1 →
        r.2.mem ((c.tc : Thread nD τ).loc main_v6_0) i = Cert.ReferenceIdeal.Ref.rRows (a1 m c) (a2 m c) (a3 m c) (a4 m c) i)
      ∧ r.2.mem ((c.tc : Thread nD τ).loc main_v6_1) = Cert.ReferenceIdeal.Ref.rTotal (a0 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ⟨fun i hi => ?_, (sum_of m h.1 c).trans (total m c _), args_of m h.1 c⟩) (run_main m g)
  obtain ⟨b, q, p, rfl⟩ : ∃ (b : Fin 32) (q : Fin 8) (p : Fin 8732), i = ix3 b q p := ⟨i 0, i 1, i 2, eq_ix3 i⟩
  have rows := rows_of m h.1 c ⟨b.val, Nat.lt_of_lt_of_eq b.isLt N_0.symm⟩ b rfl p
  rcases Cert.Domain.row _ _ _ _ _ b q p hi with rfl | rfl
  · obtain ⟨k, hk⟩ := Cert.Domain.word_class (a2 m c) (a3 m c) (a4 m c) (Cert.Domain.labels _ _ _ _ _ (hpre c).1) b p
    exact rows.1.trans (losses m c _ b rfl p k hk _ fun j => Cert.Domain.scores (a0 m c) (a1 m c) (a2 m c) (a3 m c) (a4 m c) (hpre c).2 (ix3 b p j))
  · exact rows.2.trans (marks m c _ b rfl p)

end Kernel

theorem algebraic : Cert.algebraic_KernelIdeal_ReferenceIdeal_on_rows_written_pre_labels_in_range_scores_finite := by
  intro m g m' g' hpre hagree
  refine ⟨fun c => Cert.ReferenceIdeal.Ref.rRows (Cert.KernelIdeal.Results.a1 m c) (Cert.KernelIdeal.Results.a2 m c) (Cert.KernelIdeal.Results.a3 m c) (Cert.KernelIdeal.Results.a4 m c),
    fun c => Cert.ReferenceIdeal.Ref.rTotal (Cert.KernelIdeal.Results.a0 m c) (Cert.KernelIdeal.Results.a2 m c) (Cert.KernelIdeal.Results.a3 m c) (Cert.KernelIdeal.Results.a4 m c), ?_, ?_⟩
  · refine (θ_run (Cert.KernelIdeal.defs (F := Ideal)) _ _).mono (fun r h c => ⟨(h c).1, fun i _ => congrFun (h c).2.1 i, (h c).2.2⟩) (kernel_run m g hpre)
  · refine (θ_run (Cert.ReferenceIdeal.defs (F := Ideal)) _ _).mono (fun r h c => ⟨fun i _ => congrFun ((h.1 c).1.1.trans ?_) i, fun i _ => congrFun ((h.1 c).1.2.trans ?_) i, (h.1 c).2⟩) (reference_run m' g')
    · rw [(hagree c).2.1, (hagree c).2.2.1, (hagree c).2.2.2.1, (hagree c).2.2.2.2]; rfl
    · rw [(hagree c).1, (hagree c).2.2.1, (hagree c).2.2.2.1, (hagree c).2.2.2.2]; rfl

/-- The second call's result is the loss by sorting, up to the bound. -/
theorem holds : Cert.holds_FinalIdeal_close_to_loss_pre_marks_and_losses := by
  intro m g hpre
  refine (θ_run (Cert.FinalIdeal.defs (F := Ideal)) _ _).mono (fun r h c => ⟨(h c).1, (h c).2.1, ?_⟩) (Cert.FinalIdeal.Run.run_result m g)
  have good : Cert.FinalMath.Good (Cert.FinalIdeal.Run.a0 m c) :=
    ⟨fun b p => Cert.FinalDomain.mark _ (Cert.FinalIdeal.Run.a1 m c) b p (hpre c).1,
      fun b p => Cert.FinalDomain.loss _ (Cert.FinalIdeal.Run.a1 m c) b p (hpre c).2.1,
      Cert.FinalDomain.some_mark _ (Cert.FinalIdeal.Run.a1 m c) (hpre c).2.2⟩
  have e := Cert.FinalMath.close good (Cert.FinalIdeal.Run.a1 m c)
  rw [(h c).2.2]
  exact Cert.FinalPost.close _ _ _ e.1 e.2

theorem claim : Cert.Claim := ⟨Cert.Kernel.Gen.facts, Cert.KernelIdeal.Gen.facts, Cert.ReferenceIdeal.Gen.facts, Cert.Final.Gen.facts, Cert.FinalIdeal.Gen.facts,
  Cert.Pre_labels_in_range_scores_finite.Gen.facts, Cert.FinalFacts.marks, Cert.FinalFacts.close, Cert.On_rows_written.Gen.facts,
  fun m g _ => Cert.Kernel.Run.frame m g, kernel_frame, fun m g _ => kernel_frame m g trivial,
  reference_frame, reference_frame_pre,
  fun m g _ => Cert.Final.Gen.frame m g, fun m g _ => Cert.FinalIdeal.Gen.frame m g, fun m g _ => Cert.FinalIdeal.Gen.frame m g, trivial, algebraic, trivial, holds⟩

end Cert.Proof

end
